-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)) (v3 : (c : Dev Cert.KernelIdeal.nD) → Buf (Elt Ideal) ((c.tc : Thread Cert.KernelIdeal.nD Cert.KernelIdeal.τ).loc Cert.KernelIdeal.main_v44_3)) (v4 : (c : Dev Cert.KernelIdeal.nD) → Buf (Elt Ideal) ((c.tc : Thread Cert.KernelIdeal.nD Cert.KernelIdeal.τ).loc Cert.KernelIdeal.main_v44_4)) (v5 : (c : Dev Cert.KernelIdeal.nD) → Buf (Elt Ideal) ((c.tc : Thread Cert.KernelIdeal.nD Cert.KernelIdeal.τ).loc Cert.KernelIdeal.main_v44_5)) (v6 : (c : Dev Cert.KernelIdeal.nD) → Buf (Elt Ideal) ((c.tc : Thread Cert.KernelIdeal.nD Cert.KernelIdeal.τ).loc Cert.KernelIdeal.main_v44_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_v44_3) = v3 c
          ∧ r.2.mem ((c.tc : Thread Cert.KernelIdeal.nD Cert.KernelIdeal.τ).loc Cert.KernelIdeal.main_v44_4) = v4 c
          ∧ r.2.mem ((c.tc : Thread Cert.KernelIdeal.nD Cert.KernelIdeal.τ).loc Cert.KernelIdeal.main_v44_5) = v5 c
          ∧ r.2.mem ((c.tc : Thread Cert.KernelIdeal.nD Cert.KernelIdeal.τ).loc Cert.KernelIdeal.main_v44_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_v142) = v2 c
          ∧ r.2.mem ((c.tc : Thread Cert.ReferenceIdeal.nD Cert.ReferenceIdeal.τ).loc Cert.ReferenceIdeal.main_v144) = v3 c
          ∧ r.2.mem ((c.tc : Thread Cert.ReferenceIdeal.nD Cert.ReferenceIdeal.τ).loc Cert.ReferenceIdeal.main_v146) = v4 c
          ∧ r.2.mem ((c.tc : Thread Cert.ReferenceIdeal.nD Cert.ReferenceIdeal.τ).loc Cert.ReferenceIdeal.main_v148) = v5 c
          ∧ r.2.mem ((c.tc : Thread Cert.ReferenceIdeal.nD Cert.ReferenceIdeal.τ).loc Cert.ReferenceIdeal.main_v150) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x1024 : Shape := ⟨3, ![4, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x3088 : Shape := ⟨3, ![1, 1024, 3088]⟩
abbrev S1x16x256 : Shape := ⟨3, ![1, 16, 256]⟩
abbrev S1x256 : Shape := ⟨2, ![1, 256]⟩
abbrev S1x1024x1024 : Shape := ⟨3, ![1, 1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2816 : S_.BroadcastsInDim S1x1024x2816 (![] : Fin 0 → Fin S1x1024x2816.rank)
  reducesTo_S1x1024x2816_S_d0_1_2 : S1x1024x2816.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1x1024x3088 : S_.BroadcastsInDim S1x1024x3088 (![] : Fin 0 → Fin S1x1024x3088.rank)
  reducesTo_S1x1024x3088_S_d0_1_2 : S1x1024x3088.ReducesTo [0, 1, 2] S_

variable [Facts]

def fn_part1 {F : FTy → Type} [FloatOps F] (main_arg4 : FVec F S1x2816x1024 .f32) (main_arg5 : FVec F S1x1024 .f32) (main_arg6 : FVec F S1x1024x3088 .f32) (main_v13 : IVec S_ 1) (main_v16 : IVec S1x1024x2816 1) : IVec S_ 1 :=
  let main_c_5 : IVec S_ 1 := constantI S_ 1 1#1
  let main_v17 : IVec S_ 1 := (fun x v => Host.reduce IntOp.andi x v reducesTo_S1x1024x2816_S_d0_1_2 h_S_) main_v16 main_c_5
  let main_v18 : IVec S_ 1 := andi main_v13 main_v17
  let main_v19 : FVec F S1x2816x1024 .f32 := Host.absf main_arg4
  let main_cst_6 : FVec F S_ .f32 := constant S_ .f32 0x7F800000#32
  let main_v20 : FVec F S1x2816x1024 .f32 := broadcastInDim S1x2816x1024 ![] bcast_S_S1x2816x1024 main_cst_6
  let main_v21 : IVec S1x2816x1024 1 := cmpf .olt main_v19 main_v20
  let main_c_7 : IVec S_ 1 := constantI S_ 1 1#1
  let main_v22 : IVec S_ 1 := (fun x v => Host.reduce IntOp.andi x v reducesTo_S1x2816x1024_S_d0_1_2 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x1024x3088 .f32 := Host.absf main_arg6
  let main_cst_10 : FVec F S_ .f32 := constant S_ .f32 0x7F800000#32
  let main_v30 : FVec F S1x1024x3088 .f32 := broadcastInDim S1x1024x3088 ![] bcast_S_S1x1024x3088 main_cst_10
  let main_v31 : IVec S1x1024x3088 1 := cmpf .olt main_v29 main_v30
  let main_c_11 : IVec S_ 1 := constantI S_ 1 1#1
  let main_v32 : IVec S_ 1 := (fun x v => Host.reduce IntOp.andi x v reducesTo_S1x1024x3088_S_d0_1_2 h_S_) main_v31 main_c_11
  let main_v33 : IVec S_ 1 := andi main_v28 main_v32
  main_v33

def fn {F : FTy → Type} [FloatOps F] (main_arg0 : FVec F S4x4096x1024 .f32) (main_arg1 : FVec F S1x1024 .f32) (main_arg2 : FVec F S1x1024x2816 .f32) (main_arg3 : FVec F S1x1024x2816 .f32) (main_arg4 : FVec F S1x2816x1024 .f32) (main_arg5 : FVec F S1x1024 .f32) (main_arg6 : FVec F S1x1024x3088 .f32) (main_arg7 : FVec F S1x16x256 .f32) (main_arg8 : FVec F S1x256 .f32) (main_arg9 : FVec F S1x1024x1024 .f32) (main_arg10 : FVec F S1x1024x2816 .f32) (main_arg11 : FVec F S1x1024x2816 .f32) (main_arg12 : FVec F S1x2816x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x2816 .f32 := Host.absf main_arg2
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_c_3 : IVec S_ 1 := constantI S_ 1 1#1
  let main_v12 : IVec S_ 1 := (fun x v => Host.reduce IntOp.andi x v reducesTo_S1x1024x2816_S_d0_1_2 h_S_) main_v11 main_c_3
  let main_v13 : IVec S_ 1 := andi main_v8 main_v12
  let main_v14 : FVec F S1x1024x2816 .f32 := Host.absf main_arg3
  let main_cst_4 : FVec F S_ .f32 := constant S_ .f32 0x7F800000#32
  let main_v15 : FVec F S1x1024x2816 .f32 := broadcastInDim S1x1024x2816 ![] bcast_S_S1x1024x2816 main_cst_4
  let main_v16 : IVec S1x1024x2816 1 := cmpf .olt main_v14 main_v15
  fn_part1 (F := F) main_arg4 main_arg5 main_arg6 main_v13 main_v16
-- ==== Kernel.lean ====
abbrev S4x4096x1024 : Shape := ⟨3, ![4, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x3088 : Shape := ⟨3, ![1, 1024, 3088]⟩
abbrev S1x16x256 : Shape := ⟨3, ![1, 16, 256]⟩
abbrev S1x256 : Shape := ⟨2, ![1, 256]⟩
abbrev S1x1024x1024 : Shape := ⟨3, ![1, 1024, 1024]⟩
abbrev S1x3088x1024 : Shape := ⟨3, ![1, 3088, 1024]⟩
abbrev S3088x1024 : Shape := ⟨2, ![3088, 1024]⟩
abbrev S16x256 : Shape := ⟨2, ![16, 256]⟩
abbrev S_ : Shape := ⟨0, ![]⟩
abbrev S128x256 : Shape := ⟨2, ![128, 256]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S128 : Shape := ⟨1, ![128]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S1x128 : Shape := ⟨2, ![1, 128]⟩
abbrev S16384x1024 : Shape := ⟨2, ![16384, 1024]⟩
abbrev S1024x1024 : Shape := ⟨2, ![1024, 1024]⟩
abbrev S1024x2816 : Shape := ⟨2, ![1024, 2816]⟩
abbrev S2816x1024 : Shape := ⟨2, ![2816, 1024]⟩
abbrev S16384x3072 : Shape := ⟨2, ![16384, 3072]⟩
abbrev S16384x256 : Shape := ⟨2, ![16384, 256]⟩
abbrev S512x1024 : Shape := ⟨2, ![512, 1024]⟩
abbrev S512x128 : Shape := ⟨2, ![512, 128]⟩
abbrev S32x1024 : Shape := ⟨2, ![32, 1024]⟩
abbrev S32x2816 : Shape := ⟨2, ![32, 2816]⟩
abbrev S176x1024 : Shape := ⟨2, ![176, 1024]⟩
abbrev S512x3072 : Shape := ⟨2, ![512, 3072]⟩
abbrev S512x256 : Shape := ⟨2, ![512, 256]⟩
abbrev S512x2816 : Shape := ⟨2, ![512, 2816]⟩
abbrev S3072x1024 : Shape := ⟨2, ![3072, 1024]⟩
abbrev S128x1024 : Shape := ⟨2, ![128, 1024]⟩
abbrev S6x128x2816 : Shape := ⟨3, ![6, 128, 2816]⟩
abbrev S6 : Shape := ⟨1, ![6]⟩
abbrev S1 : Shape := ⟨1, ![1]⟩
abbrev S1x128x2816 : Shape := ⟨3, ![1, 128, 2816]⟩
abbrev S128x2816 : Shape := ⟨2, ![128, 2816]⟩
abbrev S6x352x1024 : Shape := ⟨3, ![6, 352, 1024]⟩
abbrev S1x352x1024 : Shape := ⟨3, ![1, 352, 1024]⟩
abbrev S352x1024 : Shape := ⟨2, ![352, 1024]⟩
abbrev S6x384x1024 : Shape := ⟨3, ![6, 384, 1024]⟩
abbrev S1x384x1024 : Shape := ⟨3, ![1, 384, 1024]⟩
abbrev S384x1024 : Shape := ⟨2, ![384, 1024]⟩
abbrev S16x1024 : Shape := ⟨2, ![16, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S256x2816 : Shape := ⟨2, ![256, 2816]⟩
abbrev S256x128 : Shape := ⟨2, ![256, 128]⟩
abbrev S256x512 : Shape := ⟨2, ![256, 512]⟩
abbrev S1280x1024 : Shape := ⟨2, ![1280, 1024]⟩
abbrev S256x1280 : Shape := ⟨2, ![256, 1280]⟩
abbrev S256x768 : Shape := ⟨2, ![256, 768]⟩

abbrev nBuf : Space → Nat
  | .hbm => 95
  | .vmem => 43
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1x1024x3088, .f32⟩
  | .hbm, ⟨7, _⟩ => ⟨S1x16x256, .f32⟩
  | .hbm, ⟨8, _⟩ => ⟨S1x256, .f32⟩
  | .hbm, ⟨9, _⟩ => ⟨S1x1024x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S1x3088x1024, .f32⟩
  | .hbm, ⟨14, _⟩ => ⟨S3088x1024, .f32⟩
  | .hbm, ⟨15, _⟩ => ⟨S16x256, .f32⟩
  | .hbm, ⟨16, _⟩ => ⟨S_, .i32⟩
  | .hbm, ⟨17, _⟩ => ⟨S_, .f32⟩
  | .hbm, ⟨18, _⟩ => ⟨S128x256, .f32⟩
  | .hbm, ⟨19, _⟩ => ⟨S128x256, .bf16⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S4096, .f32⟩
  | .hbm, ⟨32, _⟩ => ⟨S4096x1, .f32⟩
  | .hbm, ⟨33, _⟩ => ⟨S1x32, .f32⟩
  | .hbm, ⟨34, _⟩ => ⟨S4096x32, .f32⟩
  | .hbm, ⟨35, _⟩ => ⟨S4096x32, .f32⟩
  | .hbm, ⟨36, _⟩ => ⟨S4096x32, .f32⟩
  | .hbm, ⟨37, _⟩ => ⟨S128, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i1⟩
  | .hbm, ⟨42, _⟩ => ⟨S_, .i32⟩
  | .hbm, ⟨43, _⟩ => ⟨S_, .i32⟩
  | .hbm, ⟨44, _⟩ => ⟨S128, .i32⟩
  | .hbm, ⟨45, _⟩ => ⟨S128, .i32⟩
  | .hbm, ⟨46, _⟩ => ⟨S_, .i32⟩
  | .hbm, ⟨47, _⟩ => ⟨S128, .i32⟩
  | .hbm, ⟨48, _⟩ => ⟨S128, .i1⟩
  | .hbm, ⟨49, _⟩ => ⟨S_, .i32⟩
  | .hbm, ⟨50, _⟩ => ⟨S128, .i32⟩
  | .hbm, ⟨51, _⟩ => ⟨S128, .i1⟩
  | .hbm, ⟨52, _⟩ => ⟨S_, .i32⟩
  | .hbm, ⟨53, _⟩ => ⟨S_, .i1⟩
  | .hbm, ⟨54, _⟩ => ⟨S128, .i1⟩
  | .hbm, ⟨55, _⟩ => ⟨S128, .i1⟩
  | .hbm, ⟨56, _⟩ => ⟨S128, .i1⟩
  | .hbm, ⟨57, _⟩ => ⟨S128, .i32⟩
  | .hbm, ⟨58, _⟩ => ⟨S128, .i32⟩
  | .hbm, ⟨59, _⟩ => ⟨S128, .i32⟩
  | .hbm, ⟨60, _⟩ => ⟨S_, .i32⟩
  | .hbm, ⟨61, _⟩ => ⟨S128, .i32⟩
  | .hbm, ⟨62, _⟩ => ⟨S128, .i1⟩
  | .hbm, ⟨63, _⟩ => ⟨S_, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S4096x32, .f32⟩
  | .hbm, ⟨69, _⟩ => ⟨S1x4096x1x32, .f32⟩
  | .hbm, ⟨70, _⟩ => ⟨S1x4096x4x32, .f32⟩
  | .hbm, ⟨71, _⟩ => ⟨S4096x128, .f32⟩
  | .hbm, ⟨72, _⟩ => ⟨S4096x32, .f32⟩
  | .hbm, ⟨73, _⟩ => ⟨S1x4096x1x32, .f32⟩
  | .hbm, ⟨74, _⟩ => ⟨S1x4096x4x32, .f32⟩
  | .hbm, ⟨75, _⟩ => ⟨S4096x128, .f32⟩
  | .hbm, ⟨76, _⟩ => ⟨S1x128, .f32⟩
  | .hbm, ⟨77, _⟩ => ⟨S1x128, .f32⟩
  | .hbm, ⟨78, _⟩ => ⟨S4096x128, .f32⟩
  | .hbm, ⟨79, _⟩ => ⟨S4096x128, .f32⟩
  | .hbm, ⟨80, _⟩ => ⟨S16384x1024, .f32⟩
  | .hbm, ⟨81, _⟩ => ⟨S1024x1024, .f32⟩
  | .hbm, ⟨82, _⟩ => ⟨S1024x2816, .f32⟩
  | .hbm, ⟨83, _⟩ => ⟨S1024x2816, .f32⟩
  | .hbm, ⟨84, _⟩ => ⟨S2816x1024, .f32⟩
  | .hbm, ⟨85, _⟩ => ⟨S1024x2816, .f32⟩
  | .hbm, ⟨86, _⟩ => ⟨S1024x2816, .f32⟩
  | .hbm, ⟨87, _⟩ => ⟨S2816x1024, .f32⟩
  | .hbm, ⟨88, _⟩ => ⟨S16384x1024, .f32⟩
  | .hbm, ⟨89, _⟩ => ⟨S16384x3072, .bf16⟩
  | .hbm, ⟨90, _⟩ => ⟨S16384x256, .f32⟩
  | .hbm, ⟨91, _⟩ => ⟨S1024x1024, .bf16⟩
  | .hbm, ⟨92, _⟩ => ⟨S1024x2816, .bf16⟩
  | .hbm, ⟨93, _⟩ => ⟨S1024x2816, .bf16⟩
  | .hbm, ⟨94, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x1024, .f32⟩
  | .local _ .vmem, ⟨7, _⟩ => ⟨S1x1024, .f32⟩
  | .local _ .vmem, ⟨8, _⟩ => ⟨S128x256, .bf16⟩
  | .local _ .vmem, ⟨9, _⟩ => ⟨S1x256, .f32⟩
  | .local _ .vmem, ⟨10, _⟩ => ⟨S32x1024, .f32⟩
  | .local _ .vmem, ⟨11, _⟩ => ⟨S32x1024, .f32⟩
  | .local _ .vmem, ⟨12, _⟩ => ⟨S32x2816, .f32⟩
  | .local _ .vmem, ⟨13, _⟩ => ⟨S32x2816, .f32⟩
  | .local _ .vmem, ⟨14, _⟩ => ⟨S32x2816, .f32⟩
  | .local _ .vmem, ⟨15, _⟩ => ⟨S32x2816, .f32⟩
  | .local _ .vmem, ⟨16, _⟩ => ⟨S176x1024, .f32⟩
  | .local _ .vmem, ⟨17, _⟩ => ⟨S176x1024, .f32⟩
  | .local _ .vmem, ⟨18, _⟩ => ⟨S512x1024, .f32⟩
  | .local _ .vmem, ⟨19, _⟩ => ⟨S512x1024, .f32⟩
  | .local _ .vmem, ⟨20, _⟩ => ⟨S512x3072, .bf16⟩
  | .local _ .vmem, ⟨21, _⟩ => ⟨S512x3072, .bf16⟩
  | .local _ .vmem, ⟨22, _⟩ => ⟨S512x256, .f32⟩
  | .local _ .vmem, ⟨23, _⟩ => ⟨S512x256, .f32⟩
  | .local _ .vmem, ⟨24, _⟩ => ⟨S32x1024, .bf16⟩
  | .local _ .vmem, ⟨25, _⟩ => ⟨S32x1024, .bf16⟩
  | .local _ .vmem, ⟨26, _⟩ => ⟨S32x2816, .bf16⟩
  | .local _ .vmem, ⟨27, _⟩ => ⟨S32x2816, .bf16⟩
  | .local _ .vmem, ⟨28, _⟩ => ⟨S32x2816, .bf16⟩
  | .local _ .vmem, ⟨29, _⟩ => ⟨S32x2816, .bf16⟩
  | .local _ .vmem, ⟨30, _⟩ => ⟨S176x1024, .bf16⟩
  | .local _ .vmem, ⟨31, _⟩ => ⟨S176x1024, .bf16⟩
  | .local _ .vmem, ⟨32, _⟩ => ⟨S512x2816, .bf16⟩
  | .local _ .vmem, ⟨33, _⟩ => ⟨S1024x2816, .bf16⟩
  | .local _ .vmem, ⟨34, _⟩ => ⟨S1024x2816, .bf16⟩
  | .local _ .vmem, ⟨35, _⟩ => ⟨S2816x1024, .bf16⟩
  | .local _ .vmem, ⟨36, _⟩ => ⟨S3072x1024, .bf16⟩
  | .local _ .vmem, ⟨37, _⟩ => ⟨S128x1024, .bf16⟩
  | .local _ .vmem, ⟨38, _⟩ => ⟨S6x128x2816, .f32⟩
  | .local _ .vmem, ⟨39, _⟩ => ⟨S6x128x2816, .f32⟩
  | .local _ .vmem, ⟨40, _⟩ => ⟨S6x352x1024, .f32⟩
  | .local _ .vmem, ⟨41, _⟩ => ⟨S6x384x1024, .f32⟩
  | .local _ .vmem, ⟨42, _⟩ => ⟨S16x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_call0_v0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_2 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_v5 : Ref sig .tc := ⟨.hbm, 47, rfl⟩
abbrev main_call1_v6 : Ref sig .tc := ⟨.hbm, 48, rfl⟩
abbrev main_call1_c_2 : Ref sig .tc := ⟨.hbm, 49, rfl⟩
abbrev main_call1_v7 : Ref sig .tc := ⟨.hbm, 50, rfl⟩
abbrev main_call1_v8 : Ref sig .tc := ⟨.hbm, 51, rfl⟩
abbrev main_call1_c_3 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_v20 : Ref sig .tc := ⟨.hbm, 59, rfl⟩
abbrev main_c_3 : Ref sig .tc := ⟨.hbm, 60, rfl⟩
abbrev main_v21 : Ref sig .tc := ⟨.hbm, 61, rfl⟩
abbrev main_v22 : Ref sig .tc := ⟨.hbm, 62, rfl⟩
abbrev main_cst_4 : Ref sig .tc := ⟨.hbm, 63, rfl⟩
abbrev main_cst_5 : Ref sig .tc := ⟨.hbm, 64, rfl⟩
abbrev main_call2_v0 : Ref sig .tc := ⟨.hbm, 65, rfl⟩
abbrev main_call2_v1 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44_0 : Ref sig .tc := ⟨.hbm, 88, rfl⟩
abbrev main_v44_1 : Ref sig .tc := ⟨.hbm, 89, rfl⟩
abbrev main_v44_2 : Ref sig .tc := ⟨.hbm, 90, rfl⟩
abbrev main_v44_3 : Ref sig .tc := ⟨.hbm, 91, rfl⟩
abbrev main_v44_4 : Ref sig .tc := ⟨.hbm, 92, rfl⟩
abbrev main_v44_5 : Ref sig .tc := ⟨.hbm, 93, rfl⟩
abbrev main_v44_6 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scoped0 : Ref sig .tc := ⟨.vmem, 38, rfl⟩
abbrev cc0_scoped2 : Ref sig .tc := ⟨.vmem, 39, rfl⟩
abbrev cc0_scoped4 : Ref sig .tc := ⟨.vmem, 40, rfl⟩
abbrev cc0_scoped6 : Ref sig .tc := ⟨.vmem, 41, rfl⟩
abbrev cc0_scoped8 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_407_r0 : BitVec 32 := 0#32
  let c8_i32_r0 : BitVec 32 := 8#32
  let v677_r0 : BitVec 32 := Scalar.addi c0_i32_407_r0 c8_i32_r0
  let c1_i32_408_r0 : BitVec 32 := 1#32
  ⟨c0_i32_407_r0, v677_r0, c1_i32_408_r0⟩
def k0_cond2 (k0_t1 : Fin k0_t1_loop.trips) : BitVec 1 :=
  let c0_i32_407_r0 : BitVec 32 := 0#32
  let c1_i32_408_r0 : BitVec 32 := 1#32
  let arg29_r0 : BitVec 32 := Scf.iv c0_i32_407_r0 c1_i32_408_r0 k0_t1
  let c6_i32_r0 : BitVec 32 := 6#32
  let v678_r0 : BitVec 32 := Scalar.addi arg29_r0 c6_i32_r0
  let c1_i32_410_r0 : BitVec 32 := 1#32
  let v679_r0 : BitVec 32 := Scalar.subi v678_r0 c1_i32_410_r0
  let c8_i32_411_r0 : BitVec 32 := 8#32
  let v680_r0 : BitVec 1 := Scalar.cmpi .slt v679_r0 c8_i32_411_r0
  let v681_r0 : BitVec 32 := Scalar.extui v680_r0
  let c0_i32_412_r0 : BitVec 32 := 0#32
  let v682_r0 : BitVec 1 := Scalar.cmpi .ne v681_r0 c0_i32_412_r0
  v682_r0

def k0_off1 (k0_t1 : Fin k0_t1_loop.trips) : Fin 1 → Nat :=
  let c0_i32_407_r0 : BitVec 32 := 0#32
  let c1_i32_408_r0 : BitVec 32 := 1#32
  let arg29_r0 : BitVec 32 := Scf.iv c0_i32_407_r0 c1_i32_408_r0 k0_t1
  let c6_i32_433_r0 : BitVec 32 := 6#32
  let v719_r0 : BitVec 32 := Scalar.addi arg29_r0 c6_i32_433_r0
  let c1_i32_434_r0 : BitVec 32 := 1#32
  let v720_r0 : BitVec 32 := Scalar.subi v719_r0 c1_i32_434_r0
  let c6_i32_435_r0 : BitVec 32 := 6#32
  let c0_i32_436_r0 : BitVec 32 := 0#32
  let v721_r0 : BitVec 1 := Scalar.cmpi .eq c6_i32_435_r0 c0_i32_436_r0
  let c1_i32_437_r0 : BitVec 32 := 1#32
  let v722_r0 : BitVec 32 := Scalar.select v721_r0 c1_i32_437_r0 c6_i32_435_r0
  let v723_r0 : BitVec 32 := Scalar.remsi v720_r0 v722_r0
  let c0_i32_439_r0 : BitVec 32 := 0#32
  let v725_r0 : BitVec 1 := Scalar.cmpi .slt v723_r0 c0_i32_439_r0
  let c0_i32_440_r0 : BitVec 32 := 0#32
  let v726_r0 : BitVec 1 := Scalar.cmpi .slt v722_r0 c0_i32_440_r0
  let v727_r0 : BitVec 1 := Scalar.xori v725_r0 v726_r0
  let c0_i32_438_r0 : BitVec 32 := 0#32
  let v724_r0 : BitVec 1 := Scalar.cmpi .ne v723_r0 c0_i32_438_r0
  let v728_r0 : BitVec 1 := Scalar.andi v727_r0 v724_r0
  let v729_r0 : BitVec 32 := Scalar.addi v723_r0 v722_r0
  let v730_r0 : BitVec 32 := Scalar.select v728_r0 v729_r0 v723_r0
  ![v730_r0.toNat]
def k0_off2 (k0_t1 : Fin k0_t1_loop.trips) : Fin 3 → Nat :=
  let c0_i32_407_r0 : BitVec 32 := 0#32
  let c1_i32_408_r0 : BitVec 32 := 1#32
  let arg29_r0 : BitVec 32 := Scf.iv c0_i32_407_r0 c1_i32_408_r0 k0_t1
  let c6_i32_433_r0 : BitVec 32 := 6#32
  let v719_r0 : BitVec 32 := Scalar.addi arg29_r0 c6_i32_433_r0
  let c1_i32_434_r0 : BitVec 32 := 1#32
  let v720_r0 : BitVec 32 := Scalar.subi v719_r0 c1_i32_434_r0
  let c6_i32_435_r0 : BitVec 32 := 6#32
  let c0_i32_436_r0 : BitVec 32 := 0#32
  let v721_r0 : BitVec 1 := Scalar.cmpi .eq c6_i32_435_r0 c0_i32_436_r0
  let c1_i32_437_r0 : BitVec 32 := 1#32
  let v722_r0 : BitVec 32 := Scalar.select v721_r0 c1_i32_437_r0 c6_i32_435_r0
  let v723_r0 : BitVec 32 := Scalar.remsi v720_r0 v722_r0
  let c0_i32_439_r0 : BitVec 32 := 0#32
  let v725_r0 : BitVec 1 := Scalar.cmpi .slt v723_r0 c0_i32_439_r0
  let c0_i32_440_r0 : BitVec 32 := 0#32
  let v726_r0 : BitVec 1 := Scalar.cmpi .slt v722_r0 c0_i32_440_r0
  let v727_r0 : BitVec 1 := Scalar.xori v725_r0 v726_r0
  let c0_i32_438_r0 : BitVec 32 := 0#32
  let v724_r0 : BitVec 1 := Scalar.cmpi .ne v723_r0 c0_i32_438_r0
  let v728_r0 : BitVec 1 := Scalar.andi v727_r0 v724_r0
  let v729_r0 : BitVec 32 := Scalar.addi v723_r0 v722_r0
  let v730_r0 : BitVec 32 := Scalar.select v728_r0 v729_r0 v723_r0
  let c0_i32_442_r0 : BitVec 32 := 0#32
  let c0_i32_443_r0 : BitVec 32 := 0#32
  ![v730_r0.toNat, 0, 0]
def k0_off3 (k0_t1 : Fin k0_t1_loop.trips) : Fin 2 → Nat :=
  let c0_i32_407_r0 : BitVec 32 := 0#32
  let c1_i32_408_r0 : BitVec 32 := 1#32
  let arg29_r0 : BitVec 32 := Scf.iv c0_i32_407_r0 c1_i32_408_r0 k0_t1
  let c6_i32_433_r0 : BitVec 32 := 6#32
  let v719_r0 : BitVec 32 := Scalar.addi arg29_r0 c6_i32_433_r0
  let c1_i32_434_r0 : BitVec 32 := 1#32
  let v720_r0 : BitVec 32 := Scalar.subi v719_r0 c1_i32_434_r0
  let c128_i32_441_r0 : BitVec 32 := 128#32
  let v731_r0 : BitVec 32 := Scalar.muli v720_r0 c128_i32_441_r0
  let c0_i32_444_r0 : BitVec 32 := 0#32
  ![v731_r0.toNat, 0]
def k0_off4 (k0_t1 : Fin k0_t1_loop.trips) : Fin 1 → Nat :=
  let c0_i32_407_r0 : BitVec 32 := 0#32
  let c1_i32_408_r0 : BitVec 32 := 1#32
  let arg29_r0 : BitVec 32 := Scf.iv c0_i32_407_r0 c1_i32_408_r0 k0_t1
  let c6_i32_413_r0 : BitVec 32 := 6#32
  let c0_i32_414_r0 : BitVec 32 := 0#32
  let v683_r0 : BitVec 1 := Scalar.cmpi .eq c6_i32_413_r0 c0_i32_414_r0
  let c1_i32_415_r0 : BitVec 32 := 1#32
  let v684_r0 : BitVec 32 := Scalar.select v683_r0 c1_i32_415_r0 c6_i32_413_r0
  let v685_r0 : BitVec 32 := Scalar.remsi arg29_r0 v684_r0
  let c0_i32_417_r0 : BitVec 32 := 0#32
  let v687_r0 : BitVec 1 := Scalar.cmpi .slt v685_r0 c0_i32_417_r0
  let c0_i32_418_r0 : BitVec 32 := 0#32
  let v688_r0 : BitVec 1 := Scalar.cmpi .slt v684_r0 c0_i32_418_r0
  let v689_r0 : BitVec 1 := Scalar.xori v687_r0 v688_r0
  let c0_i32_416_r0 : BitVec 32 := 0#32
  let v686_r0 : BitVec 1 := Scalar.cmpi .ne v685_r0 c0_i32_416_r0
  let v690_r0 : BitVec 1 := Scalar.andi v689_r0 v686_r0
  let v691_r0 : BitVec 32 := Scalar.addi v685_r0 v684_r0
  let v692_r0 : BitVec 32 := Scalar.select v690_r0 v691_r0 v685_r0
  ![v692_r0.toNat]
def k0_off5 (k0_t1 : Fin k0_t1_loop.trips) : Fin 3 → Nat :=
  let c0_i32_407_r0 : BitVec 32 := 0#32
  let c1_i32_408_r0 : BitVec 32 := 1#32
  let arg29_r0 : BitVec 32 := Scf.iv c0_i32_407_r0 c1_i32_408_r0 k0_t1
  let c6_i32_413_r0 : BitVec 32 := 6#32
  let c0_i32_414_r0 : BitVec 32 := 0#32
  let v683_r0 : BitVec 1 := Scalar.cmpi .eq c6_i32_413_r0 c0_i32_414_r0
  let c1_i32_415_r0 : BitVec 32 := 1#32
  let v684_r0 : BitVec 32 := Scalar.select v683_r0 c1_i32_415_r0 c6_i32_413_r0
  let v685_r0 : BitVec 32 := Scalar.remsi arg29_r0 v684_r0
  let c0_i32_417_r0 : BitVec 32 := 0#32
  let v687_r0 : BitVec 1 := Scalar.cmpi .slt v685_r0 c0_i32_417_r0
  let c0_i32_418_r0 : BitVec 32 := 0#32
  let v688_r0 : BitVec 1 := Scalar.cmpi .slt v684_r0 c0_i32_418_r0
  let v689_r0 : BitVec 1 := Scalar.xori v687_r0 v688_r0
  let c0_i32_416_r0 : BitVec 32 := 0#32
  let v686_r0 : BitVec 1 := Scalar.cmpi .ne v685_r0 c0_i32_416_r0
  let v690_r0 : BitVec 1 := Scalar.andi v689_r0 v686_r0
  let v691_r0 : BitVec 32 := Scalar.addi v685_r0 v684_r0
  let v692_r0 : BitVec 32 := Scalar.select v690_r0 v691_r0 v685_r0
  let c0_i32_420_r0 : BitVec 32 := 0#32
  let c0_i32_421_r0 : BitVec 32 := 0#32
  ![v692_r0.toNat, 0, 0]
def k0_off6 (k0_t1 : Fin k0_t1_loop.trips) : Fin 2 → Nat :=
  let c0_i32_407_r0 : BitVec 32 := 0#32
  let c1_i32_408_r0 : BitVec 32 := 1#32
  let arg29_r0 : BitVec 32 := Scf.iv c0_i32_407_r0 c1_i32_408_r0 k0_t1
  let c128_i32_419_r0 : BitVec 32 := 128#32
  let v693_r0 : BitVec 32 := Scalar.muli arg29_r0 c128_i32_419_r0
  let c0_i32_422_r0 : BitVec 32 := 0#32
  ![v693_r0.toNat, 0]
def k0_mult1 (k0_t1 : Fin k0_t1_loop.trips) : BitVec 32 :=
  let c0_i32_407_r0 : BitVec 32 := 0#32
  let c1_i32_408_r0 : BitVec 32 := 1#32
  let arg29_r0 : BitVec 32 := Scf.iv c0_i32_407_r0 c1_i32_408_r0 k0_t1
  let c128_i32_423_r0 : BitVec 32 := 128#32
  let v699_r0 : BitVec 32 := Scalar.muli arg29_r0 c128_i32_423_r0
  v699_r0
def k0_off7 (k0_t1 : Fin k0_t1_loop.trips) : Fin 3 → Nat :=
  let c0_i32_407_r0 : BitVec 32 := 0#32
  let c1_i32_408_r0 : BitVec 32 := 1#32
  let arg29_r0 : BitVec 32 := Scf.iv c0_i32_407_r0 c1_i32_408_r0 k0_t1
  let c6_i32_424_r0 : BitVec 32 := 6#32
  let c0_i32_425_r0 : BitVec 32 := 0#32
  let v701_r0 : BitVec 1 := Scalar.cmpi .eq c6_i32_424_r0 c0_i32_425_r0
  let c1_i32_426_r0 : BitVec 32 := 1#32
  let v702_r0 : BitVec 32 := Scalar.select v701_r0 c1_i32_426_r0 c6_i32_424_r0
  let v703_r0 : BitVec 32 := Scalar.remsi arg29_r0 v702_r0
  let c0_i32_428_r0 : BitVec 32 := 0#32
  let v705_r0 : BitVec 1 := Scalar.cmpi .slt v703_r0 c0_i32_428_r0
  let c0_i32_429_r0 : BitVec 32 := 0#32
  let v706_r0 : BitVec 1 := Scalar.cmpi .slt v702_r0 c0_i32_429_r0
  let v707_r0 : BitVec 1 := Scalar.xori v705_r0 v706_r0
  let c0_i32_427_r0 : BitVec 32 := 0#32
  let v704_r0 : BitVec 1 := Scalar.cmpi .ne v703_r0 c0_i32_427_r0
  let v708_r0 : BitVec 1 := Scalar.andi v707_r0 v704_r0
  let v709_r0 : BitVec 32 := Scalar.addi v703_r0 v702_r0
  let v710_r0 : BitVec 32 := Scalar.select v708_r0 v709_r0 v703_r0
  let v711_r0 : Index := Scalar.indexCast v710_r0
  let c0_430_r0 : Index := 0#32
  let c0_431_r0 : Index := 0#32
  ![v711_r0.toNat, 0, 0]
def k0_off8 (k0_t1 : Fin k0_t1_loop.trips) : Fin 2 → Nat :=
  let c0_i32_407_r0 : BitVec 32 := 0#32
  let c1_i32_408_r0 : BitVec 32 := 1#32
  let arg29_r0 : BitVec 32 := Scf.iv c0_i32_407_r0 c1_i32_408_r0 k0_t1
  let c128_i32_423_r0 : BitVec 32 := 128#32
  let v699_r0 : BitVec 32 := Scalar.muli arg29_r0 c128_i32_423_r0
  let v700_r0 : BitVec 32 := v699_r0
  let v715_r0 : Index := Scalar.indexCast v700_r0
  let c0_432_r0 : Index := 0#32
  ![v715_r0.toNat, 0]
@[reducible] def k0_t2_loop : Scf.Loop 32 :=
  let c0_i32_407_r1 : BitVec 32 := 0#32
  let c8_i32_r1 : BitVec 32 := 8#32
  let v677_r1 : BitVec 32 := Scalar.addi c0_i32_407_r1 c8_i32_r1
  let c1_i32_408_r1 : BitVec 32 := 1#32
  ⟨c0_i32_407_r1, v677_r1, c1_i32_408_r1⟩
def k0_cond3 (k0_t2 : Fin k0_t2_loop.trips) : BitVec 1 :=
  let c0_i32_407_r1 : BitVec 32 := 0#32
  let c1_i32_408_r1 : BitVec 32 := 1#32
  let arg29_r1 : BitVec 32 := Scf.iv c0_i32_407_r1 c1_i32_408_r1 k0_t2
  let c6_i32_r1 : BitVec 32 := 6#32
  let v678_r1 : BitVec 32 := Scalar.addi arg29_r1 c6_i32_r1
  let c1_i32_410_r1 : BitVec 32 := 1#32
  let v679_r1 : BitVec 32 := Scalar.subi v678_r1 c1_i32_410_r1
  let c8_i32_411_r1 : BitVec 32 := 8#32
  let v680_r1 : BitVec 1 := Scalar.cmpi .slt v679_r1 c8_i32_411_r1
  let v681_r1 : BitVec 32 := Scalar.extui v680_r1
  let c0_i32_412_r1 : BitVec 32 := 0#32
  let v682_r1 : BitVec 1 := Scalar.cmpi .ne v681_r1 c0_i32_412_r1
  v682_r1

def k0_off9 (k0_t2 : Fin k0_t2_loop.trips) : Fin 1 → Nat :=
  let c0_i32_407_r1 : BitVec 32 := 0#32
  let c1_i32_408_r1 : BitVec 32 := 1#32
  let arg29_r1 : BitVec 32 := Scf.iv c0_i32_407_r1 c1_i32_408_r1 k0_t2
  let c6_i32_433_r1 : BitVec 32 := 6#32
  let v719_r1 : BitVec 32 := Scalar.addi arg29_r1 c6_i32_433_r1
  let c1_i32_434_r1 : BitVec 32 := 1#32
  let v720_r1 : BitVec 32 := Scalar.subi v719_r1 c1_i32_434_r1
  let c6_i32_435_r1 : BitVec 32 := 6#32
  let c0_i32_436_r1 : BitVec 32 := 0#32
  let v721_r1 : BitVec 1 := Scalar.cmpi .eq c6_i32_435_r1 c0_i32_436_r1
  let c1_i32_437_r1 : BitVec 32 := 1#32
  let v722_r1 : BitVec 32 := Scalar.select v721_r1 c1_i32_437_r1 c6_i32_435_r1
  let v723_r1 : BitVec 32 := Scalar.remsi v720_r1 v722_r1
  let c0_i32_439_r1 : BitVec 32 := 0#32
  let v725_r1 : BitVec 1 := Scalar.cmpi .slt v723_r1 c0_i32_439_r1
  let c0_i32_440_r1 : BitVec 32 := 0#32
  let v726_r1 : BitVec 1 := Scalar.cmpi .slt v722_r1 c0_i32_440_r1
  let v727_r1 : BitVec 1 := Scalar.xori v725_r1 v726_r1
  let c0_i32_438_r1 : BitVec 32 := 0#32
  let v724_r1 : BitVec 1 := Scalar.cmpi .ne v723_r1 c0_i32_438_r1
  let v728_r1 : BitVec 1 := Scalar.andi v727_r1 v724_r1
  let v729_r1 : BitVec 32 := Scalar.addi v723_r1 v722_r1
  let v730_r1 : BitVec 32 := Scalar.select v728_r1 v729_r1 v723_r1
  ![v730_r1.toNat]
def k0_off10 (k0_t2 : Fin k0_t2_loop.trips) : Fin 3 → Nat :=
  let c0_i32_407_r1 : BitVec 32 := 0#32
  let c1_i32_408_r1 : BitVec 32 := 1#32
  let arg29_r1 : BitVec 32 := Scf.iv c0_i32_407_r1 c1_i32_408_r1 k0_t2
  let c6_i32_433_r1 : BitVec 32 := 6#32
  let v719_r1 : BitVec 32 := Scalar.addi arg29_r1 c6_i32_433_r1
  let c1_i32_434_r1 : BitVec 32 := 1#32
  let v720_r1 : BitVec 32 := Scalar.subi v719_r1 c1_i32_434_r1
  let c6_i32_435_r1 : BitVec 32 := 6#32
  let c0_i32_436_r1 : BitVec 32 := 0#32
  let v721_r1 : BitVec 1 := Scalar.cmpi .eq c6_i32_435_r1 c0_i32_436_r1
  let c1_i32_437_r1 : BitVec 32 := 1#32
  let v722_r1 : BitVec 32 := Scalar.select v721_r1 c1_i32_437_r1 c6_i32_435_r1
  let v723_r1 : BitVec 32 := Scalar.remsi v720_r1 v722_r1
  let c0_i32_439_r1 : BitVec 32 := 0#32
  let v725_r1 : BitVec 1 := Scalar.cmpi .slt v723_r1 c0_i32_439_r1
  let c0_i32_440_r1 : BitVec 32 := 0#32
  let v726_r1 : BitVec 1 := Scalar.cmpi .slt v722_r1 c0_i32_440_r1
  let v727_r1 : BitVec 1 := Scalar.xori v725_r1 v726_r1
  let c0_i32_438_r1 : BitVec 32 := 0#32
  let v724_r1 : BitVec 1 := Scalar.cmpi .ne v723_r1 c0_i32_438_r1
  let v728_r1 : BitVec 1 := Scalar.andi v727_r1 v724_r1
  let v729_r1 : BitVec 32 := Scalar.addi v723_r1 v722_r1
  let v730_r1 : BitVec 32 := Scalar.select v728_r1 v729_r1 v723_r1
  let c0_i32_442_r1 : BitVec 32 := 0#32
  let c0_i32_443_r1 : BitVec 32 := 0#32
  ![v730_r1.toNat, 0, 0]
def k0_off11 (k0_t2 : Fin k0_t2_loop.trips) : Fin 2 → Nat :=
  let c0_i32_407_r1 : BitVec 32 := 0#32
  let c1_i32_408_r1 : BitVec 32 := 1#32
  let arg29_r1 : BitVec 32 := Scf.iv c0_i32_407_r1 c1_i32_408_r1 k0_t2
  let c6_i32_433_r1 : BitVec 32 := 6#32
  let v719_r1 : BitVec 32 := Scalar.addi arg29_r1 c6_i32_433_r1
  let c1_i32_434_r1 : BitVec 32 := 1#32
  let v720_r1 : BitVec 32 := Scalar.subi v719_r1 c1_i32_434_r1
  let c128_i32_441_r1 : BitVec 32 := 128#32
  let v731_r1 : BitVec 32 := Scalar.muli v720_r1 c128_i32_441_r1
  let c0_i32_444_r1 : BitVec 32 := 0#32
  ![v731_r1.toNat, 0]
def k0_off12 (k0_t2 : Fin k0_t2_loop.trips) : Fin 1 → Nat :=
  let c0_i32_407_r1 : BitVec 32 := 0#32
  let c1_i32_408_r1 : BitVec 32 := 1#32
  let arg29_r1 : BitVec 32 := Scf.iv c0_i32_407_r1 c1_i32_408_r1 k0_t2
  let c6_i32_413_r1 : BitVec 32 := 6#32
  let c0_i32_414_r1 : BitVec 32 := 0#32
  let v683_r1 : BitVec 1 := Scalar.cmpi .eq c6_i32_413_r1 c0_i32_414_r1
  let c1_i32_415_r1 : BitVec 32 := 1#32
  let v684_r1 : BitVec 32 := Scalar.select v683_r1 c1_i32_415_r1 c6_i32_413_r1
  let v685_r1 : BitVec 32 := Scalar.remsi arg29_r1 v684_r1
  let c0_i32_417_r1 : BitVec 32 := 0#32
  let v687_r1 : BitVec 1 := Scalar.cmpi .slt v685_r1 c0_i32_417_r1
  let c0_i32_418_r1 : BitVec 32 := 0#32
  let v688_r1 : BitVec 1 := Scalar.cmpi .slt v684_r1 c0_i32_418_r1
  let v689_r1 : BitVec 1 := Scalar.xori v687_r1 v688_r1
  let c0_i32_416_r1 : BitVec 32 := 0#32
  let v686_r1 : BitVec 1 := Scalar.cmpi .ne v685_r1 c0_i32_416_r1
  let v690_r1 : BitVec 1 := Scalar.andi v689_r1 v686_r1
  let v691_r1 : BitVec 32 := Scalar.addi v685_r1 v684_r1
  let v692_r1 : BitVec 32 := Scalar.select v690_r1 v691_r1 v685_r1
  ![v692_r1.toNat]
def k0_off13 (k0_t2 : Fin k0_t2_loop.trips) : Fin 3 → Nat :=
  let c0_i32_407_r1 : BitVec 32 := 0#32
  let c1_i32_408_r1 : BitVec 32 := 1#32
  let arg29_r1 : BitVec 32 := Scf.iv c0_i32_407_r1 c1_i32_408_r1 k0_t2
  let c6_i32_413_r1 : BitVec 32 := 6#32
  let c0_i32_414_r1 : BitVec 32 := 0#32
  let v683_r1 : BitVec 1 := Scalar.cmpi .eq c6_i32_413_r1 c0_i32_414_r1
  let c1_i32_415_r1 : BitVec 32 := 1#32
  let v684_r1 : BitVec 32 := Scalar.select v683_r1 c1_i32_415_r1 c6_i32_413_r1
  let v685_r1 : BitVec 32 := Scalar.remsi arg29_r1 v684_r1
  let c0_i32_417_r1 : BitVec 32 := 0#32
  let v687_r1 : BitVec 1 := Scalar.cmpi .slt v685_r1 c0_i32_417_r1
  let c0_i32_418_r1 : BitVec 32 := 0#32
  let v688_r1 : BitVec 1 := Scalar.cmpi .slt v684_r1 c0_i32_418_r1
  let v689_r1 : BitVec 1 := Scalar.xori v687_r1 v688_r1
  let c0_i32_416_r1 : BitVec 32 := 0#32
  let v686_r1 : BitVec 1 := Scalar.cmpi .ne v685_r1 c0_i32_416_r1
  let v690_r1 : BitVec 1 := Scalar.andi v689_r1 v686_r1
  let v691_r1 : BitVec 32 := Scalar.addi v685_r1 v684_r1
  let v692_r1 : BitVec 32 := Scalar.select v690_r1 v691_r1 v685_r1
  let c0_i32_420_r1 : BitVec 32 := 0#32
  let c0_i32_421_r1 : BitVec 32 := 0#32
  ![v692_r1.toNat, 0, 0]
def k0_off14 (k0_t2 : Fin k0_t2_loop.trips) : Fin 2 → Nat :=
  let c0_i32_407_r1 : BitVec 32 := 0#32
  let c1_i32_408_r1 : BitVec 32 := 1#32
  let arg29_r1 : BitVec 32 := Scf.iv c0_i32_407_r1 c1_i32_408_r1 k0_t2
  let c128_i32_419_r1 : BitVec 32 := 128#32
  let v693_r1 : BitVec 32 := Scalar.muli arg29_r1 c128_i32_419_r1
  let c0_i32_422_r1 : BitVec 32 := 0#32
  ![v693_r1.toNat, 0]
def k0_mult2 (k0_t2 : Fin k0_t2_loop.trips) : BitVec 32 :=
  let c0_i32_407_r1 : BitVec 32 := 0#32
  let c1_i32_408_r1 : BitVec 32 := 1#32
  let arg29_r1 : BitVec 32 := Scf.iv c0_i32_407_r1 c1_i32_408_r1 k0_t2
  let c128_i32_423_r1 : BitVec 32 := 128#32
  let v699_r1 : BitVec 32 := Scalar.muli arg29_r1 c128_i32_423_r1
  v699_r1
def k0_off15 (k0_t2 : Fin k0_t2_loop.trips) : Fin 3 → Nat :=
  let c0_i32_407_r1 : BitVec 32 := 0#32
  let c1_i32_408_r1 : BitVec 32 := 1#32
  let arg29_r1 : BitVec 32 := Scf.iv c0_i32_407_r1 c1_i32_408_r1 k0_t2
  let c6_i32_424_r1 : BitVec 32 := 6#32
  let c0_i32_425_r1 : BitVec 32 := 0#32
  let v701_r1 : BitVec 1 := Scalar.cmpi .eq c6_i32_424_r1 c0_i32_425_r1
  let c1_i32_426_r1 : BitVec 32 := 1#32
  let v702_r1 : BitVec 32 := Scalar.select v701_r1 c1_i32_426_r1 c6_i32_424_r1
  let v703_r1 : BitVec 32 := Scalar.remsi arg29_r1 v702_r1
  let c0_i32_428_r1 : BitVec 32 := 0#32
  let v705_r1 : BitVec 1 := Scalar.cmpi .slt v703_r1 c0_i32_428_r1
  let c0_i32_429_r1 : BitVec 32 := 0#32
  let v706_r1 : BitVec 1 := Scalar.cmpi .slt v702_r1 c0_i32_429_r1
  let v707_r1 : BitVec 1 := Scalar.xori v705_r1 v706_r1
  let c0_i32_427_r1 : BitVec 32 := 0#32
  let v704_r1 : BitVec 1 := Scalar.cmpi .ne v703_r1 c0_i32_427_r1
  let v708_r1 : BitVec 1 := Scalar.andi v707_r1 v704_r1
  let v709_r1 : BitVec 32 := Scalar.addi v703_r1 v702_r1
  let v710_r1 : BitVec 32 := Scalar.select v708_r1 v709_r1 v703_r1
  let v711_r1 : Index := Scalar.indexCast v710_r1
  let c0_430_r1 : Index := 0#32
  let c0_431_r1 : Index := 0#32
  ![v711_r1.toNat, 0, 0]
def k0_off16 (k0_t2 : Fin k0_t2_loop.trips) : Fin 2 → Nat :=
  let c0_i32_407_r1 : BitVec 32 := 0#32
  let c1_i32_408_r1 : BitVec 32 := 1#32
  let arg29_r1 : BitVec 32 := Scf.iv c0_i32_407_r1 c1_i32_408_r1 k0_t2
  let c128_i32_423_r1 : BitVec 32 := 128#32
  let v699_r1 : BitVec 32 := Scalar.muli arg29_r1 c128_i32_423_r1
  let v700_r1 : BitVec 32 := v699_r1
  let v715_r1 : Index := Scalar.indexCast v700_r1
  let c0_432_r1 : Index := 0#32
  ![v715_r1.toNat, 0]
@[reducible] def k0_t3_loop : Scf.Loop 32 :=
  let c0_i32_407_r2 : BitVec 32 := 0#32
  let c8_i32_r2 : BitVec 32 := 8#32
  let v677_r2 : BitVec 32 := Scalar.addi c0_i32_407_r2 c8_i32_r2
  let c1_i32_408_r2 : BitVec 32 := 1#32
  ⟨c0_i32_407_r2, v677_r2, c1_i32_408_r2⟩
def k0_cond4 (k0_t3 : Fin k0_t3_loop.trips) : BitVec 1 :=
  let c0_i32_407_r2 : BitVec 32 := 0#32
  let c1_i32_408_r2 : BitVec 32 := 1#32
  let arg29_r2 : BitVec 32 := Scf.iv c0_i32_407_r2 c1_i32_408_r2 k0_t3
  let c6_i32_r2 : BitVec 32 := 6#32
  let v678_r2 : BitVec 32 := Scalar.addi arg29_r2 c6_i32_r2
  let c1_i32_410_r2 : BitVec 32 := 1#32
  let v679_r2 : BitVec 32 := Scalar.subi v678_r2 c1_i32_410_r2
  let c8_i32_411_r2 : BitVec 32 := 8#32
  let v680_r2 : BitVec 1 := Scalar.cmpi .slt v679_r2 c8_i32_411_r2
  let v681_r2 : BitVec 32 := Scalar.extui v680_r2
  let c0_i32_412_r2 : BitVec 32 := 0#32
  let v682_r2 : BitVec 1 := Scalar.cmpi .ne v681_r2 c0_i32_412_r2
  v682_r2

def k0_off17 (k0_t3 : Fin k0_t3_loop.trips) : Fin 1 → Nat :=
  let c0_i32_407_r2 : BitVec 32 := 0#32
  let c1_i32_408_r2 : BitVec 32 := 1#32
  let arg29_r2 : BitVec 32 := Scf.iv c0_i32_407_r2 c1_i32_408_r2 k0_t3
  let c6_i32_433_r2 : BitVec 32 := 6#32
  let v719_r2 : BitVec 32 := Scalar.addi arg29_r2 c6_i32_433_r2
  let c1_i32_434_r2 : BitVec 32 := 1#32
  let v720_r2 : BitVec 32 := Scalar.subi v719_r2 c1_i32_434_r2
  let c6_i32_435_r2 : BitVec 32 := 6#32
  let c0_i32_436_r2 : BitVec 32 := 0#32
  let v721_r2 : BitVec 1 := Scalar.cmpi .eq c6_i32_435_r2 c0_i32_436_r2
  let c1_i32_437_r2 : BitVec 32 := 1#32
  let v722_r2 : BitVec 32 := Scalar.select v721_r2 c1_i32_437_r2 c6_i32_435_r2
  let v723_r2 : BitVec 32 := Scalar.remsi v720_r2 v722_r2
  let c0_i32_439_r2 : BitVec 32 := 0#32
  let v725_r2 : BitVec 1 := Scalar.cmpi .slt v723_r2 c0_i32_439_r2
  let c0_i32_440_r2 : BitVec 32 := 0#32
  let v726_r2 : BitVec 1 := Scalar.cmpi .slt v722_r2 c0_i32_440_r2
  let v727_r2 : BitVec 1 := Scalar.xori v725_r2 v726_r2
  let c0_i32_438_r2 : BitVec 32 := 0#32
  let v724_r2 : BitVec 1 := Scalar.cmpi .ne v723_r2 c0_i32_438_r2
  let v728_r2 : BitVec 1 := Scalar.andi v727_r2 v724_r2
  let v729_r2 : BitVec 32 := Scalar.addi v723_r2 v722_r2
  let v730_r2 : BitVec 32 := Scalar.select v728_r2 v729_r2 v723_r2
  ![v730_r2.toNat]
def k0_off18 (k0_t3 : Fin k0_t3_loop.trips) : Fin 3 → Nat :=
  let c0_i32_407_r2 : BitVec 32 := 0#32
  let c1_i32_408_r2 : BitVec 32 := 1#32
  let arg29_r2 : BitVec 32 := Scf.iv c0_i32_407_r2 c1_i32_408_r2 k0_t3
  let c6_i32_433_r2 : BitVec 32 := 6#32
  let v719_r2 : BitVec 32 := Scalar.addi arg29_r2 c6_i32_433_r2
  let c1_i32_434_r2 : BitVec 32 := 1#32
  let v720_r2 : BitVec 32 := Scalar.subi v719_r2 c1_i32_434_r2
  let c6_i32_435_r2 : BitVec 32 := 6#32
  let c0_i32_436_r2 : BitVec 32 := 0#32
  let v721_r2 : BitVec 1 := Scalar.cmpi .eq c6_i32_435_r2 c0_i32_436_r2
  let c1_i32_437_r2 : BitVec 32 := 1#32
  let v722_r2 : BitVec 32 := Scalar.select v721_r2 c1_i32_437_r2 c6_i32_435_r2
  let v723_r2 : BitVec 32 := Scalar.remsi v720_r2 v722_r2
  let c0_i32_439_r2 : BitVec 32 := 0#32
  let v725_r2 : BitVec 1 := Scalar.cmpi .slt v723_r2 c0_i32_439_r2
  let c0_i32_440_r2 : BitVec 32 := 0#32
  let v726_r2 : BitVec 1 := Scalar.cmpi .slt v722_r2 c0_i32_440_r2
  let v727_r2 : BitVec 1 := Scalar.xori v725_r2 v726_r2
  let c0_i32_438_r2 : BitVec 32 := 0#32
  let v724_r2 : BitVec 1 := Scalar.cmpi .ne v723_r2 c0_i32_438_r2
  let v728_r2 : BitVec 1 := Scalar.andi v727_r2 v724_r2
  let v729_r2 : BitVec 32 := Scalar.addi v723_r2 v722_r2
  let v730_r2 : BitVec 32 := Scalar.select v728_r2 v729_r2 v723_r2
  let c0_i32_442_r2 : BitVec 32 := 0#32
  let c0_i32_443_r2 : BitVec 32 := 0#32
  ![v730_r2.toNat, 0, 0]
def k0_off19 (k0_t3 : Fin k0_t3_loop.trips) : Fin 2 → Nat :=
  let c0_i32_407_r2 : BitVec 32 := 0#32
  let c1_i32_408_r2 : BitVec 32 := 1#32
  let arg29_r2 : BitVec 32 := Scf.iv c0_i32_407_r2 c1_i32_408_r2 k0_t3
  let c6_i32_433_r2 : BitVec 32 := 6#32
  let v719_r2 : BitVec 32 := Scalar.addi arg29_r2 c6_i32_433_r2
  let c1_i32_434_r2 : BitVec 32 := 1#32
  let v720_r2 : BitVec 32 := Scalar.subi v719_r2 c1_i32_434_r2
  let c352_i32_441_r2 : BitVec 32 := 352#32
  let v731_r2 : BitVec 32 := Scalar.muli v720_r2 c352_i32_441_r2
  let c0_i32_444_r2 : BitVec 32 := 0#32
  ![v731_r2.toNat, 0]
def k0_off20 (k0_t3 : Fin k0_t3_loop.trips) : Fin 1 → Nat :=
  let c0_i32_407_r2 : BitVec 32 := 0#32
  let c1_i32_408_r2 : BitVec 32 := 1#32
  let arg29_r2 : BitVec 32 := Scf.iv c0_i32_407_r2 c1_i32_408_r2 k0_t3
  let c6_i32_413_r2 : BitVec 32 := 6#32
  let c0_i32_414_r2 : BitVec 32 := 0#32
  let v683_r2 : BitVec 1 := Scalar.cmpi .eq c6_i32_413_r2 c0_i32_414_r2
  let c1_i32_415_r2 : BitVec 32 := 1#32
  let v684_r2 : BitVec 32 := Scalar.select v683_r2 c1_i32_415_r2 c6_i32_413_r2
  let v685_r2 : BitVec 32 := Scalar.remsi arg29_r2 v684_r2
  let c0_i32_417_r2 : BitVec 32 := 0#32
  let v687_r2 : BitVec 1 := Scalar.cmpi .slt v685_r2 c0_i32_417_r2
  let c0_i32_418_r2 : BitVec 32 := 0#32
  let v688_r2 : BitVec 1 := Scalar.cmpi .slt v684_r2 c0_i32_418_r2
  let v689_r2 : BitVec 1 := Scalar.xori v687_r2 v688_r2
  let c0_i32_416_r2 : BitVec 32 := 0#32
  let v686_r2 : BitVec 1 := Scalar.cmpi .ne v685_r2 c0_i32_416_r2
  let v690_r2 : BitVec 1 := Scalar.andi v689_r2 v686_r2
  let v691_r2 : BitVec 32 := Scalar.addi v685_r2 v684_r2
  let v692_r2 : BitVec 32 := Scalar.select v690_r2 v691_r2 v685_r2
  ![v692_r2.toNat]
def k0_off21 (k0_t3 : Fin k0_t3_loop.trips) : Fin 3 → Nat :=
  let c0_i32_407_r2 : BitVec 32 := 0#32
  let c1_i32_408_r2 : BitVec 32 := 1#32
  let arg29_r2 : BitVec 32 := Scf.iv c0_i32_407_r2 c1_i32_408_r2 k0_t3
  let c6_i32_413_r2 : BitVec 32 := 6#32
  let c0_i32_414_r2 : BitVec 32 := 0#32
  let v683_r2 : BitVec 1 := Scalar.cmpi .eq c6_i32_413_r2 c0_i32_414_r2
  let c1_i32_415_r2 : BitVec 32 := 1#32
  let v684_r2 : BitVec 32 := Scalar.select v683_r2 c1_i32_415_r2 c6_i32_413_r2
  let v685_r2 : BitVec 32 := Scalar.remsi arg29_r2 v684_r2
  let c0_i32_417_r2 : BitVec 32 := 0#32
  let v687_r2 : BitVec 1 := Scalar.cmpi .slt v685_r2 c0_i32_417_r2
  let c0_i32_418_r2 : BitVec 32 := 0#32
  let v688_r2 : BitVec 1 := Scalar.cmpi .slt v684_r2 c0_i32_418_r2
  let v689_r2 : BitVec 1 := Scalar.xori v687_r2 v688_r2
  let c0_i32_416_r2 : BitVec 32 := 0#32
  let v686_r2 : BitVec 1 := Scalar.cmpi .ne v685_r2 c0_i32_416_r2
  let v690_r2 : BitVec 1 := Scalar.andi v689_r2 v686_r2
  let v691_r2 : BitVec 32 := Scalar.addi v685_r2 v684_r2
  let v692_r2 : BitVec 32 := Scalar.select v690_r2 v691_r2 v685_r2
  let c0_i32_420_r2 : BitVec 32 := 0#32
  let c0_i32_421_r2 : BitVec 32 := 0#32
  ![v692_r2.toNat, 0, 0]
def k0_off22 (k0_t3 : Fin k0_t3_loop.trips) : Fin 2 → Nat :=
  let c0_i32_407_r2 : BitVec 32 := 0#32
  let c1_i32_408_r2 : BitVec 32 := 1#32
  let arg29_r2 : BitVec 32 := Scf.iv c0_i32_407_r2 c1_i32_408_r2 k0_t3
  let c352_i32_419_r2 : BitVec 32 := 352#32
  let v693_r2 : BitVec 32 := Scalar.muli arg29_r2 c352_i32_419_r2
  let c0_i32_422_r2 : BitVec 32 := 0#32
  ![v693_r2.toNat, 0]
def k0_mult3 (k0_t3 : Fin k0_t3_loop.trips) : BitVec 32 :=
  let c0_i32_407_r2 : BitVec 32 := 0#32
  let c1_i32_408_r2 : BitVec 32 := 1#32
  let arg29_r2 : BitVec 32 := Scf.iv c0_i32_407_r2 c1_i32_408_r2 k0_t3
  let c352_i32_423_r2 : BitVec 32 := 352#32
  let v699_r2 : BitVec 32 := Scalar.muli arg29_r2 c352_i32_423_r2
  v699_r2
def k0_off23 (k0_t3 : Fin k0_t3_loop.trips) : Fin 3 → Nat :=
  let c0_i32_407_r2 : BitVec 32 := 0#32
  let c1_i32_408_r2 : BitVec 32 := 1#32
  let arg29_r2 : BitVec 32 := Scf.iv c0_i32_407_r2 c1_i32_408_r2 k0_t3
  let c6_i32_424_r2 : BitVec 32 := 6#32
  let c0_i32_425_r2 : BitVec 32 := 0#32
  let v701_r2 : BitVec 1 := Scalar.cmpi .eq c6_i32_424_r2 c0_i32_425_r2
  let c1_i32_426_r2 : BitVec 32 := 1#32
  let v702_r2 : BitVec 32 := Scalar.select v701_r2 c1_i32_426_r2 c6_i32_424_r2
  let v703_r2 : BitVec 32 := Scalar.remsi arg29_r2 v702_r2
  let c0_i32_428_r2 : BitVec 32 := 0#32
  let v705_r2 : BitVec 1 := Scalar.cmpi .slt v703_r2 c0_i32_428_r2
  let c0_i32_429_r2 : BitVec 32 := 0#32
  let v706_r2 : BitVec 1 := Scalar.cmpi .slt v702_r2 c0_i32_429_r2
  let v707_r2 : BitVec 1 := Scalar.xori v705_r2 v706_r2
  let c0_i32_427_r2 : BitVec 32 := 0#32
  let v704_r2 : BitVec 1 := Scalar.cmpi .ne v703_r2 c0_i32_427_r2
  let v708_r2 : BitVec 1 := Scalar.andi v707_r2 v704_r2
  let v709_r2 : BitVec 32 := Scalar.addi v703_r2 v702_r2
  let v710_r2 : BitVec 32 := Scalar.select v708_r2 v709_r2 v703_r2
  let v711_r2 : Index := Scalar.indexCast v710_r2
  let c0_430_r2 : Index := 0#32
  let c0_431_r2 : Index := 0#32
  ![v711_r2.toNat, 0, 0]
def k0_off24 (k0_t3 : Fin k0_t3_loop.trips) : Fin 2 → Nat :=
  let c0_i32_407_r2 : BitVec 32 := 0#32
  let c1_i32_408_r2 : BitVec 32 := 1#32
  let arg29_r2 : BitVec 32 := Scf.iv c0_i32_407_r2 c1_i32_408_r2 k0_t3
  let c352_i32_423_r2 : BitVec 32 := 352#32
  let v699_r2 : BitVec 32 := Scalar.muli arg29_r2 c352_i32_423_r2
  let v700_r2 : BitVec 32 := v699_r2
  let v715_r2 : Index := Scalar.indexCast v700_r2
  let c0_432_r2 : Index := 0#32
  ![v715_r2.toNat, 0]
@[reducible] def k0_t4_loop : Scf.Loop 32 :=
  let c0_i32_407_r3 : BitVec 32 := 0#32
  let c8_i32_r3 : BitVec 32 := 8#32
  let v677_r3 : BitVec 32 := Scalar.addi c0_i32_407_r3 c8_i32_r3
  let c1_i32_408_r3 : BitVec 32 := 1#32
  ⟨c0_i32_407_r3, v677_r3, c1_i32_408_r3⟩
def k0_cond5 (k0_t4 : Fin k0_t4_loop.trips) : BitVec 1 :=
  let c0_i32_407_r3 : BitVec 32 := 0#32
  let c1_i32_408_r3 : BitVec 32 := 1#32
  let arg29_r3 : BitVec 32 := Scf.iv c0_i32_407_r3 c1_i32_408_r3 k0_t4
  let c6_i32_r3 : BitVec 32 := 6#32
  let v678_r3 : BitVec 32 := Scalar.addi arg29_r3 c6_i32_r3
  let c1_i32_410_r3 : BitVec 32 := 1#32
  let v679_r3 : BitVec 32 := Scalar.subi v678_r3 c1_i32_410_r3
  let c8_i32_411_r3 : BitVec 32 := 8#32
  let v680_r3 : BitVec 1 := Scalar.cmpi .slt v679_r3 c8_i32_411_r3
  let v681_r3 : BitVec 32 := Scalar.extui v680_r3
  let c0_i32_412_r3 : BitVec 32 := 0#32
  let v682_r3 : BitVec 1 := Scalar.cmpi .ne v681_r3 c0_i32_412_r3
  v682_r3

def k0_off25 (k0_t4 : Fin k0_t4_loop.trips) : Fin 1 → Nat :=
  let c0_i32_407_r3 : BitVec 32 := 0#32
  let c1_i32_408_r3 : BitVec 32 := 1#32
  let arg29_r3 : BitVec 32 := Scf.iv c0_i32_407_r3 c1_i32_408_r3 k0_t4
  let c6_i32_433_r3 : BitVec 32 := 6#32
  let v719_r3 : BitVec 32 := Scalar.addi arg29_r3 c6_i32_433_r3
  let c1_i32_434_r3 : BitVec 32 := 1#32
  let v720_r3 : BitVec 32 := Scalar.subi v719_r3 c1_i32_434_r3
  let c6_i32_435_r3 : BitVec 32 := 6#32
  let c0_i32_436_r3 : BitVec 32 := 0#32
  let v721_r3 : BitVec 1 := Scalar.cmpi .eq c6_i32_435_r3 c0_i32_436_r3
  let c1_i32_437_r3 : BitVec 32 := 1#32
  let v722_r3 : BitVec 32 := Scalar.select v721_r3 c1_i32_437_r3 c6_i32_435_r3
  let v723_r3 : BitVec 32 := Scalar.remsi v720_r3 v722_r3
  let c0_i32_439_r3 : BitVec 32 := 0#32
  let v725_r3 : BitVec 1 := Scalar.cmpi .slt v723_r3 c0_i32_439_r3
  let c0_i32_440_r3 : BitVec 32 := 0#32
  let v726_r3 : BitVec 1 := Scalar.cmpi .slt v722_r3 c0_i32_440_r3
  let v727_r3 : BitVec 1 := Scalar.xori v725_r3 v726_r3
  let c0_i32_438_r3 : BitVec 32 := 0#32
  let v724_r3 : BitVec 1 := Scalar.cmpi .ne v723_r3 c0_i32_438_r3
  let v728_r3 : BitVec 1 := Scalar.andi v727_r3 v724_r3
  let v729_r3 : BitVec 32 := Scalar.addi v723_r3 v722_r3
  let v730_r3 : BitVec 32 := Scalar.select v728_r3 v729_r3 v723_r3
  ![v730_r3.toNat]
def k0_off26 (k0_t4 : Fin k0_t4_loop.trips) : Fin 3 → Nat :=
  let c0_i32_407_r3 : BitVec 32 := 0#32
  let c1_i32_408_r3 : BitVec 32 := 1#32
  let arg29_r3 : BitVec 32 := Scf.iv c0_i32_407_r3 c1_i32_408_r3 k0_t4
  let c6_i32_433_r3 : BitVec 32 := 6#32
  let v719_r3 : BitVec 32 := Scalar.addi arg29_r3 c6_i32_433_r3
  let c1_i32_434_r3 : BitVec 32 := 1#32
  let v720_r3 : BitVec 32 := Scalar.subi v719_r3 c1_i32_434_r3
  let c6_i32_435_r3 : BitVec 32 := 6#32
  let c0_i32_436_r3 : BitVec 32 := 0#32
  let v721_r3 : BitVec 1 := Scalar.cmpi .eq c6_i32_435_r3 c0_i32_436_r3
  let c1_i32_437_r3 : BitVec 32 := 1#32
  let v722_r3 : BitVec 32 := Scalar.select v721_r3 c1_i32_437_r3 c6_i32_435_r3
  let v723_r3 : BitVec 32 := Scalar.remsi v720_r3 v722_r3
  let c0_i32_439_r3 : BitVec 32 := 0#32
  let v725_r3 : BitVec 1 := Scalar.cmpi .slt v723_r3 c0_i32_439_r3
  let c0_i32_440_r3 : BitVec 32 := 0#32
  let v726_r3 : BitVec 1 := Scalar.cmpi .slt v722_r3 c0_i32_440_r3
  let v727_r3 : BitVec 1 := Scalar.xori v725_r3 v726_r3
  let c0_i32_438_r3 : BitVec 32 := 0#32
  let v724_r3 : BitVec 1 := Scalar.cmpi .ne v723_r3 c0_i32_438_r3
  let v728_r3 : BitVec 1 := Scalar.andi v727_r3 v724_r3
  let v729_r3 : BitVec 32 := Scalar.addi v723_r3 v722_r3
  let v730_r3 : BitVec 32 := Scalar.select v728_r3 v729_r3 v723_r3
  let c0_i32_442_r3 : BitVec 32 := 0#32
  let c0_i32_443_r3 : BitVec 32 := 0#32
  ![v730_r3.toNat, 0, 0]
def k0_off27 (k0_t4 : Fin k0_t4_loop.trips) : Fin 2 → Nat :=
  let c0_i32_407_r3 : BitVec 32 := 0#32
  let c1_i32_408_r3 : BitVec 32 := 1#32
  let arg29_r3 : BitVec 32 := Scf.iv c0_i32_407_r3 c1_i32_408_r3 k0_t4
  let c6_i32_433_r3 : BitVec 32 := 6#32
  let v719_r3 : BitVec 32 := Scalar.addi arg29_r3 c6_i32_433_r3
  let c1_i32_434_r3 : BitVec 32 := 1#32
  let v720_r3 : BitVec 32 := Scalar.subi v719_r3 c1_i32_434_r3
  let c384_i32_441_r3 : BitVec 32 := 384#32
  let v731_r3 : BitVec 32 := Scalar.muli v720_r3 c384_i32_441_r3
  let c0_i32_444_r3 : BitVec 32 := 0#32
  ![v731_r3.toNat, 0]
def k0_off28 (k0_t4 : Fin k0_t4_loop.trips) : Fin 1 → Nat :=
  let c0_i32_407_r3 : BitVec 32 := 0#32
  let c1_i32_408_r3 : BitVec 32 := 1#32
  let arg29_r3 : BitVec 32 := Scf.iv c0_i32_407_r3 c1_i32_408_r3 k0_t4
  let c6_i32_413_r3 : BitVec 32 := 6#32
  let c0_i32_414_r3 : BitVec 32 := 0#32
  let v683_r3 : BitVec 1 := Scalar.cmpi .eq c6_i32_413_r3 c0_i32_414_r3
  let c1_i32_415_r3 : BitVec 32 := 1#32
  let v684_r3 : BitVec 32 := Scalar.select v683_r3 c1_i32_415_r3 c6_i32_413_r3
  let v685_r3 : BitVec 32 := Scalar.remsi arg29_r3 v684_r3
  let c0_i32_417_r3 : BitVec 32 := 0#32
  let v687_r3 : BitVec 1 := Scalar.cmpi .slt v685_r3 c0_i32_417_r3
  let c0_i32_418_r3 : BitVec 32 := 0#32
  let v688_r3 : BitVec 1 := Scalar.cmpi .slt v684_r3 c0_i32_418_r3
  let v689_r3 : BitVec 1 := Scalar.xori v687_r3 v688_r3
  let c0_i32_416_r3 : BitVec 32 := 0#32
  let v686_r3 : BitVec 1 := Scalar.cmpi .ne v685_r3 c0_i32_416_r3
  let v690_r3 : BitVec 1 := Scalar.andi v689_r3 v686_r3
  let v691_r3 : BitVec 32 := Scalar.addi v685_r3 v684_r3
  let v692_r3 : BitVec 32 := Scalar.select v690_r3 v691_r3 v685_r3
  ![v692_r3.toNat]
def k0_off29 (k0_t4 : Fin k0_t4_loop.trips) : Fin 3 → Nat :=
  let c0_i32_407_r3 : BitVec 32 := 0#32
  let c1_i32_408_r3 : BitVec 32 := 1#32
  let arg29_r3 : BitVec 32 := Scf.iv c0_i32_407_r3 c1_i32_408_r3 k0_t4
  let c6_i32_413_r3 : BitVec 32 := 6#32
  let c0_i32_414_r3 : BitVec 32 := 0#32
  let v683_r3 : BitVec 1 := Scalar.cmpi .eq c6_i32_413_r3 c0_i32_414_r3
  let c1_i32_415_r3 : BitVec 32 := 1#32
  let v684_r3 : BitVec 32 := Scalar.select v683_r3 c1_i32_415_r3 c6_i32_413_r3
  let v685_r3 : BitVec 32 := Scalar.remsi arg29_r3 v684_r3
  let c0_i32_417_r3 : BitVec 32 := 0#32
  let v687_r3 : BitVec 1 := Scalar.cmpi .slt v685_r3 c0_i32_417_r3
  let c0_i32_418_r3 : BitVec 32 := 0#32
  let v688_r3 : BitVec 1 := Scalar.cmpi .slt v684_r3 c0_i32_418_r3
  let v689_r3 : BitVec 1 := Scalar.xori v687_r3 v688_r3
  let c0_i32_416_r3 : BitVec 32 := 0#32
  let v686_r3 : BitVec 1 := Scalar.cmpi .ne v685_r3 c0_i32_416_r3
  let v690_r3 : BitVec 1 := Scalar.andi v689_r3 v686_r3
  let v691_r3 : BitVec 32 := Scalar.addi v685_r3 v684_r3
  let v692_r3 : BitVec 32 := Scalar.select v690_r3 v691_r3 v685_r3
  let c0_i32_420_r3 : BitVec 32 := 0#32
  let c0_i32_421_r3 : BitVec 32 := 0#32
  ![v692_r3.toNat, 0, 0]
def k0_off30 (k0_t4 : Fin k0_t4_loop.trips) : Fin 2 → Nat :=
  let c0_i32_407_r3 : BitVec 32 := 0#32
  let c1_i32_408_r3 : BitVec 32 := 1#32
  let arg29_r3 : BitVec 32 := Scf.iv c0_i32_407_r3 c1_i32_408_r3 k0_t4
  let c384_i32_419_r3 : BitVec 32 := 384#32
  let v693_r3 : BitVec 32 := Scalar.muli arg29_r3 c384_i32_419_r3
  let c0_i32_422_r3 : BitVec 32 := 0#32
  ![v693_r3.toNat, 0]
def k0_mult4 (k0_t4 : Fin k0_t4_loop.trips) : BitVec 32 :=
  let c0_i32_407_r3 : BitVec 32 := 0#32
  let c1_i32_408_r3 : BitVec 32 := 1#32
  let arg29_r3 : BitVec 32 := Scf.iv c0_i32_407_r3 c1_i32_408_r3 k0_t4
  let c384_i32_423_r3 : BitVec 32 := 384#32
  let v699_r3 : BitVec 32 := Scalar.muli arg29_r3 c384_i32_423_r3
  v699_r3
def k0_off31 (k0_t4 : Fin k0_t4_loop.trips) : Fin 3 → Nat :=
  let c0_i32_407_r3 : BitVec 32 := 0#32
  let c1_i32_408_r3 : BitVec 32 := 1#32
  let arg29_r3 : BitVec 32 := Scf.iv c0_i32_407_r3 c1_i32_408_r3 k0_t4
  let c6_i32_424_r3 : BitVec 32 := 6#32
  let c0_i32_425_r3 : BitVec 32 := 0#32
  let v701_r3 : BitVec 1 := Scalar.cmpi .eq c6_i32_424_r3 c0_i32_425_r3
  let c1_i32_426_r3 : BitVec 32 := 1#32
  let v702_r3 : BitVec 32 := Scalar.select v701_r3 c1_i32_426_r3 c6_i32_424_r3
  let v703_r3 : BitVec 32 := Scalar.remsi arg29_r3 v702_r3
  let c0_i32_428_r3 : BitVec 32 := 0#32
  let v705_r3 : BitVec 1 := Scalar.cmpi .slt v703_r3 c0_i32_428_r3
  let c0_i32_429_r3 : BitVec 32 := 0#32
  let v706_r3 : BitVec 1 := Scalar.cmpi .slt v702_r3 c0_i32_429_r3
  let v707_r3 : BitVec 1 := Scalar.xori v705_r3 v706_r3
  let c0_i32_427_r3 : BitVec 32 := 0#32
  let v704_r3 : BitVec 1 := Scalar.cmpi .ne v703_r3 c0_i32_427_r3
  let v708_r3 : BitVec 1 := Scalar.andi v707_r3 v704_r3
  let v709_r3 : BitVec 32 := Scalar.addi v703_r3 v702_r3
  let v710_r3 : BitVec 32 := Scalar.select v708_r3 v709_r3 v703_r3
  let v711_r3 : Index := Scalar.indexCast v710_r3
  let c0_430_r3 : Index := 0#32
  let c0_431_r3 : Index := 0#32
  ![v711_r3.toNat, 0, 0]
def k0_off32 (k0_t4 : Fin k0_t4_loop.trips) : Fin 2 → Nat :=
  let c0_i32_407_r3 : BitVec 32 := 0#32
  let c1_i32_408_r3 : BitVec 32 := 1#32
  let arg29_r3 : BitVec 32 := Scf.iv c0_i32_407_r3 c1_i32_408_r3 k0_t4
  let c384_i32_423_r3 : BitVec 32 := 384#32
  let v699_r3 : BitVec 32 := Scalar.muli arg29_r3 c384_i32_423_r3
  let v700_r3 : BitVec 32 := v699_r3
  let v715_r3 : Index := Scalar.indexCast v700_r3
  let c0_432_r3 : Index := 0#32
  ![v715_r3.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_12 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_13 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_14 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_19 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_20 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_21 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S176x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceIdeal.lean ====
abbrev S4x4096x1024 : Shape := ⟨3, ![4, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x3088 : Shape := ⟨3, ![1, 1024, 3088]⟩
abbrev S1x16x256 : Shape := ⟨3, ![1, 16, 256]⟩
abbrev S1x256 : Shape := ⟨2, ![1, 256]⟩
abbrev S1x1024x1024 : Shape := ⟨3, ![1, 1024, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x2816 : Shape := ⟨2, ![1024, 2816]⟩
abbrev S2816x1024 : Shape := ⟨2, ![2816, 1024]⟩
abbrev S4x4096x2816 : Shape := ⟨3, ![4, 4096, 2816]⟩
abbrev S4096 : Shape := ⟨1, ![4096]⟩
abbrev S1024x3088 : Shape := ⟨2, ![1024, 3088]⟩
abbrev S4x4096x3088 : Shape := ⟨3, ![4, 4096, 3088]⟩
abbrev S4x4096x256 : Shape := ⟨3, ![4, 4096, 256]⟩
abbrev S4x4096x512 : Shape := ⟨3, ![4, 4096, 512]⟩
abbrev S4x4096x16 : Shape := ⟨3, ![4, 4096, 16]⟩
abbrev S4x4096x4x64 : Shape := ⟨4, ![4, 4096, 4, 64]⟩
abbrev S4x4x4096x64 : Shape := ⟨4, ![4, 4, 4096, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4x4x4096x32 : Shape := ⟨4, ![4, 4, 4096, 32]⟩
abbrev S1x1x4096x32 : Shape := ⟨4, ![1, 1, 4096, 32]⟩
abbrev S16x256 : Shape := ⟨2, ![16, 256]⟩
abbrev S256 : Shape := ⟨1, ![256]⟩
abbrev S1x1x256 : Shape := ⟨3, ![1, 1, 256]⟩
abbrev S4x4096x3072 : Shape := ⟨3, ![4, 4096, 3072]⟩
abbrev S16384x1024 : Shape := ⟨2, ![16384, 1024]⟩
abbrev S16384x3072 : Shape := ⟨2, ![16384, 3072]⟩
abbrev S16384x256 : Shape := ⟨2, ![16384, 256]⟩
abbrev S1024x1024 : Shape := ⟨2, ![1024, 1024]⟩

abbrev nBuf : Space → Nat
  | .hbm => 219
  | .vmem => 0
  | .smem => 0
  | _ => 0

abbrev hbmTy0_0 (i : Nat) : BufTy := match i % 128 with
  | 0 => ⟨S4x4096x1024, .f32⟩
  | 1 => ⟨S1x1024, .f32⟩
  | 2 => ⟨S1x1024x2816, .f32⟩
  | 3 => ⟨S1x1024x2816, .f32⟩
  | 4 => ⟨S1x2816x1024, .f32⟩
  | 5 => ⟨S1x1024, .f32⟩
  | 6 => ⟨S1x1024x3088, .f32⟩
  | 7 => ⟨S1x16x256, .f32⟩
  | 8 => ⟨S1x256, .f32⟩
  | 9 => ⟨S1x1024x1024, .f32⟩
  | 10 => ⟨S1x1024x2816, .f32⟩
  | 11 => ⟨S1x1024x2816, .f32⟩
  | 12 => ⟨S1x2816x1024, .f32⟩
  | 13 => ⟨S1024, .f32⟩
  | 14 => ⟨S4x4096x1024, .f32⟩
  | 15 => ⟨S_, .f32⟩
  | 16 => ⟨S4x4096, .f32⟩
  | 17 => ⟨S4x4096x1, .f32⟩
  | 18 => ⟨S_, .f32⟩
  | 19 => ⟨S4x4096x1, .f32⟩
  | 20 => ⟨S4x4096x1, .f32⟩
  | 21 => ⟨S_, .f32⟩
  | 22 => ⟨S4x4096x1, .f32⟩
  | 23 => ⟨S4x4096x1, .f32⟩
  | 24 => ⟨S4x4096x1, .f32⟩
  | 25 => ⟨S4x4096x1024, .f32⟩
  | 26 => ⟨S4x4096x1024, .f32⟩
  | 27 => ⟨S1x1x1024, .f32⟩
  | 28 => ⟨S4x4096x1024, .f32⟩
  | 29 => ⟨S4x4096x1024, .f32⟩
  | 30 => ⟨S1024x2816, .f32⟩
  | 31 => ⟨S1024x2816, .f32⟩
  | 32 => ⟨S2816x1024, .f32⟩
  | 33 => ⟨S4x4096x2816, .f32⟩
  | 34 => ⟨S4x4096x2816, .f32⟩
  | 35 => ⟨S4x4096x2816, .f32⟩
  | 36 => ⟨S_, .f32⟩
  | 37 => ⟨S4x4096x2816, .f32⟩
  | 38 => ⟨S4x4096x2816, .f32⟩
  | 39 => ⟨S_, .f32⟩
  | 40 => ⟨S4x4096x2816, .f32⟩
  | 41 => ⟨S4x4096x2816, .f32⟩
  | 42 => ⟨S4x4096x2816, .f32⟩
  | 43 => ⟨S4x4096x2816, .f32⟩
  | 44 => ⟨S4x4096x2816, .f32⟩
  | 45 => ⟨S4x4096x1024, .f32⟩
  | 46 => ⟨S_, .f32⟩
  | 47 => ⟨S4x4096x1024, .f32⟩
  | 48 => ⟨S4x4096x1024, .f32⟩
  | 49 => ⟨S4x4096x1024, .f32⟩
  | 50 => ⟨S1024, .f32⟩
  | 51 => ⟨S4x4096x1024, .f32⟩
  | 52 => ⟨S_, .f32⟩
  | 53 => ⟨S4x4096, .f32⟩
  | 54 => ⟨S4x4096x1, .f32⟩
  | 55 => ⟨S_, .f32⟩
  | 56 => ⟨S4x4096x1, .f32⟩
  | 57 => ⟨S4x4096x1, .f32⟩
  | 58 => ⟨S_, .f32⟩
  | 59 => ⟨S4x4096x1, .f32⟩
  | 60 => ⟨S4x4096x1, .f32⟩
  | 61 => ⟨S4x4096x1, .f32⟩
  | 62 => ⟨S4x4096x1024, .f32⟩
  | 63 => ⟨S4x4096x1024, .f32⟩
  | 64 => ⟨S1x1x1024, .f32⟩
  | 65 => ⟨S4x4096x1024, .f32⟩
  | 66 => ⟨S4x4096x1024, .f32⟩
  | 67 => ⟨S4096, .f32⟩
  | 68 => ⟨S1024x3088, .f32⟩
  | 69 => ⟨S4x4096x3088, .f32⟩
  | 70 => ⟨S4x4096x256, .f32⟩
  | 71 => ⟨S4x4096x256, .f32⟩
  | 72 => ⟨S4x4096x512, .f32⟩
  | 73 => ⟨S4x4096x512, .f32⟩
  | 74 => ⟨S4x4096x256, .f32⟩
  | 75 => ⟨S4x4096x256, .f32⟩
  | 76 => ⟨S4x4096x512, .f32⟩
  | 77 => ⟨S4x4096x512, .f32⟩
  | 78 => ⟨S4x4096x16, .f32⟩
  | 79 => ⟨S4x4096x4x64, .f32⟩
  | 80 => ⟨S4x4x4096x64, .f32⟩
  | 81 => ⟨S32, .f32⟩
  | 82 => ⟨S32, .f32⟩
  | 83 => ⟨S_, .f32⟩
  | 84 => ⟨S32, .f32⟩
  | 85 => ⟨S32, .f32⟩
  | 86 => ⟨S_, .f32⟩
  | 87 => ⟨S32, .f32⟩
  | 88 => ⟨S32, .f32⟩
  | 89 => ⟨S_, .f32⟩
  | 90 => ⟨S32, .f32⟩
  | 91 => ⟨S32, .f32⟩
  | 92 => ⟨S4096x1, .f32⟩
  | 93 => ⟨S1x32, .f32⟩
  | 94 => ⟨S4096x32, .f32⟩
  | 95 => ⟨S4096x32, .f32⟩
  | 96 => ⟨S4096x32, .f32⟩
  | 97 => ⟨S4096x32, .f32⟩
  | 98 => ⟨S4096x32, .f32⟩
  | 99 => ⟨S4x4x4096x32, .f32⟩
  | 100 => ⟨S4x4x4096x32, .f32⟩
  | 101 => ⟨S1x1x4096x32, .f32⟩
  | 102 => ⟨S4x4x4096x32, .f32⟩
  | 103 => ⟨S4x4x4096x32, .f32⟩
  | 104 => ⟨S1x1x4096x32, .f32⟩
  | 105 => ⟨S4x4x4096x32, .f32⟩
  | 106 => ⟨S4x4x4096x32, .f32⟩
  | 107 => ⟨S4x4x4096x32, .f32⟩
  | 108 => ⟨S1x1x4096x32, .f32⟩
  | 109 => ⟨S4x4x4096x32, .f32⟩
  | 110 => ⟨S4x4x4096x32, .f32⟩
  | 111 => ⟨S1x1x4096x32, .f32⟩
  | 112 => ⟨S4x4x4096x32, .f32⟩
  | 113 => ⟨S4x4x4096x32, .f32⟩
  | 114 => ⟨S4x4x4096x32, .f32⟩
  | 115 => ⟨S4x4x4096x64, .f32⟩
  | 116 => ⟨S4x4096x4x64, .f32⟩
  | 117 => ⟨S4x4x4096x64, .f32⟩
  | 118 => ⟨S32, .f32⟩
  | 119 => ⟨S32, .f32⟩
  | 120 => ⟨S_, .f32⟩
  | 121 => ⟨S32, .f32⟩
  | 122 => ⟨S32, .f32⟩
  | 123 => ⟨S_, .f32⟩
  | 124 => ⟨S32, .f32⟩
  | 125 => ⟨S32, .f32⟩
  | 126 => ⟨S_, .f32⟩
  | 127 => ⟨S32, .f32⟩
  | _ => ⟨S4x4096x1024, .f32⟩

abbrev hbmTy0_1 (i : Nat) : BufTy := match i % 128 with
  | 0 => ⟨S32, .f32⟩
  | 1 => ⟨S4096x1, .f32⟩
  | 2 => ⟨S1x32, .f32⟩
  | 3 => ⟨S4096x32, .f32⟩
  | 4 => ⟨S4096x32, .f32⟩
  | 5 => ⟨S4096x32, .f32⟩
  | 6 => ⟨S4096x32, .f32⟩
  | 7 => ⟨S4096x32, .f32⟩
  | 8 => ⟨S4x4x4096x32, .f32⟩
  | 9 => ⟨S4x4x4096x32, .f32⟩
  | 10 => ⟨S1x1x4096x32, .f32⟩
  | 11 => ⟨S4x4x4096x32, .f32⟩
  | 12 => ⟨S4x4x4096x32, .f32⟩
  | 13 => ⟨S1x1x4096x32, .f32⟩
  | 14 => ⟨S4x4x4096x32, .f32⟩
  | 15 => ⟨S4x4x4096x32, .f32⟩
  | 16 => ⟨S4x4x4096x32, .f32⟩
  | 17 => ⟨S1x1x4096x32, .f32⟩
  | 18 => ⟨S4x4x4096x32, .f32⟩
  | 19 => ⟨S4x4x4096x32, .f32⟩
  | 20 => ⟨S1x1x4096x32, .f32⟩
  | 21 => ⟨S4x4x4096x32, .f32⟩
  | 22 => ⟨S4x4x4096x32, .f32⟩
  | 23 => ⟨S4x4x4096x32, .f32⟩
  | 24 => ⟨S4x4x4096x64, .f32⟩
  | 25 => ⟨S_, .f32⟩
  | 26 => ⟨S4x4x4096x64, .f32⟩
  | 27 => ⟨S4x4x4096x64, .f32⟩
  | 28 => ⟨S_, .f32⟩
  | 29 => ⟨S4x4096x256, .f32⟩
  | 30 => ⟨S4x4096x256, .f32⟩
  | 31 => ⟨S16x256, .f32⟩
  | 32 => ⟨S4x4096x256, .f32⟩
  | 33 => ⟨S256, .f32⟩
  | 34 => ⟨S1x1x256, .f32⟩
  | 35 => ⟨S4x4096x256, .f32⟩
  | 36 => ⟨S4x4096x256, .f32⟩
  | 37 => ⟨S4x4096x256, .f32⟩
  | 38 => ⟨S_, .f32⟩
  | 39 => ⟨S4x4096x256, .f32⟩
  | 40 => ⟨S4x4096x256, .f32⟩
  | 41 => ⟨S4x4096x256, .f32⟩
  | 42 => ⟨S4x4096x256, .f32⟩
  | 43 => ⟨S4x4096x256, .i1⟩
  | 44 => ⟨S4x4096x256, .f32⟩
  | 45 => ⟨S4x4096x256, .f32⟩
  | 46 => ⟨S4x4096x256, .f32⟩
  | 47 => ⟨S4x4096x256, .f32⟩
  | 48 => ⟨S4x4096x256, .f32⟩
  | 49 => ⟨S4x4096x256, .f32⟩
  | 50 => ⟨S4x4096x256, .f32⟩
  | 51 => ⟨S4x4096x256, .f32⟩
  | 52 => ⟨S4x4096x256, .f32⟩
  | 53 => ⟨S_, .f32⟩
  | 54 => ⟨S4x4096x256, .f32⟩
  | 55 => ⟨S4x4096x256, .f32⟩
  | 56 => ⟨S4x4096x4x64, .f32⟩
  | 57 => ⟨S4x4096x256, .f32⟩
  | 58 => ⟨S4x4096x4x64, .f32⟩
  | 59 => ⟨S4x4096x256, .f32⟩
  | 60 => ⟨S4x4096x512, .f32⟩
  | 61 => ⟨S4x4096x512, .f32⟩
  | 62 => ⟨S_, .f32⟩
  | 63 => ⟨S4x4096x512, .f32⟩
  | 64 => ⟨S4x4096x512, .f32⟩
  | 65 => ⟨S_, .f32⟩
  | 66 => ⟨S4x4096x512, .f32⟩
  | 67 => ⟨S4x4096x512, .f32⟩
  | 68 => ⟨S4x4096x512, .f32⟩
  | 69 => ⟨S4x4096x512, .f32⟩
  | 70 => ⟨S4x4096x512, .f32⟩
  | 71 => ⟨S_, .f32⟩
  | 72 => ⟨S4x4096x512, .f32⟩
  | 73 => ⟨S4x4096x512, .f32⟩
  | 74 => ⟨S_, .f32⟩
  | 75 => ⟨S4x4096x512, .f32⟩
  | 76 => ⟨S4x4096x512, .f32⟩
  | 77 => ⟨S4x4096x512, .f32⟩
  | 78 => ⟨S4x4096x3072, .f32⟩
  | 79 => ⟨S16384x1024, .f32⟩
  | 80 => ⟨S16384x3072, .f32⟩
  | 81 => ⟨S16384x3072, .bf16⟩
  | 82 => ⟨S16384x256, .f32⟩
  | 83 => ⟨S1024x1024, .f32⟩
  | 84 => ⟨S1024x1024, .bf16⟩
  | 85 => ⟨S1024x2816, .f32⟩
  | 86 => ⟨S1024x2816, .bf16⟩
  | 87 => ⟨S1024x2816, .f32⟩
  | 88 => ⟨S1024x2816, .bf16⟩
  | 89 => ⟨S2816x1024, .f32⟩
  | 90 => ⟨S2816x1024, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_2 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_v28 : Ref sig .tc := ⟨.hbm, 54, rfl⟩
abbrev main_cst_4 : Ref sig .tc := ⟨.hbm, 55, rfl⟩
abbrev main_v29 : Ref sig .tc := ⟨.hbm, 56, rfl⟩
abbrev main_v30 : Ref sig .tc := ⟨.hbm, 57, rfl⟩
abbrev main_cst_5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_6 : Ref sig .tc := ⟨.hbm, 83, rfl⟩
abbrev main_v55 : Ref sig .tc := ⟨.hbm, 84, rfl⟩
abbrev main_v56 : Ref sig .tc := ⟨.hbm, 85, rfl⟩
abbrev main_cst_7 : Ref sig .tc := ⟨.hbm, 86, rfl⟩
abbrev main_v57 : Ref sig .tc := ⟨.hbm, 87, rfl⟩
abbrev main_v58 : Ref sig .tc := ⟨.hbm, 88, rfl⟩
abbrev main_cst_8 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_9 : Ref sig .tc := ⟨.hbm, 120, rfl⟩
abbrev main_v89 : Ref sig .tc := ⟨.hbm, 121, rfl⟩
abbrev main_v90 : Ref sig .tc := ⟨.hbm, 122, rfl⟩
abbrev main_cst_10 : Ref sig .tc := ⟨.hbm, 123, rfl⟩
abbrev main_v91 : Ref sig .tc := ⟨.hbm, 124, rfl⟩
abbrev main_v92 : Ref sig .tc := ⟨.hbm, 125, rfl⟩
abbrev main_cst_11 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_12 : Ref sig .tc := ⟨.hbm, 153, rfl⟩
abbrev main_v119 : Ref sig .tc := ⟨.hbm, 154, rfl⟩
abbrev main_v120 : Ref sig .tc := ⟨.hbm, 155, rfl⟩
abbrev main_cst_13 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_call1_v0 : Ref sig .tc := ⟨.hbm, 165, rfl⟩
abbrev main_call1_call0_cst : Ref sig .tc := ⟨.hbm, 166, rfl⟩
abbrev main_call1_call0_v0 : Ref sig .tc := ⟨.hbm, 167, rfl⟩
abbrev main_call1_call0_v1 : Ref sig .tc := ⟨.hbm, 168, rfl⟩
abbrev main_call1_call0_v2 : Ref sig .tc := ⟨.hbm, 169, rfl⟩
abbrev main_call1_call0_v3 : Ref sig .tc := ⟨.hbm, 170, rfl⟩
abbrev main_call1_call0_v4 : Ref sig .tc := ⟨.hbm, 171, rfl⟩
abbrev main_call1_call0_v5 : Ref sig .tc := ⟨.hbm, 172, rfl⟩
abbrev main_call1_call0_v6 : Ref sig .tc := ⟨.hbm, 173, rfl⟩
abbrev main_call1_call0_v7 : Ref sig .tc := ⟨.hbm, 174, rfl⟩
abbrev main_call1_call0_v8 : Ref sig .tc := ⟨.hbm, 175, rfl⟩
abbrev main_call1_call0_v9 : Ref sig .tc := ⟨.hbm, 176, rfl⟩
abbrev main_call1_call0_v10 : Ref sig .tc := ⟨.hbm, 177, rfl⟩
abbrev main_call1_call0_v11 : Ref sig .tc := ⟨.hbm, 178, rfl⟩
abbrev main_call1_v1 : Ref sig .tc := ⟨.hbm, 179, rfl⟩
abbrev main_v129 : Ref sig .tc := ⟨.hbm, 180, rfl⟩
abbrev main_cst_14 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_call2_v0 : Ref sig .tc := ⟨.hbm, 188, rfl⟩
abbrev main_call2_v1 : Ref sig .tc := ⟨.hbm, 189, rfl⟩
abbrev main_call2_cst : Ref sig .tc := ⟨.hbm, 190, rfl⟩
abbrev main_call2_v2 : Ref sig .tc := ⟨.hbm, 191, rfl⟩
abbrev main_call2_v3 : Ref sig .tc := ⟨.hbm, 192, rfl⟩
abbrev main_call2_cst_0 : Ref sig .tc := ⟨.hbm, 193, rfl⟩
abbrev main_call2_v4 : Ref sig .tc := ⟨.hbm, 194, rfl⟩
abbrev main_call2_v5 : Ref sig .tc := ⟨.hbm, 195, rfl⟩
abbrev main_v136 : Ref sig .tc := ⟨.hbm, 196, rfl⟩
abbrev main_call3_v0 : Ref sig .tc := ⟨.hbm, 197, rfl⟩
abbrev main_call3_v1 : Ref sig .tc := ⟨.hbm, 198, rfl⟩
abbrev main_call3_cst : Ref sig .tc := ⟨.hbm, 199, rfl⟩
abbrev main_call3_v2 : Ref sig .tc := ⟨.hbm, 200, rfl⟩
abbrev main_call3_v3 : Ref sig .tc := ⟨.hbm, 201, rfl⟩
abbrev main_call3_cst_0 : Ref sig .tc := ⟨.hbm, 202, rfl⟩
abbrev main_call3_v4 : Ref sig .tc := ⟨.hbm, 203, rfl⟩
abbrev main_call3_v5 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩

abbrev nD : Nat := 1
abbrev τ : Topo := Topo.v7x

variable {F : FTy → Type} [FloatOps F]
-- ==== Proof.Ring.lean ====
/-
  The ring of six slots through which a weight comes from HBM: block `b` of the array's rows is copied into slot
  `b % 6`, waited for, read, cast and stored into its rows of the cast weight. One lemma for a copy, one for a trip
  of the loop, stated over the blocks' height and width, so that the four weights' loops are its instances.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueLayout
public import Idealize.SL.BI.BigOpNat

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

/-- The resource algebra: the pipeline library's beside the transfers' counters. -/
local notation "𝕄" => MT nD τ sig Unit (Elt F) ℕ (Pipeline.UD sig nD τ) ℕ

/-- Where the transfers' counters lie in it. -/
abbrev EC : UEmb Counters (MT nD τ sig Unit (Elt F) ℕ (Pipeline.UD sig nD τ) ℕ) :=
  countersEmb (U := Pipeline.UD sig nD τ)

/-! ## Shapes, offsets -/

abbrev M2 (a b : ℕ) : Shape := ⟨2, ![a, b]⟩
abbrev M3 (a b c : ℕ) : Shape := ⟨3, ![a, b, c]⟩

/-- Block `b` of the rows starts at row `R * b`, of eight blocks. -/
abbrev offH (R b : ℕ) : Fin 2 → ℕ := ![R * (b % 8), 0]
/-- Slot `b % 6` of the ring. -/
abbrev offR (b : ℕ) : Fin 3 → ℕ := ![b % 6, 0, 0]
abbrev offS (b : ℕ) : Fin 1 → ℕ := ![b % 6]

theorem inbH {R C N : ℕ} (h : 8 * R ≤ N) (b : ℕ) : ∀ a, offH R b a + (![R, C] : Fin 2 → ℕ) a ≤ (M2 N C).size a := by
  have h8 : b % 8 < 8 := Nat.mod_lt _ (by decide)
  have hm : R * (b % 8 + 1) ≤ R * 8 := Nat.mul_le_mul_left R h8
  rw [Nat.mul_succ] at hm
  exact Fin.forall_fin_two.mpr ⟨show R * (b % 8) + R ≤ N by omega, show 0 + C ≤ C by omega⟩

theorem inbR {R C : ℕ} (b : ℕ) : ∀ a, offR b a + (![1, R, C] : Fin 3 → ℕ) a ≤ (M3 6 R C).size a := by
  have h6 : b % 6 < 6 := Nat.mod_lt _ (by decide)
  intro a
  fin_cases a
  · show b % 6 + 1 ≤ 6
    omega
  · show 0 + R ≤ R
    omega
  · show 0 + C ≤ C
    omega

theorem inbS (b : ℕ) : ∀ a, offS b a + S1.size a ≤ S6.size a := by
  have h6 : b % 6 < 6 := Nat.mod_lt _ (by decide)
  intro a
  fin_cases a
  show b % 6 + 1 ≤ 6
  omega

/-! ## The program's pieces -/

section Prog

variable {R C N N' : ℕ} (hbm : Memref sig .tc .hbm (M2 N C) .f32) (ring : Memref sig .tc .vmem (M3 6 R C) .f32)
  (dst : Memref sig .tc .vmem (M2 N' C) .bf16) (sems : DmaSems sig S6) (sq : (M3 1 R C).Squeezes (M2 R C))

/-- The copy of a block into a slot, at offsets as the program computes them. -/
def copy (oS : Fin 1 → ℕ) (iS : ∀ a, oS a + S1.size a ≤ S6.size a) (oR : Fin 3 → ℕ)
    (iR : ∀ a, oR a + (M3 1 R C).size a ≤ (M3 6 R C).size a) (oH : Fin 2 → ℕ)
    (iH : ∀ a, oH a + (M2 R C).size a ≤ (M2 N C).size a) : Prog (TpuEff nD τ sig (Elt F) Λ₀ .tc) PUnit :=
  Prog.lift (.enqueueDma (hbm.slice (Rect.unit (s := M2 N C) oH (M2 R C).size iH) (fun _ => rfl))
    (.here ((ring.slice (Rect.unit (s := M3 6 R C) oR (M3 1 R C).size iR) (fun _ => rfl)).squeeze (M2 R C) sq))
    (.dma ((sems.slice (Rect.unit (s := S6) oS S1.size iS)).squeeze S_ squeezes_S1_S_).sem)
    (View.wordExact_bits rfl) ((View.wordExact_bits rfl).reshape _ _) ⟨Or.inl rfl, trivial⟩)

/-- A trip up to its wait: the copy of the block five ahead, if there is one, and the wait for this one. -/
def tripHead (cond : BitVec 1) (v : BitVec 32) (oS : Fin 1 → ℕ) (iS : cond = 1#1 → ∀ a, oS a + S1.size a ≤ S6.size a)
    (oR : Fin 3 → ℕ) (iR : cond = 1#1 → ∀ a, oR a + (M3 1 R C).size a ≤ (M3 6 R C).size a) (oH : Fin 2 → ℕ)
    (iH : cond = 1#1 → ∀ a, oH a + (M2 R C).size a ≤ (M2 N C).size a)
    (oS' : Fin 1 → ℕ) (iS' : ∀ a, oS' a + S1.size a ≤ S6.size a)
    (oR' : Fin 3 → ℕ) (iR' : ∀ a, oR' a + (M3 1 R C).size a ≤ (M3 6 R C).size a) (oH' : Fin 2 → ℕ)
    (iH' : ∀ a, oH' a + (M2 R C).size a ≤ (M2 N C).size a) :
    Prog (TpuEff nD τ sig (Elt F) Λ₀ .tc) (BitVec 32) := do
  if h : cond = 1#1 then do
    copy hbm ring sems sq oS (iS h) oR (iR h) oH (iH h)
    pure ⟨⟩
  else do
    pure ⟨⟩
  Prog.lift (.waitDma2 ((sems.slice (Rect.unit (s := S6) oS' S1.size iS')).squeeze S_ squeezes_S1_S_).sem
    (hbm.slice (Rect.unit (s := M2 N C) oH' (M2 R C).size iH') (fun _ => rfl))
    ((ring.slice (Rect.unit (s := M3 6 R C) oR' (M3 1 R C).size iR') (fun _ => rfl)).squeeze (M2 R C) sq)
    (View.wordExact_bits rfl) ((View.wordExact_bits rfl).reshape _ _))
  pure v

/-- A trip: its head, then the slot read, cast and stored. -/
def trip (head : Prog (TpuEff nD τ sig (Elt F) Λ₀ .tc) (BitVec 32))
    (oL : Fin 3 → ℕ) (iL : ∀ a, oL a + (M3 1 R C).size a ≤ (M3 6 R C).size a)
    (lo : ring.view.LoadsAt (Rect.unit (s := M3 6 R C) oL (M3 1 R C).size iL).toLoadRect)
    (oD : Fin 2 → ℕ) (iD : ∀ a, oD a + (M2 R C).size a ≤ (M2 N' C).size a)
    (ld : dst.view.LoadsAt (Rect.unit (s := M2 N' C) oD (M2 R C).size iD).toLoadRect)
    (sd : (dst.access (Rect.unit (s := M2 N' C) oD (M2 R C).size iD)).Stores Finset.univ)
    (pay : Vec F (M3 1 R C) .f32 → FVec F (M2 R C) .bf16) :
    Prog (TpuEff nD τ sig (Elt F) Λ₀ .tc) Unit := do
  let _v : BitVec 32 ← head
  let x : Vec F (M3 1 R C) .f32 ← Prog.lift (.load ring (Rect.unit (s := M3 6 R C) oL (M3 1 R C).size iL).toLoadRect lo)
  let _y : Vec F (M2 R C) .bf16 ← Prog.lift (.load dst (Rect.unit (s := M2 N' C) oD (M2 R C).size iD).toLoadRect ld)
  Prog.lift (.store dst (Rect.unit (s := M2 N' C) oD (M2 R C).size iD) (pay x) Finset.univ sd (.inl rfl))
  pure ⟨⟩

end Prog

/-! ## The ring's state -/

section State

variable {R C N N' : ℕ} (c : Dev nD) (hbm : Memref sig .tc .hbm (M2 N C) .f32) (hN : 8 * R ≤ N)
  (ring : Memref sig .tc .vmem (M3 6 R C) .f32)
  (dst : Memref sig .tc .vmem (M2 N' C) .bf16) (hN' : 8 * R ≤ N')
  (sems : DmaSems sig S6) (sq : (M3 1 R C).Squeezes (M2 R C))
  (H : Buf (Elt F) (hbm.view.loc (c : Thread nD τ)))

abbrev srcB (b : ℕ) : Memref sig .tc .hbm (M2 R C) .f32 :=
  hbm.slice (Rect.unit (s := M2 N C) (offH R b) (M2 R C).size (inbH hN b)) (fun _ => rfl)

abbrev slotB (b : ℕ) : Memref sig .tc .vmem (M2 R C) .f32 :=
  (ring.slice (Rect.unit (s := M3 6 R C) (offR b) (M3 1 R C).size (inbR b)) (fun _ => rfl)).squeeze (M2 R C) sq

abbrev semB (b : ℕ) : DmaSem sig :=
  ((sems.slice (Rect.unit (s := S6) (offS b) S1.size (inbS b))).squeeze S_ squeezes_S1_S_).sem

abbrev rectD (b : ℕ) : Rect (M2 N' C) := Rect.unit (s := M2 N' C) (offH R b) (M2 R C).size (inbH hN' b)

/-- Block `b` of the weight in HBM. -/
def home (b : ℕ) : sProp 𝕄 :=
  iprop((srcB hbm hN b).view.loc (c : Thread nD τ) ↦[(srcB hbm hN b).view.set]{fullShare} H)

/-- Slot `b` and its semaphore, at rest. -/
def free (b : ℕ) : sProp 𝕄 :=
  iprop((∃ f, (slotB ring sq b).view.loc (c : Thread nD τ) ↦[(slotB ring sq b).view.set]{fullShare} f)
    ∗ semVal ((c : Thread nD τ), SemLoc.dma (semB sems b)) 0)

/-- The copy of block `b` into its slot, under way. -/
def flight (b : ℕ) : sProp 𝕄 :=
  iprop(∃ fd, Flight EC (c : Thread nD τ) (.dma (semB sems b)) () ((slotB ring sq b).view.dmaCredit)
    iprop(((slotB ring sq b).view.loc (c : Thread nD τ) ↦[(slotB ring sq b).view.set]{fullShare}
        ((slotB ring sq b).view.write (Elt F) fd ((srcB hbm hN b).view.read (Elt F) H) Finset.univ))
      ∗ (srcB hbm hN b).view.loc (c : Thread nD τ) ↦[(srcB hbm hN b).view.set]{fullShare} H))

/-- Copies up to `j` issued, up to `k` waited for. -/
def St (j k : ℕ) : sProp 𝕄 :=
  iprop(bigSep (Finset.Ico 0 k) (home c hbm hN H) ∗ bigSep (Finset.Ico j 8) (home c hbm hN H)
    ∗ bigSep (Finset.Ico k j) (flight c hbm hN ring sems sq H)
    ∗ bigSep (Finset.Ico j (k + 6)) (free (F := F) c ring sems sq))

/-- The slot a copy has filled, and its semaphore. -/
def filled (k : ℕ) : sProp 𝕄 :=
  iprop((∃ fd, (slotB ring sq k).view.loc (c : Thread nD τ) ↦[(slotB ring sq k).view.set]{fullShare}
      ((slotB ring sq k).view.write (Elt F) fd ((srcB hbm hN k).view.read (Elt F) H) Finset.univ))
    ∗ semVal ((c : Thread nD τ), SemLoc.dma (semB sems k)) 0)

theorem free_period (b : ℕ) : free (F := F) c ring sems sq (b + 6) = free c ring sems sq b := by
  have h : (b + 6) % 6 = b % 6 := by omega
  have hR : offR (b + 6) = offR b := by unfold offR; rw [h]
  have hS : offS (b + 6) = offS b := by unfold offS; rw [h]
  unfold free slotB semB
  rw [Memref.slice_unit_congr ring hR (inbR _) (inbR _), SemArray.slice_unit_congr sems hS (inbS _) (inbS _)]

/-- What the issue of copy `j` needs, out of the state. -/
theorem St_issue {j k : ℕ} (h8 : j < 8) (hk : k ≤ j) (hj : j < k + 6) :
    St c hbm hN ring sems sq H j k ⊢ iprop(home c hbm hN H j ∗ free c ring sems sq j
      ∗ (flight c hbm hN ring sems sq H j -∗ St c hbm hN ring sems sq H (j + 1) k)) := by
  unfold St
  rw [bigSep_Ico_succ_bot h8, bigSep_Ico_succ_bot hj, bigSep_Ico_succ_top hk]
  iintro ⟨Ha, ⟨Hb, Hc⟩, Hd, He, Hf⟩
  isplitl [Hb]; · iexact Hb
  isplitl [He]; · iexact He
  iintro Hg
  isplitl [Ha]; · iexact Ha
  isplitl [Hc]; · iexact Hc
  isplitl [Hd Hg]
  · isplitl [Hg]
    · iexact Hg
    · iexact Hd
  iexact Hf

/-- and what the wait for copy `k` needs; the slot comes back as the one six further. -/
theorem St_wait {j k : ℕ} (hk : k < j) (hj : j ≤ k + 6) :
    St c hbm hN ring sems sq H j k ⊢ iprop(flight c hbm hN ring sems sq H k
      ∗ (home c hbm hN H k -∗ free c ring sems sq k -∗ St c hbm hN ring sems sq H j (k + 1))) := by
  unfold St
  rw [bigSep_Ico_succ_bot hk, bigSep_Ico_succ_top (Nat.zero_le k),
    show k + 1 + 6 = (k + 6) + 1 from by omega, bigSep_Ico_succ_top hj, free_period]
  iintro ⟨Ha, Hc, ⟨Hb, Hd⟩, He⟩
  isplitl [Hb]; · iexact Hb
  iintro Hg Hf
  isplitl [Ha Hg]
  · isplitl [Hg]
    · iexact Hg
    · iexact Ha
  isplitl [Hc]; · iexact Hc
  isplitl [Hd]; · iexact Hd
  isplitl [Hf]
  · iexact Hf
  · iexact He

/-- The weakest precondition of a piece of the kernel's program. -/
abbrev wpK (c : Dev nD) {α : Type} (p : Prog (TpuEff nD τ sig (Elt F) Λ₀ .tc) α) (Q : α → sProp 𝕄) : sProp 𝕄 :=
  wp Idealize.ShloMosaic.frame (wpE (defs₀ (F := F)) Variants.none (c : Thread nD τ) none) Set.univ p Q

/-- A copy. -/
theorem copy_spec {α : Type} {Q : α → sProp 𝕄} (hRC : 0 < (M2 R C).numel) {j k : ℕ} (h8 : j < 8) (hk : k ≤ j) (hj : j < k + 6)
    {oS : Fin 1 → ℕ} {iS : ∀ a, oS a + S1.size a ≤ S6.size a} {oR : Fin 3 → ℕ}
    {iR : ∀ a, oR a + (M3 1 R C).size a ≤ (M3 6 R C).size a} {oH : Fin 2 → ℕ}
    {iH : ∀ a, oH a + (M2 R C).size a ≤ (M2 N C).size a}
    (eS : oS = offS j) (eR : oR = offR j) (eH : oH = offH R j) (kk : PUnit.{1} → Prog (TpuEff nD τ sig (Elt F) Λ₀ .tc) α) :
    St c hbm hN ring sems sq H j k
      ⊢ iprop((St c hbm hN ring sems sq H (j + 1) k
          -∗ wpK c (kk PUnit.unit) Q)
        -∗ wpK c
            (copy (F := F) hbm ring sems sq oS iS oR iR oH iH >>= kk) Q) := by
  subst eS eR eH
  refine (St_issue c hbm hN ring sems sq H h8 hk hj).trans ?_
  unfold copy home free
  rw [Prog.bind_lift]
  iintro ⟨Hh, ⟨⟨%fd, Hs⟩, Hv⟩, Hst⟩ Hk
  iapply (wp_dmaLocal EC Variants.none (c : Thread nD τ) none (q := fullShare) () ((slotB ring sq j).view.dmaCredit)
    rfl ((slotB ring sq j).view.dmaCredit_pos hRC) (Finset.Subset.refl _)) $$ [Hh Hs Hv]
  · isplitl [Hh]; · iexact Hh
    isplitl [Hs]; · iexact Hs
    iexact Hv
  iintro Hf
  iapply Hk
  iapply Hst
  unfold flight
  iexists fd
  iexact Hf

/-! ### A trip -/

/-- The cast weight's rows of the blocks before `k` are in place. -/
def Done (castB : FVec F (M2 R C) .f32 → FVec F (M2 R C) .bf16) (k : ℕ) (f : dst.view.ty.Contents (Elt F)) : Prop :=
  ∀ b, b < k → ∀ y, dst.view.read (Elt F) f ((rectD (C := C) hN' b).emb y)
    = castB ((srcB hbm hN b).view.read (Elt F) H) y

/-- The loop's invariant. -/
def ringInv (castB : FVec F (M2 R C) .f32 → FVec F (M2 R C) .bf16) (k : ℕ) : sProp 𝕄 :=
  iprop(St c hbm hN ring sems sq H (min (k + 5) 8) k ∗ (∃ W, owes (c : Thread nD τ) 0 W)
    ∗ ∃ f, ⌜Done c hbm hN dst hN' H castB k f⌝ ∗ (dst.view.loc (c : Thread nD τ) ↦{fullShare} f))

/-- A store of block `k` into its rows leaves the earlier blocks' rows alone. -/
theorem Done_succ {castB : FVec F (M2 R C) .f32 → FVec F (M2 R C) .bf16} {k : ℕ} (hk : k < 8)
    {f : dst.view.ty.Contents (Elt F)} (h : Done c hbm hN dst hN' H castB k f) :
    Done c hbm hN dst hN' H castB (k + 1)
      ((dst.access (rectD (C := C) hN' k)).write (Elt F) f (castB ((srcB hbm hN k).view.read (Elt F) H)) Finset.univ) := by
  intro b hb y
  rcases Nat.lt_succ_iff_lt_or_eq.mp hb with hlt | rfl
  · rw [← h b hlt y]
    refine View.read_slice_write_of_not_mem _ _ _ _ ?_
    intro hm
    obtain ⟨x, -, hx⟩ := Finset.mem_map.mp hm
    have h0 := congrArg (fun i : (M2 N' C).Idx => (i 0 : ℕ)) hx
    have hx0 : (x 0 : ℕ) < R := (x 0).isLt
    have hy0 : (y 0 : ℕ) < R := (y 0).isLt
    have h1 : R * (k % 8) + 1 * (x 0 : ℕ) = R * (b % 8) + 1 * (y 0 : ℕ) := h0
    rw [Nat.mod_eq_of_lt hk, Nat.mod_eq_of_lt (hlt.trans hk)] at h1
    have h2 : R * (b + 1) ≤ R * k := Nat.mul_le_mul_left R hlt
    rw [Nat.mul_succ] at h2
    omega
  · exact View.read_slice_write_emb _ _ _ (Finset.mem_univ y)

theorem trip_spec (hRC : 0 < (M2 R C).numel) {k : ℕ} (hk : k < 8)
    {cond : BitVec 1} {v : BitVec 32} (hc : cond = 1#1 ↔ k + 5 < 8)
    {oS : Fin 1 → ℕ} {iS : cond = 1#1 → ∀ a, oS a + S1.size a ≤ S6.size a} {oR : Fin 3 → ℕ}
    {iR : cond = 1#1 → ∀ a, oR a + (M3 1 R C).size a ≤ (M3 6 R C).size a} {oH : Fin 2 → ℕ}
    {iH : cond = 1#1 → ∀ a, oH a + (M2 R C).size a ≤ (M2 N C).size a}
    (eS : cond = 1#1 → oS = offS (k + 5)) (eR : cond = 1#1 → oR = offR (k + 5)) (eH : cond = 1#1 → oH = offH R (k + 5))
    {oS' : Fin 1 → ℕ} {iS' : ∀ a, oS' a + S1.size a ≤ S6.size a} {oR' : Fin 3 → ℕ}
    {iR' : ∀ a, oR' a + (M3 1 R C).size a ≤ (M3 6 R C).size a} {oH' : Fin 2 → ℕ}
    {iH' : ∀ a, oH' a + (M2 R C).size a ≤ (M2 N C).size a}
    (eS' : oS' = offS k) (eR' : oR' = offR k)
    {oL : Fin 3 → ℕ} {iL : ∀ a, oL a + (M3 1 R C).size a ≤ (M3 6 R C).size a}
    {lo : ring.view.LoadsAt (Rect.unit (s := M3 6 R C) oL (M3 1 R C).size iL).toLoadRect}
    {oD : Fin 2 → ℕ} {iD : ∀ a, oD a + (M2 R C).size a ≤ (M2 N' C).size a}
    {ld : dst.view.LoadsAt (Rect.unit (s := M2 N' C) oD (M2 R C).size iD).toLoadRect}
    {sd : (dst.access (Rect.unit (s := M2 N' C) oD (M2 R C).size iD)).Stores Finset.univ} (eL : oL = offR k) (eD : oD = offH R k)
    {pay : Vec F (M3 1 R C) .f32 → FVec F (M2 R C) .bf16} {castB : FVec F (M2 R C) .f32 → FVec F (M2 R C) .bf16}
    (sc : (M3 1 R C).ShapeCasts (M2 R C)) (hpay : ∀ x, pay x = castB (shapeCast (M2 R C) x sc)) :
    ringInv c hbm hN ring dst hN' sems sq H castB k
      ⊢ wpK c
          (trip (F := F) ring dst (tripHead (F := F) hbm ring sems sq cond v oS iS oR iR oH iH oS' iS' oR' iR' oH' iH')
            oL iL lo oD iD ld sd pay) (fun _ => ringInv c hbm hN ring dst hN' sems sq H castB (k + 1)) := by
  subst eS' eR' eL eD
  have hrest : ∀ j, j = min (k + 1 + 5) 8 →
      iprop(St c hbm hN ring sems sq H j k ∗ (∃ W, owes (c : Thread nD τ) 0 W)
        ∗ ∃ f, ⌜Done c hbm hN dst hN' H castB k f⌝ ∗ (dst.view.loc (c : Thread nD τ) ↦{fullShare} f))
      ⊢ wpK c
          (Prog.lift (.waitDma2 ((sems.slice (Rect.unit (s := S6) (offS k) S1.size iS')).squeeze S_ squeezes_S1_S_).sem
            (hbm.slice (Rect.unit (s := M2 N C) oH' (M2 R C).size iH') (fun _ => rfl))
            ((ring.slice (Rect.unit (s := M3 6 R C) (offR k) (M3 1 R C).size iR') (fun _ => rfl)).squeeze (M2 R C) sq)
            (View.wordExact_bits rfl) ((View.wordExact_bits rfl).reshape _ _)) >>= fun _ =>
           Prog.lift (.load ring (Rect.unit (s := M3 6 R C) (offR k) (M3 1 R C).size iL).toLoadRect lo) >>= fun x =>
           Prog.lift (.load dst (Rect.unit (s := M2 N' C) (offH R k) (M2 R C).size iD).toLoadRect ld) >>= fun _ =>
           Prog.lift (.store dst (Rect.unit (s := M2 N' C) (offH R k) (M2 R C).size iD) (pay x) Finset.univ sd (.inl rfl)) >>= fun _ =>
           (pure () : Prog (TpuEff nD τ sig (Elt F) Λ₀ .tc) Unit))
          (fun _ => ringInv c hbm hN ring dst hN' sems sq H castB (k + 1)) := by
    rintro j rfl
    simp only [Prog.bind_lift]
    iintro ⟨HS, ⟨%W, HW⟩, %f, %hf, Hd⟩
    ihave HS2 := (St_wait c hbm hN ring sems sq H (k := k) (j := min (k + 1 + 5) 8) (by omega) (by omega)) $$ HS
    icases HS2 with ⟨Hf, Hback⟩
    unfold flight
    icases Hf with ⟨%fd, Hf⟩
    iapply (wp_waitLocal EC Variants.none (c : Thread nD τ) none () (N := (slotB ring sq k).view.dmaCredit) rfl) $$ [Hf HW]
    · isplitl [Hf]; · iexact Hf
      iexact HW
    iintro ⟨⟨Hs, Hh⟩, Hv, HW⟩
    iapply (wp_load_rect (defs := defs₀ (F := F)) Variants.none (c : Thread nD τ) none Set.univ
      (S := (slotB ring sq k).view.set) (by rw [View.set_reshape])) $$ Hs
    iintro Hs
    iapply (wp_load (defs := defs₀ (F := F)) Variants.none (c : Thread nD τ) none Set.univ (Finset.subset_univ _)) $$ Hd
    iintro Hd
    iapply (wp_store (defs := defs₀ (F := F)) Variants.none (c : Thread nD τ) none Set.univ
      (m := dst) (r := rectD (C := C) hN' k) (f := f) (S := Finset.univ) (Finset.subset_univ _)) $$ Hd
    iintro Hd
    sl_step
    unfold ringInv
    isplitl [Hback Hs Hh Hv]
    · iapply Hback $$ [Hh]
      · unfold home; iexact Hh
      unfold free
      isplitl [Hs]
      · iexists _; iexact Hs
      iexact Hv
    isplitl [HW]
    · iexists _; iexact HW
    iexists _
    isplitr
    rotate_left
    · iexact Hd
    ipureintro
    have e : pay ((ring.access (Rect.unit (s := M3 6 R C) (offR k) (M3 1 R C).size iL)).read (Elt F)
        ((slotB ring sq k).view.write (Elt F) fd ((srcB hbm hN k).view.read (Elt F) H) Finset.univ))
        = castB ((srcB hbm hN k).view.read (Elt F) H) := by
      rw [hpay]
      exact congrArg castB (View.read_write_univ (v := (slotB ring sq k).view) fd _)
    rw [e]
    exact Done_succ c hbm hN dst hN' H hk hf
  unfold trip tripHead
  by_cases h : cond = 1#1
  · have h5 : k + 5 < 8 := hc.mp h
    rw [dif_pos h]
    simp only [Prog.bind_assoc, Prog.bind_pure, pure_bind]
    unfold ringInv
    rw [show min (k + 5) 8 = k + 5 from by omega]
    iintro ⟨HS, HR⟩
    iapply (copy_spec c hbm hN ring sems sq H hRC h5 (by omega) (by omega) (eS h) (eR h) (eH h)) $$ HS
    iintro HS
    iapply (hrest (k + 5 + 1) (by omega))
    isplitl [HS] <;> iassumption
  · have h5 : ¬ k + 5 < 8 := fun h5 => h (hc.mpr h5)
    rw [dif_neg h]
    simp only [Prog.bind_assoc, Prog.bind_pure, pure_bind]
    unfold ringInv
    exact hrest (min (k + 5) 8) (by omega)

end State

end Cert.KernelIdeal.Hand
-- ==== Proof.Bring.lean ====
/-
  One weight brought whole: the ring entered, the loop run, the ring left at rest.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueLayout
public import Idealize.SL.BI.BigOpNat
public import Idealize.ShloMosaic.Lib.ReshapeSlab
public import proofs.«01_k».proof.Proof.Ring

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

/-- The resource algebra: the pipeline library's beside the transfers' counters. -/
local notation "𝕄" => MT nD τ sig Unit (Elt F) ℕ (Pipeline.UD sig nD τ) ℕ

/-! ## An array in disjoint pieces -/

theorem whole_pieces {ℓ : Loc nD τ sig} (n : ℕ) (K : ℕ → Finset (Idx ℓ))
    (hd : ∀ b, b < n → ∀ b', b' < n → b ≠ b' → Disjoint (K b) (K b')) (H : Buf (Elt F) ℓ) :
    (ℓ ↦{fullShare} H : sProp 𝕄)
      ⊢ iprop(bigSep (Finset.Ico 0 n) (fun b => ℓ ↦[K b]{fullShare} H)
        ∗ (bigSep (Finset.Ico 0 n) (fun b => ℓ ↦[K b]{fullShare} H) -∗ ℓ ↦{fullShare} H)) := by
  rw [← pointsTo_biUnion (Finset.Ico 0 n) K
    (fun b hb b' hb' hne => hd b (Finset.mem_Ico.mp hb).2 b' (Finset.mem_Ico.mp hb').2 hne)]
  have hs := pointsTo_split_subset (Ix := Unit) (Name := ℕ) (U := Pipeline.UD sig nD τ) (Lvl := ℕ) (q := fullShare) (f := H)
    (Finset.subset_univ ((Finset.Ico 0 n).biUnion K))
  iintro HH
  ihave HH2 := hs.1 $$ HH
  icases HH2 with ⟨Ha, Hb⟩
  isplitl [Ha]; · iexact Ha
  iintro Ha
  iapply hs.2
  isplitl [Ha]; · iexact Ha
  iexact Hb

theorem whole_any_pieces {ℓ : Loc nD τ sig} (n : ℕ) (K : ℕ → Finset (Idx ℓ))
    (hd : ∀ b, b < n → ∀ b', b' < n → b ≠ b' → Disjoint (K b) (K b')) :
    (iprop(∃ f : Buf (Elt F) ℓ, ℓ ↦{fullShare} f) : sProp 𝕄)
      ⊢ iprop(bigSep (Finset.Ico 0 n) (fun b => iprop(∃ f : Buf (Elt F) ℓ, ℓ ↦[K b]{fullShare} f))
        ∗ (bigSep (Finset.Ico 0 n) (fun b => iprop(∃ f : Buf (Elt F) ℓ, ℓ ↦[K b]{fullShare} f))
          -∗ ∃ f : Buf (Elt F) ℓ, ℓ ↦{fullShare} f)) := by
  have hd' : ∀ t ∈ Finset.Ico 0 n, ∀ t' ∈ Finset.Ico 0 n, t ≠ t' → Disjoint (K t) (K t') :=
    fun b hb b' hb' hne => hd b (Finset.mem_Ico.mp hb).2 b' (Finset.mem_Ico.mp hb').2 hne
  have hsub := Finset.subset_univ ((Finset.Ico 0 n).biUnion K)
  iintro ⟨%f, Hr⟩
  ihave Hr2 := ((pointsTo_split_subset hsub).1) $$ Hr
  icases Hr2 with ⟨Ha, Hb⟩
  have e : (ℓ ↦[(Finset.Ico 0 n).biUnion K]{fullShare} f : sProp 𝕄)
      ⊢ bigSep (Finset.Ico 0 n) (fun b => iprop(∃ f : Buf (Elt F) ℓ, ℓ ↦[K b]{fullShare} f)) := by
    rw [pointsTo_biUnion (Finset.Ico 0 n) K hd']
    refine bigSep_mono fun b _ => ?_
    show (ℓ ↦[K b]{fullShare} f : sProp 𝕄) ⊢ iprop(∃ f : Buf (Elt F) ℓ, ℓ ↦[K b]{fullShare} f)
    iintro H
    iexists f; iexact H
  isplitl [Ha]
  · iapply e; iexact Ha
  iintro Hs
  haveI : Nonempty (Buf (Elt F) ℓ) := ⟨f⟩
  ihave Hs2 := (bigSep_exists_pi (Finset.Ico 0 n) (fun b (g : Buf (Elt F) ℓ) => (ℓ ↦[K b]{fullShare} g : sProp 𝕄))) $$ Hs
  icases Hs2 with ⟨%fs, Hs⟩
  ihave Hs2 := (pointsTo_biUnion_join (Finset.Ico 0 n) K fs f hd') $$ Hs
  icases Hs2 with ⟨%g, -, Hs⟩
  iexists _
  iapply (pointsTo_join_subset hsub)
  isplitl [Hs]; · iexact Hs
  iexact Hb

/-- The rows of the weight that the ring brings. -/
abbrev headRect {N N' C : ℕ} (h : N' ≤ N) : Rect (M2 N C) :=
  Rect.unit (s := M2 N C) ![0, 0] (M2 N' C).size (Fin.forall_fin_two.mpr ⟨show 0 + N' ≤ N by omega, show 0 + C ≤ C by omega⟩)

/-! ## Entering the loop and leaving it -/

section Enter

variable {R C N N' : ℕ} (c : Dev nD) (hbm : Memref sig .tc .hbm (M2 N C) .f32) (hN : 8 * R ≤ N)
  (ring : Memref sig .tc .vmem (M3 6 R C) .f32)
  (dst : Memref sig .tc .vmem (M2 N' C) .bf16) (hN' : 8 * R ≤ N')
  (sems : DmaSems sig S6) (sq : (M3 1 R C).Squeezes (M2 R C))
  (H : Buf (Elt F) (hbm.view.loc (c : Thread nD τ)))

theorem src_disjoint {b b' : ℕ} (hb : b < 8) (hb' : b' < 8) (h : b ≠ b') :
    Disjoint (srcB hbm hN b).view.set (srcB hbm hN b').view.set := by
  refine View.disjoint_slice_of_sep hbm.view _ _ (0 : Fin 2) rfl rfl ?_
  show R * (b % 8) + R ≤ R * (b' % 8) ∨ R * (b' % 8) + R ≤ R * (b % 8)
  rw [Nat.mod_eq_of_lt hb, Nat.mod_eq_of_lt hb', ← Nat.mul_succ, ← Nat.mul_succ]
  rcases Nat.lt_or_gt_of_ne h with h | h
  · exact Or.inl (Nat.mul_le_mul_left R h)
  · exact Or.inr (Nat.mul_le_mul_left R h)

theorem slot_disjoint {b b' : ℕ} (hb : b < 6) (hb' : b' < 6) (h : b ≠ b') :
    Disjoint (slotB ring sq b).view.set (slotB ring sq b').view.set := by
  have e : ∀ b, (slotB ring sq b).view.set
      = (ring.view.slice (Rect.unit (s := M3 6 R C) (offR b) (M3 1 R C).size (inbR b))).set := fun b => View.set_reshape _ _
  rw [e, e]
  refine View.disjoint_slice_of_sep ring.view _ _ (0 : Fin 3) rfl rfl ?_
  show b % 6 + 1 ≤ b' % 6 ∨ b' % 6 + 1 ≤ b % 6
  omega

/-- The semaphores of the six slots at rest. -/
def cells0 : sProp 𝕄 :=
  bigSep (Finset.Ico 0 6) fun b => semVal ((c : Thread nD τ), SemLoc.dma (semB sems b)) 0

/-- What the loop takes and gives back: the weight in HBM, the ring, its semaphores. -/
def atRest : sProp 𝕄 :=
  iprop((hbm.view.loc (c : Thread nD τ) ↦{fullShare} H)
    ∗ (∃ f, ring.view.loc (c : Thread nD τ) ↦{fullShare} f) ∗ cells0 (F := F) c sems)

theorem home_all : (hbm.view.loc (c : Thread nD τ) ↦{fullShare} H : sProp 𝕄)
    ⊢ iprop(bigSep (Finset.Ico 0 8) (home c hbm hN H)
      ∗ (bigSep (Finset.Ico 0 8) (home c hbm hN H) -∗ hbm.view.loc (c : Thread nD τ) ↦{fullShare} H)) :=
  whole_pieces (ℓ := hbm.view.loc (c : Thread nD τ)) 8 (fun b => (srcB hbm hN b).view.set)
    (fun b hb b' hb' hne => src_disjoint hbm hN hb hb' hne) H

theorem free_all : iprop((∃ f, ring.view.loc (c : Thread nD τ) ↦{fullShare} f) ∗ cells0 (F := F) c sems : sProp 𝕄)
    ⊢ iprop(bigSep (Finset.Ico 0 6) (free (F := F) c ring sems sq)
      ∗ (bigSep (Finset.Ico 0 6) (free (F := F) c ring sems sq)
        -∗ ((∃ f, ring.view.loc (c : Thread nD τ) ↦{fullShare} f) ∗ cells0 (F := F) c sems))) := by
  have hsep : bigSep (Finset.Ico 0 6) (free (F := F) c ring sems sq)
      = iprop(bigSep (Finset.Ico 0 6) (fun b => iprop(∃ f, (slotB ring sq b).view.loc (c : Thread nD τ) ↦[(slotB ring sq b).view.set]{fullShare} f))
        ∗ cells0 (F := F) c sems : sProp 𝕄) := bigSep_sep _ _ _
  have hp := whole_any_pieces (F := F) (ℓ := ring.view.loc (c : Thread nD τ)) 6 (fun b => (slotB ring sq b).view.set)
    (fun b hb b' hb' hne => slot_disjoint ring sq hb hb' hne)
  rw [hsep]
  iintro ⟨Hr, Hc⟩
  ihave Hr2 := hp $$ Hr
  icases Hr2 with ⟨Ha, Hb⟩
  isplitl [Ha Hc]
  · isplitl [Ha]
    · iexact Ha
    · iexact Hc
  iintro ⟨Hs, Hc⟩
  isplitr [Hc]
  · iapply Hb; iexact Hs
  · iexact Hc

/-- In and out again. -/
theorem St_enter : atRest c hbm ring sems H
    ⊢ iprop(St c hbm hN ring sems sq H 0 0 ∗ (St c hbm hN ring sems sq H 8 8 -∗ atRest c hbm ring sems H)) := by
  have h6 : bigSep (Finset.Ico 8 (8 + 6)) (free (F := F) c ring sems sq)
      ⊢ bigSep (Finset.Ico 0 6) (free (F := F) c ring sems sq) := by
    have e : ∀ b, free (F := F) c ring sems sq (b + 6) = free c ring sems sq b := free_period c ring sems sq
    rw [bigSep_Ico_succ_bot (show 8 < 8 + 6 by decide), bigSep_Ico_succ_bot (show 8 + 1 < 8 + 6 by decide),
      bigSep_Ico_succ_bot (show 8 + 1 + 1 < 8 + 6 by decide), bigSep_Ico_succ_bot (show 8 + 1 + 1 + 1 < 8 + 6 by decide),
      bigSep_Ico_succ_bot (show 8 + 1 + 1 + 1 + 1 < 8 + 6 by decide), bigSep_Ico_succ_bot (show 8 + 1 + 1 + 1 + 1 + 1 < 8 + 6 by decide),
      bigSep_Ico_succ_bot (show 0 < 6 by decide), bigSep_Ico_succ_bot (show 0 + 1 < 6 by decide),
      bigSep_Ico_succ_bot (show 0 + 1 + 1 < 6 by decide), bigSep_Ico_succ_bot (show 0 + 1 + 1 + 1 < 6 by decide),
      bigSep_Ico_succ_bot (show 0 + 1 + 1 + 1 + 1 < 6 by decide), bigSep_Ico_succ_bot (show 0 + 1 + 1 + 1 + 1 + 1 < 6 by decide)]
    rw [show (8 : ℕ) = 2 + 6 from rfl, e 2, show (2 + 6 + 1 : ℕ) = 3 + 6 from rfl, e 3, show (3 + 6 + 1 : ℕ) = 4 + 6 from rfl, e 4,
      show (4 + 6 + 1 : ℕ) = 5 + 6 from rfl, e 5, show (5 + 6 + 1 : ℕ) = 0 + 6 + 6 from rfl, e (0 + 6), e 0,
      show (0 + 6 + 6 + 1 : ℕ) = 1 + 6 + 6 from rfl, e (1 + 6), e 1]
    iintro ⟨H2, H3, H4, H5, H0, H1, -⟩
    isplitl [H0]; · iexact H0
    isplitl [H1]; · iexact H1
    isplitl [H2]; · iexact H2
    isplitl [H3]; · iexact H3
    isplitl [H4]; · iexact H4
    isplitl [H5]; · iexact H5
    rw [Finset.Ico_eq_empty (by decide), bigSep_empty]
    iempintro
  unfold atRest
  iintro ⟨HH, Hr⟩
  ihave HH2 := (home_all c hbm hN H) $$ HH
  icases HH2 with ⟨Hh, Hrest⟩
  ihave Hr2 := (free_all (F := F) c ring sems sq) $$ Hr
  icases Hr2 with ⟨Hf, Hback⟩
  isplitl [Hh Hf]
  · unfold St
    rw [Finset.Ico_self, bigSep_empty, bigSep_empty]
    isplitr; · iempintro
    isplitl [Hh]; · iexact Hh
    isplitr; · iempintro
    iexact Hf
  iintro HS
  unfold St
  icases HS with ⟨Hh, -, -, Hf⟩
  isplitl [Hh Hrest]
  · iapply Hrest
    iexact Hh
  iapply Hback
  iapply h6
  iexact Hf

/-! ## The whole of one weight -/

/-- The weight cast, entry by entry. -/
def castW (h : N' ≤ N) (cst : F .f32 → F .bf16) : Vec F (M2 N' C) .bf16 :=
  fun y => cst (hbm.view.read (Elt F) H ((headRect (C := C) (N := N) h).emb y))

theorem Done_all (h8 : 8 * R = N') (h : N' ≤ N) {cst : F .f32 → F .bf16} {f : dst.view.ty.Contents (Elt F)}
    (hD : Done c hbm hN dst hN' H (fun v y => cst (v y)) 8 f) : dst.view.read (Elt F) f = castW c hbm H h cst := by
  subst h8
  funext y
  have hR : 0 < R := by
    have : (y 0 : ℕ) < 8 * R := (y 0).isLt
    omega
  have hb : (y 0 : ℕ) / R < 8 := Nat.div_lt_of_lt_mul (Nat.lt_of_lt_of_eq (show (y 0 : ℕ) < 8 * R from (y 0).isLt) (Nat.mul_comm 8 R))
  have hm : (y 0 : ℕ) % R < R := Nat.mod_lt _ hR
  obtain ⟨z, hz0, hz1⟩ : ∃ z : (M2 R C).Idx, (z 0 : ℕ) = (y 0 : ℕ) % R ∧ (z 1 : ℕ) = (y 1 : ℕ) :=
    ⟨Fin.cons ⟨_, hm⟩ (Fin.cons ⟨(y 1 : ℕ), (y 1).isLt⟩ (fun i => i.elim0)), rfl, rfl⟩
  have e1 : y = (rectD (R := R) (C := C) hN' ((y 0 : ℕ) / R)).emb z := by
    refine funext (Fin.forall_fin_two.mpr ⟨Fin.ext ?_, Fin.ext ?_⟩)
    · show (y 0 : ℕ) = R * ((y 0 : ℕ) / R % 8) + 1 * (z 0 : ℕ)
      rw [Nat.mod_eq_of_lt hb, hz0, Nat.one_mul]
      exact (Nat.div_add_mod _ _).symm
    · show (y 1 : ℕ) = 0 + 1 * (z 1 : ℕ)
      omega
  have e2 : (headRect (C := C) (N := N) h).emb y = (Rect.unit (s := M2 N C) (offH R ((y 0 : ℕ) / R)) (M2 R C).size (inbH hN _)).emb z := by
    refine funext (Fin.forall_fin_two.mpr ⟨Fin.ext ?_, Fin.ext ?_⟩)
    · show 0 + 1 * (y 0 : ℕ) = R * ((y 0 : ℕ) / R % 8) + 1 * (z 0 : ℕ)
      rw [Nat.mod_eq_of_lt hb, hz0, Nat.one_mul, Nat.one_mul, Nat.zero_add]
      exact (Nat.div_add_mod _ _).symm
    · show 0 + 1 * (y 1 : ℕ) = 0 + 1 * (z 1 : ℕ)
      omega
  have e3 := hD _ hb z
  unfold castW
  rw [e2]
  refine Eq.trans ?_ e3
  exact congrArg (dst.view.read (Elt F) f) e1

/-- The copy of block `b`. -/
abbrev copyB (b : ℕ) : Prog (TpuEff nD τ sig (Elt F) Λ₀ .tc) PUnit :=
  copy (F := F) hbm ring sems sq (offS b) (inbS b) (offR b) (inbR b) (offH R b) (inbH hN b)

/-- Five copies ahead, then the loop. -/
def bring (L : Scf.Loop 32) (hok : L.OK) (body : Fin L.trips → Unit → Prog (TpuEff nD τ sig (Elt F) Λ₀ .tc) Unit) :
    Prog (TpuEff nD τ sig (Elt F) Λ₀ .tc) Unit := do
  copyB (F := F) hbm hN ring sems sq 0
  copyB (F := F) hbm hN ring sems sq 1
  copyB (F := F) hbm hN ring sems sq 2
  copyB (F := F) hbm hN ring sems sq 3
  copyB (F := F) hbm hN ring sems sq 4
  Scf.Loop.for L hok ⟨⟩ body

theorem bring_spec {α : Type} {Q : α → sProp 𝕄} (hRC : 0 < (M2 R C).numel) (h8 : 8 * R = N') (h : N' ≤ N)
    {L : Scf.Loop 32} {hok : L.OK} {body : Fin L.trips → Unit → Prog (TpuEff nD τ sig (Elt F) Λ₀ .tc) Unit}
    (hL : L.trips = 8) {cst : F .f32 → F .bf16}
    (hbody : ∀ (k : Fin L.trips) (acc : Unit), ringInv c hbm hN ring dst hN' sems sq H (fun v y => cst (v y)) k
      ⊢ wpK c (body k acc) (fun _ => ringInv c hbm hN ring dst hN' sems sq H (fun v y => cst (v y)) (k + 1)))
    (kk : Unit → Prog (TpuEff nD τ sig (Elt F) Λ₀ .tc) α) :
    iprop(atRest c hbm ring sems H ∗ (∃ W, owes (c : Thread nD τ) 0 W) ∗ (∃ f, dst.view.loc (c : Thread nD τ) ↦{fullShare} f))
      ⊢ iprop((iprop(atRest c hbm ring sems H ∗ (∃ W, owes (c : Thread nD τ) 0 W)
            ∗ (∃ f, ⌜dst.view.read (Elt F) f = castW c hbm H h cst⌝ ∗ dst.view.loc (c : Thread nD τ) ↦{fullShare} f))
          -∗ wpK c (kk ()) Q)
        -∗ wpK c (bring (F := F) hbm hN ring sems sq L hok body >>= kk) Q) := by
  unfold bring
  simp only [Prog.bind_assoc]
  iintro ⟨HA, HW, %f, Hd⟩ HK
  ihave HA2 := (St_enter c hbm hN ring sems sq H) $$ HA
  icases HA2 with ⟨HS, Hback⟩
  iapply (copy_spec c hbm hN ring sems sq H hRC (j := 0) (k := 0) (by omega) (by omega) (by omega) rfl rfl rfl) $$ HS
  iintro HS
  iapply (copy_spec c hbm hN ring sems sq H hRC (j := 1) (k := 0) (by omega) (by omega) (by omega) rfl rfl rfl) $$ HS
  iintro HS
  iapply (copy_spec c hbm hN ring sems sq H hRC (j := 2) (k := 0) (by omega) (by omega) (by omega) rfl rfl rfl) $$ HS
  iintro HS
  iapply (copy_spec c hbm hN ring sems sq H hRC (j := 3) (k := 0) (by omega) (by omega) (by omega) rfl rfl rfl) $$ HS
  iintro HS
  iapply (copy_spec c hbm hN ring sems sq H hRC (j := 4) (k := 0) (by omega) (by omega) (by omega) rfl rfl rfl) $$ HS
  iintro HS
  iapply (Scf.wp_for_bind Idealize.ShloMosaic.frame (wpE (defs₀ (F := F)) Variants.none (c : Thread nD τ) none) Set.univ
    L.lb L.ub L.st hok ⟨⟩ body (fun k _ => ringInv c hbm hN ring dst hN' sems sq H (fun v y => cst (v y)) k) hbody) $$ [HS HW Hd]
  · unfold ringInv
    isplitl [HS]; · iexact HS
    isplitl [HW]; · iexact HW
    iexists f
    isplitr
    · ipureintro
      intro b hb
      exact absurd hb (Nat.not_lt_zero b)
    iexact Hd
  iintro %acc HI
  rw [show Scf.trips L.lb L.ub L.st = 8 from hL]
  unfold ringInv
  icases HI with ⟨HS, HW, %g, %hg, Hd⟩
  iapply HK
  isplitl [HS Hback]
  · iapply Hback; iexact HS
  isplitl [HW]; · iexact HW
  iexists g
  isplitr
  · ipureintro
    exact Done_all c hbm hN dst hN' H h8 h hg
  iexact Hd

end Enter

end Cert.KernelIdeal.Hand
-- ==== Proof.Load.lean ====
/-
  The kernel's first grid step: the four weights brought in, each through its ring, and the tail of the last one
  through a copy of its own.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueLayout
public import Idealize.SL.BI.BigOpNat
public import proofs.«01_k».proof.Proof.Bring

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

/-- The resource algebra: the pipeline library's beside the transfers' counters. -/
local notation "𝕄" => MT nD τ sig Unit (Elt F) ℕ (Pipeline.UD sig nD τ) ℕ

/-! ## The trips of the four loops are instances of one -/

theorem trips_t1 : k0_t1_loop.trips = 8 := by decide
theorem cond_t1 : ∀ k : Fin k0_t1_loop.trips, k0_cond2 k = 1#1 ↔ k.val + 5 < 8 := by decide
theorem offs_t1 : ∀ k : Fin k0_t1_loop.trips, (k0_cond2 k = 1#1 → k0_off1 k = offS (k + 5) ∧ k0_off2 k = offR (k + 5)
    ∧ k0_off3 k = offH 128 (k + 5)) ∧ k0_off4 k = offS k ∧ k0_off5 k = offR k ∧ k0_off7 k = offR k
    ∧ k0_off8 k = offH 128 k := by decide
theorem trips_t2 : k0_t2_loop.trips = 8 := by decide
theorem cond_t2 : ∀ k : Fin k0_t2_loop.trips, k0_cond3 k = 1#1 ↔ k.val + 5 < 8 := by decide
theorem offs_t2 : ∀ k : Fin k0_t2_loop.trips, (k0_cond3 k = 1#1 → k0_off9 k = offS (k + 5) ∧ k0_off10 k = offR (k + 5)
    ∧ k0_off11 k = offH 128 (k + 5)) ∧ k0_off12 k = offS k ∧ k0_off13 k = offR k ∧ k0_off15 k = offR k
    ∧ k0_off16 k = offH 128 k := by decide
theorem trips_t3 : k0_t3_loop.trips = 8 := by decide
theorem cond_t3 : ∀ k : Fin k0_t3_loop.trips, k0_cond4 k = 1#1 ↔ k.val + 5 < 8 := by decide
theorem offs_t3 : ∀ k : Fin k0_t3_loop.trips, (k0_cond4 k = 1#1 → k0_off17 k = offS (k + 5) ∧ k0_off18 k = offR (k + 5)
    ∧ k0_off19 k = offH 352 (k + 5)) ∧ k0_off20 k = offS k ∧ k0_off21 k = offR k ∧ k0_off23 k = offR k
    ∧ k0_off24 k = offH 352 k := by decide
theorem trips_t4 : k0_t4_loop.trips = 8 := by decide
theorem cond_t4 : ∀ k : Fin k0_t4_loop.trips, k0_cond5 k = 1#1 ↔ k.val + 5 < 8 := by decide
theorem offs_t4 : ∀ k : Fin k0_t4_loop.trips, (k0_cond5 k = 1#1 → k0_off25 k = offS (k + 5) ∧ k0_off26 k = offR (k + 5)
    ∧ k0_off27 k = offH 384 (k + 5)) ∧ k0_off28 k = offS k ∧ k0_off29 k = offR k ∧ k0_off31 k = offR k
    ∧ k0_off32 k = offH 384 k := by decide

/-- The cast of an entry. -/
abbrev cst : F .f32 → F .bf16 := FloatOps.truncf (F := F) .bf16 bitsLt_bf16_f32

theorem pay_t1 (x : Vec F S1x128x2816 .f32) :
    k0_pay2 x = (fun y => cst (shapeCast (M2 128 2816) x shapeCasts_S1x128x2816_S128x2816 y)) := by
  unfold k0_pay2
  exact shapeCast_self _ _
theorem pay_t2 (x : Vec F S1x128x2816 .f32) :
    k0_pay3 x = (fun y => cst (shapeCast (M2 128 2816) x shapeCasts_S1x128x2816_S128x2816 y)) := by
  unfold k0_pay3
  exact shapeCast_self _ _
theorem pay_t3 (x : Vec F S1x352x1024 .f32) :
    k0_pay4 x = (fun y => cst (shapeCast (M2 352 1024) x shapeCasts_S1x352x1024_S352x1024 y)) := by
  unfold k0_pay4
  exact shapeCast_self _ _
theorem pay_t4 (x : Vec F S1x384x1024 .f32) :
    k0_pay5 x = (fun y => cst (shapeCast (M2 384 1024) x shapeCasts_S1x384x1024_S384x1024 y)) := by
  unfold k0_pay5
  exact shapeCast_self _ _

section

variable (arg1 : Memref sig .tc .vmem S512x1024 .f32) (harg1 : arg1.IsWhole) (arg2 : Memref sig .tc .vmem S512x128 .f32) (harg2
  : arg2.IsWhole) (arg3 : Memref sig .tc .vmem S512x128 .f32) (harg3 : arg3.IsWhole) (arg4 : Memref sig .tc .vmem
  S1x1024 .f32) (harg4 : arg4.IsWhole) (arg5 : Memref sig .tc .hbm S1024x2816 .f32) (harg5 : arg5.IsWhole) (arg6 :
  Memref sig .tc .hbm S1024x2816 .f32) (harg6 : arg6.IsWhole) (arg7 : Memref sig .tc .hbm S2816x1024 .f32) (harg7 :
  arg7.IsWhole) (arg8 : Memref sig .tc .vmem S1x1024 .f32) (harg8 : arg8.IsWhole) (arg9 : Memref sig .tc .hbm S3088x1024
  .f32) (harg9 : arg9.IsWhole) (arg10 : Memref sig .tc .vmem S128x256 .bf16) (harg10 : arg10.IsWhole) (arg11 : Memref
  sig .tc .vmem S1x256 .f32) (harg11 : arg11.IsWhole) (arg12 : Memref sig .tc .vmem S32x1024 .f32) (harg12 :
  arg12.IsWhole) (arg13 : Memref sig .tc .vmem S32x2816 .f32) (harg13 : arg13.IsWhole) (arg14 : Memref sig .tc .vmem
  S32x2816 .f32) (harg14 : arg14.IsWhole) (arg15 : Memref sig .tc .vmem S176x1024 .f32) (harg15 : arg15.IsWhole) (arg16
  : Memref sig .tc .vmem S512x1024 .f32) (harg16 : arg16.IsWhole) (arg17 : Memref sig .tc .vmem S512x3072 .bf16) (harg17
  : arg17.IsWhole) (arg18 : Memref sig .tc .vmem S512x256 .f32) (harg18 : arg18.IsWhole) (arg19 : Memref sig .tc .vmem
  S32x1024 .bf16) (harg19 : arg19.IsWhole) (arg20 : Memref sig .tc .vmem S32x2816 .bf16) (harg20 : arg20.IsWhole) (arg21
  : Memref sig .tc .vmem S32x2816 .bf16) (harg21 : arg21.IsWhole) (arg22 : Memref sig .tc .vmem S176x1024 .bf16) (harg22
  : arg22.IsWhole) (arg23 : Memref sig .tc .vmem S512x2816 .bf16) (harg23 : arg23.IsWhole) (arg24 : Memref sig .tc .vmem
  S1024x2816 .bf16) (harg24 : arg24.IsWhole) (arg25 : Memref sig .tc .vmem S1024x2816 .bf16) (harg25 : arg25.IsWhole)
  (arg26 : Memref sig .tc .vmem S2816x1024 .bf16) (harg26 : arg26.IsWhole) (arg27 : Memref sig .tc .vmem S3072x1024
  .bf16) (harg27 : arg27.IsWhole) (arg28 : Memref sig .tc .vmem S128x1024 .bf16) (harg28 : arg28.IsWhole) (alloca_r0 :
  Memref sig .tc .vmem S6x128x2816 .f32) (halloca_r0 : alloca_r0.IsWhole) (v651_r0 : DmaSems sig S6) (alloca_r1 : Memref
  sig .tc .vmem S6x128x2816 .f32) (halloca_r1 : alloca_r1.IsWhole) (v651_r1 : DmaSems sig S6) (alloca_r2 : Memref sig
  .tc .vmem S6x352x1024 .f32) (halloca_r2 : alloca_r2.IsWhole) (v651_r2 : DmaSems sig S6) (alloca_r3 : Memref sig .tc
  .vmem S6x384x1024 .f32) (halloca_r3 : alloca_r3.IsWhole) (v651_r3 : DmaSems sig S6) (alloca_r4 : Memref sig .tc .vmem
  S16x1024 .f32) (halloca_r4 : alloca_r4.IsWhole) (v651_r4 : DmaSems sig S1)
  (c : Dev nD) (i : grid0.Coords) (h1 : k0_cond1 i = 1#1)

theorem trip_t1 (H : Buf (Elt F) (arg5.view.loc (c : Thread nD τ))) (k : Fin k0_t1_loop.trips) (acc : Unit) :
    ringInv (R := 128) c arg5 (by decide) alloca_r0 arg24 (by decide) v651_r0 squeezes_S1x128x2816_S128x2816 H (fun v y => cst (v y)) k
      ⊢ wpK c (k0_t1_body (F := F) i arg1 harg1 arg2 harg2 arg3 harg3 arg4 harg4 arg5 harg5 arg6 harg6 arg7 harg7 arg8 harg8 arg9 harg9 arg10 harg10 arg11
          harg11 arg12 harg12 arg13 harg13 arg14 harg14 arg15 harg15 arg16 harg16 arg17 harg17 arg18 harg18 arg19 harg19 arg20
          harg20 arg21 harg21 arg22 harg22 arg23 harg23 arg24 harg24 arg25 harg25 arg26 harg26 arg27 harg27 arg28 harg28
          alloca_r0 halloca_r0 v651_r0 alloca_r1 halloca_r1 v651_r1 alloca_r2 halloca_r2 v651_r2 alloca_r3 halloca_r3 v651_r3
          alloca_r4 halloca_r4 v651_r4 h1 k acc)
        (fun _ => ringInv (R := 128) c arg5 (by decide) alloca_r0 arg24 (by decide) v651_r0 squeezes_S1x128x2816_S128x2816 H (fun v y => cst (v y)) (k + 1)) := by
  have ho := offs_t1 k
  unfold k0_t1_body
  rw [k0_part1_eq_skeleton]
  unfold k0_part1_skel
  exact trip_spec (R := 128) (C := 2816) (N := 1024) (N' := 1024) c arg5 (by decide) alloca_r0 arg24 (by decide) v651_r0 squeezes_S1x128x2816_S128x2816 H
    h_S128x2816 (Nat.lt_of_lt_of_eq k.isLt trips_t1) (cond_t1 k)
    (fun h => (ho.1 h).1) (fun h => (ho.1 h).2.1) (fun h => (ho.1 h).2.2) ho.2.1 ho.2.2.1 ho.2.2.2.1 ho.2.2.2.2
    shapeCasts_S1x128x2816_S128x2816 pay_t1

theorem trip_t2 (H : Buf (Elt F) (arg6.view.loc (c : Thread nD τ))) (k : Fin k0_t2_loop.trips) (acc : Unit) :
    ringInv (R := 128) c arg6 (by decide) alloca_r1 arg25 (by decide) v651_r1 squeezes_S1x128x2816_S128x2816 H (fun v y => cst (v y)) k
      ⊢ wpK c (k0_t2_body (F := F) i arg1 harg1 arg2 harg2 arg3 harg3 arg4 harg4 arg5 harg5 arg6 harg6 arg7 harg7 arg8 harg8 arg9 harg9 arg10 harg10 arg11
          harg11 arg12 harg12 arg13 harg13 arg14 harg14 arg15 harg15 arg16 harg16 arg17 harg17 arg18 harg18 arg19 harg19 arg20
          harg20 arg21 harg21 arg22 harg22 arg23 harg23 arg24 harg24 arg25 harg25 arg26 harg26 arg27 harg27 arg28 harg28
          alloca_r0 halloca_r0 v651_r0 alloca_r1 halloca_r1 v651_r1 alloca_r2 halloca_r2 v651_r2 alloca_r3 halloca_r3 v651_r3
          alloca_r4 halloca_r4 v651_r4 h1 k acc)
        (fun _ => ringInv (R := 128) c arg6 (by decide) alloca_r1 arg25 (by decide) v651_r1 squeezes_S1x128x2816_S128x2816 H (fun v y => cst (v y)) (k + 1)) := by
  have ho := offs_t2 k
  unfold k0_t2_body
  rw [k0_part2_eq_skeleton]
  unfold k0_part2_skel
  exact trip_spec (R := 128) (C := 2816) (N := 1024) (N' := 1024) c arg6 (by decide) alloca_r1 arg25 (by decide) v651_r1 squeezes_S1x128x2816_S128x2816 H
    h_S128x2816 (Nat.lt_of_lt_of_eq k.isLt trips_t2) (cond_t2 k)
    (fun h => (ho.1 h).1) (fun h => (ho.1 h).2.1) (fun h => (ho.1 h).2.2) ho.2.1 ho.2.2.1 ho.2.2.2.1 ho.2.2.2.2
    shapeCasts_S1x128x2816_S128x2816 pay_t2

theorem trip_t3 (H : Buf (Elt F) (arg7.view.loc (c : Thread nD τ))) (k : Fin k0_t3_loop.trips) (acc : Unit) :
    ringInv (R := 352) c arg7 (by decide) alloca_r2 arg26 (by decide) v651_r2 squeezes_S1x352x1024_S352x1024 H (fun v y => cst (v y)) k
      ⊢ wpK c (k0_t3_body (F := F) i arg1 harg1 arg2 harg2 arg3 harg3 arg4 harg4 arg5 harg5 arg6 harg6 arg7 harg7 arg8 harg8 arg9 harg9 arg10 harg10 arg11
          harg11 arg12 harg12 arg13 harg13 arg14 harg14 arg15 harg15 arg16 harg16 arg17 harg17 arg18 harg18 arg19 harg19 arg20
          harg20 arg21 harg21 arg22 harg22 arg23 harg23 arg24 harg24 arg25 harg25 arg26 harg26 arg27 harg27 arg28 harg28
          alloca_r0 halloca_r0 v651_r0 alloca_r1 halloca_r1 v651_r1 alloca_r2 halloca_r2 v651_r2 alloca_r3 halloca_r3 v651_r3
          alloca_r4 halloca_r4 v651_r4 h1 k acc)
        (fun _ => ringInv (R := 352) c arg7 (by decide) alloca_r2 arg26 (by decide) v651_r2 squeezes_S1x352x1024_S352x1024 H (fun v y => cst (v y)) (k + 1)) := by
  have ho := offs_t3 k
  unfold k0_t3_body
  rw [k0_part3_eq_skeleton]
  unfold k0_part3_skel
  exact trip_spec (R := 352) (C := 1024) (N := 2816) (N' := 2816) c arg7 (by decide) alloca_r2 arg26 (by decide) v651_r2 squeezes_S1x352x1024_S352x1024 H
    h_S352x1024 (Nat.lt_of_lt_of_eq k.isLt trips_t3) (cond_t3 k)
    (fun h => (ho.1 h).1) (fun h => (ho.1 h).2.1) (fun h => (ho.1 h).2.2) ho.2.1 ho.2.2.1 ho.2.2.2.1 ho.2.2.2.2
    shapeCasts_S1x352x1024_S352x1024 pay_t3

theorem trip_t4 (H : Buf (Elt F) (arg9.view.loc (c : Thread nD τ))) (k : Fin k0_t4_loop.trips) (acc : Unit) :
    ringInv (R := 384) c arg9 (by decide) alloca_r3 arg27 (by decide) v651_r3 squeezes_S1x384x1024_S384x1024 H (fun v y => cst (v y)) k
      ⊢ wpK c (k0_t4_body (F := F) i arg1 harg1 arg2 harg2 arg3 harg3 arg4 harg4 arg5 harg5 arg6 harg6 arg7 harg7 arg8 harg8 arg9 harg9 arg10 harg10 arg11
          harg11 arg12 harg12 arg13 harg13 arg14 harg14 arg15 harg15 arg16 harg16 arg17 harg17 arg18 harg18 arg19 harg19 arg20
          harg20 arg21 harg21 arg22 harg22 arg23 harg23 arg24 harg24 arg25 harg25 arg26 harg26 arg27 harg27 arg28 harg28
          alloca_r0 halloca_r0 v651_r0 alloca_r1 halloca_r1 v651_r1 alloca_r2 halloca_r2 v651_r2 alloca_r3 halloca_r3 v651_r3
          alloca_r4 halloca_r4 v651_r4 h1 k acc)
        (fun _ => ringInv (R := 384) c arg9 (by decide) alloca_r3 arg27 (by decide) v651_r3 squeezes_S1x384x1024_S384x1024 H (fun v y => cst (v y)) (k + 1)) := by
  have ho := offs_t4 k
  unfold k0_t4_body
  rw [k0_part4_eq_skeleton]
  unfold k0_part4_skel
  exact trip_spec (R := 384) (C := 1024) (N := 3088) (N' := 3072) c arg9 (by decide) alloca_r3 arg27 (by decide) v651_r3 squeezes_S1x384x1024_S384x1024 H
    h_S384x1024 (Nat.lt_of_lt_of_eq k.isLt trips_t4) (cond_t4 k)
    (fun h => (ho.1 h).1) (fun h => (ho.1 h).2.1) (fun h => (ho.1 h).2.2) ho.2.1 ho.2.2.1 ho.2.2.2.1 ho.2.2.2.2
    shapeCasts_S1x384x1024_S384x1024 pay_t4

/-- The first step's own part. -/
def loadProg : Prog (TpuEff nD τ sig (Elt F) Λ₀ .tc) PUnit := do
  k0_part5 (F := F) i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20
    harg20 arg21 harg21 arg22 harg22 arg23 harg23 arg24 harg24 arg25 harg25 arg26 harg26 arg27 harg27 arg28 harg28
    alloca_r0 halloca_r0 v651_r0 alloca_r1 halloca_r1 v651_r1 alloca_r2 halloca_r2 v651_r2 alloca_r3 halloca_r3 v651_r3
    alloca_r4 halloca_r4 v651_r4
  k0_part6 (F := F) i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20
    harg20 arg21 harg21 arg22 harg22 arg23 harg23 arg24 harg24 arg25 harg25 arg26 harg26 arg27 harg27 arg28 harg28
    alloca_r0 halloca_r0 v651_r0 alloca_r1 halloca_r1 v651_r1 alloca_r2 halloca_r2 v651_r2 alloca_r3 halloca_r3 v651_r3
    alloca_r4 halloca_r4 v651_r4 h1
  k0_part7 (F := F) i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20
    harg20 arg21 harg21 arg22 harg22 arg23 harg23 arg24 harg24 arg25 harg25 arg26 harg26 arg27 harg27 arg28 harg28
    alloca_r0 halloca_r0 v651_r0 alloca_r1 halloca_r1 v651_r1 alloca_r2 halloca_r2 v651_r2 alloca_r3 halloca_r3 v651_r3
    alloca_r4 halloca_r4 v651_r4 h1
  k0_part8 (F := F) i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20
    harg20 arg21 harg21 arg22 harg22 arg23 harg23 arg24 harg24 arg25 harg25 arg26 harg26 arg27 harg27 arg28 harg28
    alloca_r0 halloca_r0 v651_r0 alloca_r1 halloca_r1 v651_r1 alloca_r2 halloca_r2 v651_r2 alloca_r3 halloca_r3 v651_r3
    alloca_r4 halloca_r4 v651_r4 h1
  k0_part9 (F := F) i arg1 harg1 arg2 harg2 arg3 harg3 arg4 harg4 arg5 harg5 arg6 harg6 arg7 harg7 arg8 harg8 arg9 harg9 arg10 harg10 arg11
    harg11 arg12 harg12 arg13 harg13 arg14 harg14 arg15 harg15 arg16 harg16 arg17 harg17 arg18 harg18 arg19 harg19 arg20
    harg20 arg21 harg21 arg22 harg22 arg23 harg23 arg24 harg24 arg25 harg25 arg26 harg26 arg27 harg27 arg28 harg28
    alloca_r0 halloca_r0 v651_r0 alloca_r1 halloca_r1 v651_r1 alloca_r2 halloca_r2 v651_r2 alloca_r3 halloca_r3 v651_r3
    alloca_r4 halloca_r4 v651_r4 h1

/-- The tail of the last weight: sixteen rows, into a block of zeros. -/
def tailProg : Prog (TpuEff nD τ sig (Elt F) Λ₀ .tc) PUnit := do
  Prog.lift (.enqueueDma (arg9.slice (Rect.unit (s := S3088x1024) ![3072, 0] S16x1024.size inb_S3088x1024_S16x1024_3072_0) (fun _ => rfl))
    (.here alloca_r4) (.dma ((v651_r4.slice (Rect.unit (s := S1) ![0] S1.size inb_S1_S1_0)).squeeze S_ squeezes_S1_S_).sem)
    (View.wordExact_bits rfl) halloca_r4.wordExact ⟨Or.inl rfl, trivial⟩)
  let _ : Vec F S128x1024 .bf16 ← Prog.lift (.load arg28 (Rect.unit (s := S128x1024) ![0, 0] S128x1024.size inb_S128x1024_S128x1024_0_0).toLoadRect (View.loadsAt_vmem h_S128x1024))
  Prog.lift (.store arg28 (Rect.unit (s := S128x1024) ![0, 0] S128x1024.size inb_S128x1024_S128x1024_0_0) (k0_pay6 (F := F)) Finset.univ
    (View.stores_vmem h_S128x1024 (harg28.storeExact_slice rfl _ packedbf16_S128x1024_S128x1024_0_0) (fun _ => rfl)) (.inl rfl))
  Prog.lift (.waitDma2 ((v651_r4.slice (Rect.unit (s := S1) ![0] S1.size inb_S1_S1_0)).squeeze S_ squeezes_S1_S_).sem
    (arg9.slice (Rect.unit (s := S3088x1024) ![3072, 0] S16x1024.size inb_S3088x1024_S16x1024_3072_0) (fun _ => rfl)) alloca_r4
    (View.wordExact_bits rfl) halloca_r4.wordExact)
  let x : Vec F S16x1024 .f32 ← Prog.lift (.load alloca_r4 (Rect.unit (s := S16x1024) ![0, 0] S16x1024.size inb_S16x1024_S16x1024_0_0).toLoadRect (View.loadsAt_vmem h_S16x1024))
  let _ : Vec F S16x1024 .bf16 ← Prog.lift (.load arg28 (Rect.unit (s := S128x1024) ![0, 0] S16x1024.size inb_S128x1024_S16x1024_0_0).toLoadRect (View.loadsAt_vmem h_S16x1024))
  Prog.lift (.store arg28 (Rect.unit (s := S128x1024) ![0, 0] S16x1024.size inb_S128x1024_S16x1024_0_0) (k0_pay7 x) Finset.univ
    (View.stores_vmem h_S16x1024 (harg28.storeExact_slice rfl _ packedbf16_S128x1024_S16x1024_0_0) (fun _ => rfl)) (.inl rfl))
  pure ⟨⟩

theorem loadProg_eq : loadProg (F := F) arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 i h1 = (do
    bring (F := F) (R := 128) arg5 (by decide) alloca_r0 v651_r0 squeezes_S1x128x2816_S128x2816 k0_t1_loop (k0_t1_ok i h1) (k0_t1_body (F := F) i arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 h1)
    bring (F := F) (R := 128) arg6 (by decide) alloca_r1 v651_r1 squeezes_S1x128x2816_S128x2816 k0_t2_loop (k0_t2_ok i h1) (k0_t2_body (F := F) i arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 h1)
    bring (F := F) (R := 352) arg7 (by decide) alloca_r2 v651_r2 squeezes_S1x352x1024_S352x1024 k0_t3_loop (k0_t3_ok i h1) (k0_t3_body (F := F) i arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 h1)
    bring (F := F) (R := 384) arg9 (by decide) alloca_r3 v651_r3 squeezes_S1x384x1024_S384x1024 k0_t4_loop (k0_t4_ok i h1) (k0_t4_body (F := F) i arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 h1)
    tailProg (F := F) arg9 arg28 harg28 alloca_r4 halloca_r4 v651_r4) := by
  unfold loadProg bring tailProg copyB copy
  simp only [k0_part5_eq_skeleton, k0_part6_eq_skeleton, k0_part7_eq_skeleton, k0_part8_eq_skeleton, k0_part9_eq_skeleton]
  unfold k0_part5_skel k0_part6_skel k0_part7_skel k0_part8_skel k0_part9_skel
  simp only [Prog.bind_assoc, pure_bind, Prog.bind_pure]

/-- The last weight's block: the sixteen rows cast, zeros under them. -/
def lowW (H : Buf (Elt F) (arg9.view.loc (c : Thread nD τ))) : Vec F S128x1024 .bf16 :=
  fun y => if h : (y 0 : ℕ) < 16 then
      cst (arg9.view.read (Elt F) H ((Rect.unit (s := S3088x1024) ![3072, 0] S16x1024.size inb_S3088x1024_S16x1024_3072_0).emb
        (Fin.cons ⟨(y 0 : ℕ), h⟩ (Fin.cons ⟨(y 1 : ℕ), (y 1).isLt⟩ (fun i => i.elim0)))))
    else Scalar.ofBits .bf16 0x0000#16

/-- The semaphore of the tail's copy. -/
abbrev sem4 : DmaSem sig := ((v651_r4.slice (Rect.unit (s := S1) ![0] S1.size inb_S1_S1_0)).squeeze S_ squeezes_S1_S_).sem

theorem tail_spec {α : Type} {Q : α → sProp 𝕄} (H : Buf (Elt F) (arg9.view.loc (c : Thread nD τ)))
    (kk : PUnit.{1} → Prog (TpuEff nD τ sig (Elt F) Λ₀ .tc) α) :
    iprop((arg9.view.loc (c : Thread nD τ) ↦{fullShare} H) ∗ (∃ f, alloca_r4.view.loc (c : Thread nD τ) ↦[alloca_r4.view.set]{fullShare} f)
        ∗ semVal ((c : Thread nD τ), SemLoc.dma (sem4 v651_r4)) 0 ∗ (∃ W, owes (c : Thread nD τ) 0 W)
        ∗ (∃ f, arg28.view.loc (c : Thread nD τ) ↦{fullShare} f))
      ⊢ iprop((iprop((arg9.view.loc (c : Thread nD τ) ↦{fullShare} H) ∗ (∃ f, alloca_r4.view.loc (c : Thread nD τ) ↦[alloca_r4.view.set]{fullShare} f)
          ∗ semVal ((c : Thread nD τ), SemLoc.dma (sem4 v651_r4)) 0 ∗ (∃ W, owes (c : Thread nD τ) 0 W)
          ∗ (∃ f, ⌜arg28.view.read (Elt F) f = lowW arg9 c H⌝ ∗ arg28.view.loc (c : Thread nD τ) ↦{fullShare} f))
          -∗ wpK c (kk PUnit.unit) Q)
        -∗ wpK c (tailProg (F := F) arg9 arg28 harg28 alloca_r4 halloca_r4 v651_r4 >>= kk) Q) := by
  unfold tailProg
  simp only [Prog.bind_assoc, pure_bind, Prog.bind_lift]
  have hsub : ((arg9.slice (Rect.unit (s := S3088x1024) ![3072, 0] S16x1024.size inb_S3088x1024_S16x1024_3072_0) (fun _ => rfl)).view.set : Finset (Idx (arg9.view.loc (c : Thread nD τ))))
      ⊆ Finset.univ := Finset.subset_univ _
  have hsp := pointsTo_split_subset (Ix := Unit) (Name := ℕ) (U := Pipeline.UD sig nD τ) (Lvl := ℕ) (q := fullShare) (f := H) hsub
  iintro ⟨HH, ⟨%fd, Ha⟩, Hv, ⟨%W, HW⟩, %f, Hd⟩ HK
  ihave HH2 := hsp.1 $$ HH
  icases HH2 with ⟨Hs, Hrest⟩
  iapply (wp_dmaLocal EC Variants.none (c : Thread nD τ) none (q := fullShare) () (alloca_r4.view.dmaCredit)
    rfl (alloca_r4.view.dmaCredit_pos h_S16x1024) (Finset.Subset.refl _)) $$ [Hs Ha Hv]
  · isplitl [Hs]; · iexact Hs
    isplitl [Ha]; · iexact Ha
    iexact Hv
  iintro Hf
  iapply (wp_load (defs := defs₀ (F := F)) Variants.none (c : Thread nD τ) none Set.univ (Finset.subset_univ _)) $$ Hd
  iintro Hd
  iapply (wp_store (defs := defs₀ (F := F)) Variants.none (c : Thread nD τ) none Set.univ
    (m := arg28) (r := Rect.unit (s := S128x1024) ![0, 0] S128x1024.size inb_S128x1024_S128x1024_0_0) (f := f) (S := Finset.univ) (Finset.subset_univ _)) $$ Hd
  iintro Hd
  iapply (wp_waitLocal EC Variants.none (c : Thread nD τ) none () (N := alloca_r4.view.dmaCredit) rfl) $$ [Hf HW]
  · isplitl [Hf]; · iexact Hf
    iexact HW
  iintro ⟨⟨Ha, Hs⟩, Hv, HW⟩
  iapply (wp_load (defs := defs₀ (F := F)) Variants.none (c : Thread nD τ) none Set.univ
    (S := alloca_r4.view.set) (Finset.map_subset_map.mpr (Finset.subset_univ _))) $$ Ha
  iintro Ha
  iapply (wp_load (defs := defs₀ (F := F)) Variants.none (c : Thread nD τ) none Set.univ (Finset.subset_univ _)) $$ Hd
  iintro Hd
  iapply (wp_store (defs := defs₀ (F := F)) Variants.none (c : Thread nD τ) none Set.univ
    (m := arg28) (r := Rect.unit (s := S128x1024) ![0, 0] S16x1024.size inb_S128x1024_S16x1024_0_0) (S := Finset.univ) (Finset.subset_univ _)) $$ Hd
  iintro Hd
  iapply HK
  isplitl [Hs Hrest]
  · iapply hsp.2
    isplitl [Hs]; · iexact Hs
    iexact Hrest
  isplitl [Ha]; · iexists _; iexact Ha
  isplitl [Hv]; · iexact Hv
  isplitl [HW]; · iexists _; iexact HW
  iexists _
  isplitr
  rotate_left
  · iexact Hd
  ipureintro
  have hx : (alloca_r4.access (Rect.unit (s := S16x1024) ![0, 0] S16x1024.size inb_S16x1024_S16x1024_0_0)).read (Elt F)
      (alloca_r4.view.write (Elt F) fd ((arg9.slice (Rect.unit (s := S3088x1024) ![3072, 0] S16x1024.size
        inb_S3088x1024_S16x1024_3072_0) (fun _ => rfl)).view.read (Elt F) H) Finset.univ)
      = (arg9.slice (Rect.unit (s := S3088x1024) ![3072, 0] S16x1024.size inb_S3088x1024_S16x1024_3072_0) (fun _ => rfl)).view.read (Elt F) H := by
    funext z
    have e0 : (Rect.unit (s := S16x1024) ![0, 0] S16x1024.size inb_S16x1024_S16x1024_0_0).emb z = z := by
      refine funext (Fin.forall_fin_two.mpr ⟨Fin.ext ?_, Fin.ext ?_⟩)
      · show 0 + 1 * (z 0 : ℕ) = z 0
        omega
      · show 0 + 1 * (z 1 : ℕ) = z 1
        omega
    refine Eq.trans ?_ (congrFun (View.read_write_univ (v := alloca_r4.view) fd _) z)
    exact congrArg (alloca_r4.view.read (Elt F) _) e0
  funext y
  unfold lowW
  by_cases h : (y 0 : ℕ) < 16
  · rw [dif_pos h]
    have e1 : y = (Rect.unit (s := S128x1024) ![0, 0] S16x1024.size inb_S128x1024_S16x1024_0_0).emb
        (Fin.cons ⟨(y 0 : ℕ), h⟩ (Fin.cons ⟨(y 1 : ℕ), (y 1).isLt⟩ (fun i => i.elim0))) := by
      refine funext (Fin.forall_fin_two.mpr ⟨Fin.ext ?_, Fin.ext ?_⟩)
      · show (y 0 : ℕ) = 0 + 1 * (y 0 : ℕ)
        omega
      · show (y 1 : ℕ) = 0 + 1 * (y 1 : ℕ)
        omega
    refine (congrArg (arg28.view.read (Elt F) _) e1).trans ((View.read_slice_write_emb _ _ _ (Finset.mem_univ _)).trans ?_)
    unfold k0_pay7
    rw [shapeCast_self]
    exact congrArg cst (congrFun hx _)
  · rw [dif_neg h]
    refine (View.read_slice_write_of_not_mem _ _ _ _ ?_).trans ?_
    · intro hm
      obtain ⟨x, -, hx⟩ := Finset.mem_map.mp hm
      have h0 := congrArg (fun i : S128x1024.Idx => (i 0 : ℕ)) hx
      have hx0 : (x 0 : ℕ) < 16 := (x 0).isLt
      have h1 : 0 + 1 * (x 0 : ℕ) = (y 0 : ℕ) := h0
      omega
    · have e1 : y = (Rect.unit (s := S128x1024) ![0, 0] S128x1024.size inb_S128x1024_S128x1024_0_0).emb y := by
        refine funext (Fin.forall_fin_two.mpr ⟨Fin.ext ?_, Fin.ext ?_⟩)
        · show (y 0 : ℕ) = 0 + 1 * (y 0 : ℕ)
          omega
        · show (y 1 : ℕ) = 0 + 1 * (y 1 : ℕ)
          omega
      refine (congrArg (arg28.view.read (Elt F) _) e1).trans ((View.read_slice_write_emb _ _ _ (Finset.mem_univ _)).trans ?_)
      unfold k0_pay6
      rw [shapeCast_self]
      rfl

end

end Cert.KernelIdeal.Hand
-- ==== Proof.Rest.lean ====
/-
  The body past the weights' coming in, as two programs and one run of each: the first forms the activations of the
  first feed-forward layer, chunk by chunk, in their scratch; the second takes them through the down projection and
  the input projection.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueLayout
public import Idealize.SL.BI.BigOpNat
public import proofs.«01_k».proof.Proof.Load

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

/-- The resource algebra: the pipeline library's beside the transfers' counters. -/
local notation "𝕄" => MT nD τ sig Unit (Elt F) ℕ (Pipeline.UD sig nD τ) ℕ

section
variable (arg1 : Memref sig .tc .vmem S512x1024 .f32) (harg1 : arg1.IsWhole) (arg2 : Memref sig .tc .vmem S512x128 .f32) (harg2
      : arg2.IsWhole) (arg3 : Memref sig .tc .vmem S512x128 .f32) (harg3 : arg3.IsWhole) (arg4 : Memref sig .tc .vmem
      S1x1024 .f32) (harg4 : arg4.IsWhole) (arg5 : Memref sig .tc .hbm S1024x2816 .f32) (harg5 : arg5.IsWhole) (arg6 :
      Memref sig .tc .hbm S1024x2816 .f32) (harg6 : arg6.IsWhole) (arg7 : Memref sig .tc .hbm S2816x1024 .f32) (harg7 :
      arg7.IsWhole) (arg8 : Memref sig .tc .vmem S1x1024 .f32) (harg8 : arg8.IsWhole) (arg9 : Memref sig .tc .hbm S3088x1024
      .f32) (harg9 : arg9.IsWhole) (arg10 : Memref sig .tc .vmem S128x256 .bf16) (harg10 : arg10.IsWhole) (arg11 : Memref
      sig .tc .vmem S1x256 .f32) (harg11 : arg11.IsWhole) (arg12 : Memref sig .tc .vmem S32x1024 .f32) (harg12 :
      arg12.IsWhole) (arg13 : Memref sig .tc .vmem S32x2816 .f32) (harg13 : arg13.IsWhole) (arg14 : Memref sig .tc .vmem
      S32x2816 .f32) (harg14 : arg14.IsWhole) (arg15 : Memref sig .tc .vmem S176x1024 .f32) (harg15 : arg15.IsWhole) (arg16
      : Memref sig .tc .vmem S512x1024 .f32) (harg16 : arg16.IsWhole) (arg17 : Memref sig .tc .vmem S512x3072 .bf16) (harg17
      : arg17.IsWhole) (arg18 : Memref sig .tc .vmem S512x256 .f32) (harg18 : arg18.IsWhole) (arg19 : Memref sig .tc .vmem
      S32x1024 .bf16) (harg19 : arg19.IsWhole) (arg20 : Memref sig .tc .vmem S32x2816 .bf16) (harg20 : arg20.IsWhole) (arg21
      : Memref sig .tc .vmem S32x2816 .bf16) (harg21 : arg21.IsWhole) (arg22 : Memref sig .tc .vmem S176x1024 .bf16) (harg22
      : arg22.IsWhole) (arg23 : Memref sig .tc .vmem S512x2816 .bf16) (harg23 : arg23.IsWhole) (arg24 : Memref sig .tc .vmem
      S1024x2816 .bf16) (harg24 : arg24.IsWhole) (arg25 : Memref sig .tc .vmem S1024x2816 .bf16) (harg25 : arg25.IsWhole)
      (arg26 : Memref sig .tc .vmem S2816x1024 .bf16) (harg26 : arg26.IsWhole) (arg27 : Memref sig .tc .vmem S3072x1024
      .bf16) (harg27 : arg27.IsWhole) (arg28 : Memref sig .tc .vmem S128x1024 .bf16) (harg28 : arg28.IsWhole) (alloca_r0 :
      Memref sig .tc .vmem S6x128x2816 .f32) (halloca_r0 : alloca_r0.IsWhole) (v651_r0 : DmaSems sig S6) (alloca_r1 : Memref
      sig .tc .vmem S6x128x2816 .f32) (halloca_r1 : alloca_r1.IsWhole) (v651_r1 : DmaSems sig S6) (alloca_r2 : Memref sig
      .tc .vmem S6x352x1024 .f32) (halloca_r2 : alloca_r2.IsWhole) (v651_r2 : DmaSems sig S6) (alloca_r3 : Memref sig .tc
      .vmem S6x384x1024 .f32) (halloca_r3 : alloca_r3.IsWhole) (v651_r3 : DmaSems sig S6) (alloca_r4 : Memref sig .tc .vmem
      S16x1024 .f32) (halloca_r4 : alloca_r4.IsWhole) (v651_r4 : DmaSems sig S1)

/-- What the first part of the activations reads. -/
def head10 : Prog (TpuEff nD τ sig (Elt F) Λ₀ .tc) (Σ' (v4 : FVec F S256x1024 .f32) (v18 : FVec F S256x1024 .bf16) (v20 : FVec F S256x1024 .f32) (v34 : FVec F S256x1024 .bf16), FVec F S256x256 .f32) := do
  let v3 : Vec F S256x1024 .f32 ← Prog.lift (.load arg1 (Rect.unit (s := S512x1024) ![0, 0] S256x1024.size inb_S512x1024_S256x1024_0_0).toLoadRect (View.loadsAt_vmem h_S256x1024))
  let v5 : Vec F S1x1024 .f32 ← Prog.lift (.load arg4 (Rect.unit (s := S1x1024) ![0, 0] S1x1024.size inb_S1x1024_S1x1024_0_0).toLoadRect (View.loadsAt_vmem h_S1x1024))
  let v19 : Vec F S256x1024 .f32 ← Prog.lift (.load arg1 (Rect.unit (s := S512x1024) ![256, 0] S256x1024.size inb_S512x1024_S256x1024_256_0).toLoadRect (View.loadsAt_vmem h_S256x1024))
  let v21 : Vec F S1x1024 .f32 ← Prog.lift (.load arg4 (Rect.unit (s := S1x1024) ![0, 0] S1x1024.size inb_S1x1024_S1x1024_0_0).toLoadRect (View.loadsAt_vmem h_S1x1024))
  let v35 : Vec F S1024x256 .bf16 ← Prog.lift (.load arg24 (Rect.unit (s := S1024x2816) ![0, 0] S1024x256.size inb_S1024x2816_S1024x256_0_0).toLoadRect (View.loadsAt_vmem h_S1024x256))
  pure ⟨k0_pay8 v3, k0_pay9 v3 v5, k0_pay10 v19, k0_pay11 v19 v21, k0_pay12 v3 v5 v35⟩

/-- The activations: both halves of the rows, eleven chunks of columns each, and two of the cast slabs. -/
def progA (i : grid0.Coords) : Prog (TpuEff nD τ sig (Elt F) Λ₀ .tc) ((FVec F S256x1024 .f32) × (FVec F S256x1024 .f32)) := do
  let ⟨v4, v18, v20, v34, v36⟩ : Σ' (v4 : FVec F S256x1024 .f32) (v18 : FVec F S256x1024 .bf16) (v20 : FVec F S256x1024 .f32) (v34 : FVec F S256x1024 .bf16), FVec F S256x256 .f32 ← head10 arg1 arg4 arg24
  let v73 : FVec F S256x256 .bf16 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 alloca_r0 halloca_r0 v651_r0 alloca_r1 halloca_r1 v651_r1 alloca_r2 halloca_r2 v651_r2 alloca_r3 halloca_r3 v651_r3 alloca_r4 halloca_r4 v651_r4 v18 v36
  let v106 : FVec F S256x256 .f32 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 alloca_r0 halloca_r0 v651_r0 alloca_r1 halloca_r1 v651_r1 alloca_r2 halloca_r2 v651_r2 alloca_r3 halloca_r3 v651_r3 alloca_r4 halloca_r4 v651_r4 v18 v73
  let v143 : FVec F S256x256 .bf16 ← k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 alloca_r0 halloca_r0 v651_r0 alloca_r1 halloca_r1 v651_r1 alloca_r2 halloca_r2 v651_r2 alloca_r3 halloca_r3 v651_r3 alloca_r4 halloca_r4 v651_r4 v18 v106
  let v176 : FVec F S256x256 .f32 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 alloca_r0 halloca_r0 v651_r0 alloca_r1 halloca_r1 v651_r1 alloca_r2 halloca_r2 v651_r2 alloca_r3 halloca_r3 v651_r3 alloca_r4 halloca_r4 v651_r4 v18 v143
  let v213 : FVec F S256x256 .bf16 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 alloca_r0 halloca_r0 v651_r0 alloca_r1 halloca_r1 v651_r1 alloca_r2 halloca_r2 v651_r2 alloca_r3 halloca_r3 v651_r3 alloca_r4 halloca_r4 v651_r4 v18 v34 v176
  let v246 : FVec F S256x256 .f32 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 alloca_r0 halloca_r0 v651_r0 alloca_r1 halloca_r1 v651_r1 alloca_r2 halloca_r2 v651_r2 alloca_r3 halloca_r3 v651_r3 alloca_r4 halloca_r4 v651_r4 v34 v213
  let v283 : FVec F S256x256 .bf16 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 alloca_r0 halloca_r0 v651_r0 alloca_r1 halloca_r1 v651_r1 alloca_r2 halloca_r2 v651_r2 alloca_r3 halloca_r3 v651_r3 alloca_r4 halloca_r4 v651_r4 v34 v246
  let v316 : FVec F S256x256 .f32 ← k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 alloca_r0 halloca_r0 v651_r0 alloca_r1 halloca_r1 v651_r1 alloca_r2 halloca_r2 v651_r2 alloca_r3 halloca_r3 v651_r3 alloca_r4 halloca_r4 v651_r4 v34 v283
  k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 alloca_r0 halloca_r0 v651_r0 alloca_r1 halloca_r1 v651_r1 alloca_r2 halloca_r2 v651_r2 alloca_r3 halloca_r3 v651_r3 alloca_r4 halloca_r4 v651_r4 v34 v316
  pure (v4, v20)

/-- The down projection and the input projection, from the two halves of the rows. -/
def progB (i : grid0.Coords) (v4 v20 : FVec F S256x1024 .f32) : Prog (TpuEff nD τ sig (Elt F) Λ₀ .tc) PUnit := do
  let ⟨v379, v382⟩ : Σ' (v379 : FVec F S256x1024 .bf16), FVec F S256x1024 .f32 ← k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 alloca_r0 halloca_r0 v651_r0 alloca_r1 halloca_r1 v651_r1 alloca_r2 halloca_r2 v651_r2 alloca_r3 halloca_r3 v651_r3 alloca_r4 halloca_r4 v651_r4 v4
  let ⟨v400, v402, v404, v421, v422⟩ : Σ' (v400 : FVec F S256x1024 .bf16) (v402 : FVec F S256x128 .f32) (v404 : FVec F S256x128 .f32) (v421 : IVec S256x128 32), IVec S256x128 32 ← k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 alloca_r0 halloca_r0 v651_r0 alloca_r1 halloca_r1 v651_r1 alloca_r2 halloca_r2 v651_r2 alloca_r3 halloca_r3 v651_r3 alloca_r4 halloca_r4 v651_r4 v20 v382
  let ⟨v423, v449, v459⟩ : Σ' (v423 : IVec S256x128 1) (v449 : FVec F S256x256 .f32), FVec F S256x128 .bf16 ← k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 alloca_r0 halloca_r0 v651_r0 alloca_r1 halloca_r1 v651_r1 alloca_r2 halloca_r2 v651_r2 alloca_r3 halloca_r3 v651_r3 alloca_r4 halloca_r4 v651_r4 v379 v402 v404 v421 v422
  let v492 : FVec F S256x1280 .f32 ← k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 alloca_r0 halloca_r0 v651_r0 alloca_r1 halloca_r1 v651_r1 alloca_r2 halloca_r2 v651_r2 alloca_r3 halloca_r3 v651_r3 alloca_r4 halloca_r4 v651_r4 v379 v402 v404 v423 v449 v459
  let ⟨v506, v508, v510, v529⟩ : Σ' (v506 : FVec F S256x128 .bf16) (v508 : FVec F S256x128 .f32) (v510 : FVec F S256x128 .f32), IVec S256x128 1 ← k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 alloca_r0 halloca_r0 v651_r0 alloca_r1 halloca_r1 v651_r1 alloca_r2 halloca_r2 v651_r2 alloca_r3 halloca_r3 v651_r3 alloca_r4 halloca_r4 v651_r4 v379 v492
  let v567 : FVec F S256x128 .f32 ← k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 alloca_r0 halloca_r0 v651_r0 alloca_r1 halloca_r1 v651_r1 alloca_r2 halloca_r2 v651_r2 alloca_r3 halloca_r3 v651_r3 alloca_r4 halloca_r4 v651_r4 v400 v508 v510 v529
  let ⟨v598, v600⟩ : Σ' (v598 : FVec F S256x1280 .f32), FVec F S256x768 .bf16 ← k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 alloca_r0 halloca_r0 v651_r0 alloca_r1 halloca_r1 v651_r1 alloca_r2 halloca_r2 v651_r2 alloca_r3 halloca_r3 v651_r3 alloca_r4 halloca_r4 v651_r4 v400 v508 v510 v529 v567
  let v634 : FVec F S256x256 .f32 ← k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 alloca_r0 halloca_r0 v651_r0 alloca_r1 halloca_r1 v651_r1 alloca_r2 halloca_r2 v651_r2 alloca_r3 halloca_r3 v651_r3 alloca_r4 halloca_r4 v651_r4 v400 v506 v598 v600
  let v635 : Vec F S1x256 .f32 ← Prog.lift (.load arg11 (Rect.unit (s := S1x256) ![0, 0] S1x256.size inb_S1x256_S1x256_0_0).toLoadRect (View.loadsAt_vmem h_S1x256))
  let v650 : Vec F S256x256 .f32 ← Prog.lift (.load arg18 (Rect.unit (s := S512x256) ![256, 0] S256x256.size inb_S512x256_S256x256_256_0).toLoadRect (View.loadsAt_vmem h_S256x256))
  Prog.lift (.store arg18 (Rect.unit (s := S512x256) ![256, 0] S256x256.size inb_S512x256_S256x256_256_0) (k0_pay1 v634 v635) Finset.univ (View.stores_vmem_bits_univ h_S256x256 rfl) (.inl rfl))
  pure ⟨⟩

/-- The body: the weights at the first point, then the two programs. -/
theorem rest_eq (i : grid0.Coords) :
    cc0_ffn1_proj_skel (F := F) i arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 =
      (if h1 : k0_cond1 i = 1#1 then loadProg (F := F) arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 i h1 else pure ⟨⟩) >>= fun _ =>
        progA arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 i >>= fun v => progB arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 i v.1 v.2 := by
  unfold cc0_ffn1_proj_skel progA progB head10
  simp only [k0_part10_eq_skeleton]; unfold k0_part10_skel
  by_cases h1 : k0_cond1 i = 1#1
  · simp only [dif_pos h1]
    unfold loadProg
    simp only [bind_assoc, pure_bind]
  · simp only [dif_neg h1]
    simp only [bind_assoc, pure_bind]

set_option maxHeartbeats 8000000 in
/-- The run of the first program: what it leaves in the activations' scratch and in the two cast slabs, as pieces. -/
def runA (c : Dev nD) (i : grid0.Coords)
      (f1 : Buf (Elt F) (arg1.view.loc (c : Thread nD τ))) (f4 : Buf (Elt F) (arg4.view.loc (c : Thread nD τ))) (f12 : Buf
      (Elt F) (arg12.view.loc (c : Thread nD τ))) (f13 : Buf (Elt F) (arg13.view.loc (c : Thread nD τ))) (f24 : Buf (Elt F)
      (arg24.view.loc (c : Thread nD τ))) (f25 : Buf (Elt F) (arg25.view.loc (c : Thread nD τ))) :
    { L : List (View.Piece (Elt F) S32x1024 .bf16) × List (View.Piece (Elt F) S32x2816 .bf16) × List (View.Piece (Elt F) S512x2816 .bf16) //
      ∀ (K : (FVec F S256x1024 .f32) × (FVec F S256x1024 .f32) → sProp 𝕄) (f19 : Buf (Elt F) (arg19.view.loc (c : Thread nD τ))) (f20 : Buf (Elt F) (arg20.view.loc (c : Thread nD τ))) (f23 :
      Buf (Elt F) (arg23.view.loc (c : Thread nD τ))),
      iprop((arg1.view.loc (c : Thread nD τ) ↦[arg1.view.set]{fullShare} f1) ∗ (arg4.view.loc (c : Thread nD τ)
      ↦[arg4.view.set]{fullShare} f4) ∗ (arg12.view.loc (c : Thread nD τ) ↦[arg12.view.set]{fullShare} f12) ∗
      (arg13.view.loc (c : Thread nD τ) ↦[arg13.view.set]{fullShare} f13) ∗ (arg24.view.loc (c : Thread nD τ)
      ↦[arg24.view.set]{fullShare} f24) ∗ (arg25.view.loc (c : Thread nD τ) ↦[arg25.view.set]{fullShare} f25) ∗
      (arg19.view.loc (c : Thread nD τ) ↦[arg19.view.set]{fullShare} f19) ∗ (arg20.view.loc (c : Thread nD τ)
      ↦[arg20.view.set]{fullShare} f20) ∗ (arg23.view.loc (c : Thread nD τ) ↦[arg23.view.set]{fullShare} f23)
        ∗ (iprop((arg1.view.loc (c : Thread nD τ) ↦[arg1.view.set]{fullShare} f1) ∗ (arg4.view.loc (c : Thread nD τ)
      ↦[arg4.view.set]{fullShare} f4) ∗ (arg12.view.loc (c : Thread nD τ) ↦[arg12.view.set]{fullShare} f12) ∗
      (arg13.view.loc (c : Thread nD τ) ↦[arg13.view.set]{fullShare} f13) ∗ (arg24.view.loc (c : Thread nD τ)
      ↦[arg24.view.set]{fullShare} f24) ∗ (arg25.view.loc (c : Thread nD τ) ↦[arg25.view.set]{fullShare} f25) ∗
      (arg19.view.loc (c : Thread nD τ) ↦[arg19.view.set]{fullShare} (arg19.view.writes (Elt F) f19 L.1)) ∗ (arg20.view.loc
      (c : Thread nD τ) ↦[arg20.view.set]{fullShare} (arg20.view.writes (Elt F) f20 L.2.1)) ∗ (arg23.view.loc (c : Thread nD
      τ) ↦[arg23.view.set]{fullShare} (arg23.view.writes (Elt F) f23 L.2.2))) -∗ K ((k0_pay8 (arg1.view.readAt (Elt F) (Rect.unit (s := S512x1024) ![0, 0] S256x1024.size inb_S512x1024_S256x1024_0_0).toLoadRect f1) : FVec F S256x1024 .f32), (k0_pay10 (arg1.view.readAt (Elt F) (Rect.unit (s := S512x1024) ![256, 0] S256x1024.size inb_S512x1024_S256x1024_256_0).toLoadRect f1) : FVec F S256x1024 .f32))))
      ⊢ wp Idealize.ShloMosaic.frame (wpE (defs₀ (F := F)) Variants.none c none) Set.univ
          (progA (F := F) arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 i ) K } := by
  refine ⟨(?_, ?_, ?_), fun K f19 f20 f23 => ?run⟩
  case run =>
    unfold progA
    unfold head10
    iintro ⟨H1, H4, H12, H13, H24, H25, H19, H20, H23, Hk⟩
    sl_exec
    sl_step
    iapply Hk
    isplitl [H1]; · iexact H1
    isplitl [H4]; · iexact H4
    isplitl [H12]; · iexact H12
    isplitl [H13]; · iexact H13
    isplitl [H24]; · iexact H24
    isplitl [H25]; · iexact H25
    isplitl [H19]; · iexact H19
    isplitl [H20]; · iexact H20
    iexact H23

set_option maxHeartbeats 8000000 in
/-- The run of the second program. -/
def runB (c : Dev nD) (i : grid0.Coords) (v4 v20 : FVec F S256x1024 .f32)
      (f2 : Buf (Elt F) (arg2.view.loc (c : Thread nD τ))) (f3 : Buf (Elt F) (arg3.view.loc (c : Thread nD τ))) (f8 : Buf
      (Elt F) (arg8.view.loc (c : Thread nD τ))) (f10 : Buf (Elt F) (arg10.view.loc (c : Thread nD τ))) (f11 : Buf (Elt F)
      (arg11.view.loc (c : Thread nD τ))) (f14 : Buf (Elt F) (arg14.view.loc (c : Thread nD τ))) (f15 : Buf (Elt F)
      (arg15.view.loc (c : Thread nD τ))) (f23 : Buf (Elt F) (arg23.view.loc (c : Thread nD τ))) (f26 : Buf (Elt F)
      (arg26.view.loc (c : Thread nD τ))) (f27 : Buf (Elt F) (arg27.view.loc (c : Thread nD τ))) (f28 : Buf (Elt F)
      (arg28.view.loc (c : Thread nD τ))) :
    { L : List (View.Piece (Elt F) S512x1024 .f32) × List (View.Piece (Elt F) S512x3072 .bf16) × List (View.Piece (Elt F) S512x256 .f32) × List (View.Piece (Elt F) S32x2816 .bf16) × List (View.Piece (Elt F) S176x1024 .bf16) //
      ∀ (K : PUnit.{1} → sProp 𝕄) (f16 : Buf (Elt F) (arg16.view.loc (c : Thread nD τ))) (f17 : Buf (Elt F) (arg17.view.loc (c : Thread nD τ))) (f18 :
      Buf (Elt F) (arg18.view.loc (c : Thread nD τ))) (f21 : Buf (Elt F) (arg21.view.loc (c : Thread nD τ))) (f22 : Buf (Elt
      F) (arg22.view.loc (c : Thread nD τ))),
      iprop((arg2.view.loc (c : Thread nD τ) ↦[arg2.view.set]{fullShare} f2) ∗ (arg3.view.loc (c : Thread nD τ)
      ↦[arg3.view.set]{fullShare} f3) ∗ (arg8.view.loc (c : Thread nD τ) ↦[arg8.view.set]{fullShare} f8) ∗ (arg10.view.loc
      (c : Thread nD τ) ↦[arg10.view.set]{fullShare} f10) ∗ (arg11.view.loc (c : Thread nD τ) ↦[arg11.view.set]{fullShare}
      f11) ∗ (arg14.view.loc (c : Thread nD τ) ↦[arg14.view.set]{fullShare} f14) ∗ (arg15.view.loc (c : Thread nD τ)
      ↦[arg15.view.set]{fullShare} f15) ∗ (arg23.view.loc (c : Thread nD τ) ↦[arg23.view.set]{fullShare} f23) ∗
      (arg26.view.loc (c : Thread nD τ) ↦[arg26.view.set]{fullShare} f26) ∗ (arg27.view.loc (c : Thread nD τ)
      ↦[arg27.view.set]{fullShare} f27) ∗ (arg28.view.loc (c : Thread nD τ) ↦[arg28.view.set]{fullShare} f28) ∗
      (arg16.view.loc (c : Thread nD τ) ↦[arg16.view.set]{fullShare} f16) ∗ (arg17.view.loc (c : Thread nD τ)
      ↦[arg17.view.set]{fullShare} f17) ∗ (arg18.view.loc (c : Thread nD τ) ↦[arg18.view.set]{fullShare} f18) ∗
      (arg21.view.loc (c : Thread nD τ) ↦[arg21.view.set]{fullShare} f21) ∗ (arg22.view.loc (c : Thread nD τ)
      ↦[arg22.view.set]{fullShare} f22)
        ∗ (iprop((arg2.view.loc (c : Thread nD τ) ↦[arg2.view.set]{fullShare} f2) ∗ (arg3.view.loc (c : Thread nD τ)
      ↦[arg3.view.set]{fullShare} f3) ∗ (arg8.view.loc (c : Thread nD τ) ↦[arg8.view.set]{fullShare} f8) ∗ (arg10.view.loc
      (c : Thread nD τ) ↦[arg10.view.set]{fullShare} f10) ∗ (arg11.view.loc (c : Thread nD τ) ↦[arg11.view.set]{fullShare}
      f11) ∗ (arg14.view.loc (c : Thread nD τ) ↦[arg14.view.set]{fullShare} f14) ∗ (arg15.view.loc (c : Thread nD τ)
      ↦[arg15.view.set]{fullShare} f15) ∗ (arg23.view.loc (c : Thread nD τ) ↦[arg23.view.set]{fullShare} f23) ∗
      (arg26.view.loc (c : Thread nD τ) ↦[arg26.view.set]{fullShare} f26) ∗ (arg27.view.loc (c : Thread nD τ)
      ↦[arg27.view.set]{fullShare} f27) ∗ (arg28.view.loc (c : Thread nD τ) ↦[arg28.view.set]{fullShare} f28) ∗
      (arg16.view.loc (c : Thread nD τ) ↦[arg16.view.set]{fullShare} (arg16.view.writes (Elt F) f16 L.1)) ∗ (arg17.view.loc
      (c : Thread nD τ) ↦[arg17.view.set]{fullShare} (arg17.view.writes (Elt F) f17 L.2.1)) ∗ (arg18.view.loc (c : Thread nD
      τ) ↦[arg18.view.set]{fullShare} (arg18.view.writes (Elt F) f18 L.2.2.1)) ∗ (arg21.view.loc (c : Thread nD τ)
      ↦[arg21.view.set]{fullShare} (arg21.view.writes (Elt F) f21 L.2.2.2.1)) ∗ (arg22.view.loc (c : Thread nD τ)
      ↦[arg22.view.set]{fullShare} (arg22.view.writes (Elt F) f22 L.2.2.2.2))) -∗ K PUnit.unit))
      ⊢ wp Idealize.ShloMosaic.frame (wpE (defs₀ (F := F)) Variants.none c none) Set.univ
          (progB (F := F) arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 i v4 v20) K } := by
  refine ⟨(?_, ?_, ?_, ?_, ?_), fun K f16 f17 f18 f21 f22 => ?run⟩
  case run =>
    unfold progB
    iintro ⟨H2, H3, H8, H10, H11, H14, H15, H23, H26, H27, H28, H16, H17, H18, H21, H22, Hk⟩
    sl_exec
    sl_step
    iapply Hk
    isplitl [H2]; · iexact H2
    isplitl [H3]; · iexact H3
    isplitl [H8]; · iexact H8
    isplitl [H10]; · iexact H10
    isplitl [H11]; · iexact H11
    isplitl [H14]; · iexact H14
    isplitl [H15]; · iexact H15
    isplitl [H23]; · iexact H23
    isplitl [H26]; · iexact H26
    isplitl [H27]; · iexact H27
    isplitl [H28]; · iexact H28
    isplitl [H16]; · iexact H16
    isplitl [H17]; · iexact H17
    isplitl [H18]; · iexact H18
    isplitl [H21]; · iexact H21
    iexact H22

end

end Cert.KernelIdeal.Hand
-- ==== Proof.Step.lean ====
/-
  What one point of the grid leaves in each result's block, as a function of the blocks it reads: the pieces its
  stores write, last first, and the body's run from blocks to blocks.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueLayout
public import Idealize.SL.BI.BigOpNat
public import proofs.«01_k».proof.Proof.Rest

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

/-- The resource algebra: the pipeline library's beside the transfers' counters. -/
local notation "𝕄" => MT nD τ sig Unit (Elt F) ℕ (Pipeline.UD sig nD τ) ℕ

/-- The activations of the first layer. -/
def outA (x1 : Vec F S512x1024 .f32) (x4 : Vec F S1x1024 .f32) (x24 : Vec F S1024x2816 .bf16) (x25 : Vec F S1024x2816 .bf16) : List (View.Piece (Elt F) S512x2816 .bf16) :=
  let v3 : Vec F S256x1024 .f32 := View.ld x1 (Rect.unit (s := S512x1024) ![0, 0] S256x1024.size inb_S512x1024_S256x1024_0_0)
  let v5 : Vec F S1x1024 .f32 := View.ld x4 (Rect.unit (s := S1x1024) ![0, 0] S1x1024.size inb_S1x1024_S1x1024_0_0)
  let v19 : Vec F S256x1024 .f32 := View.ld x1 (Rect.unit (s := S512x1024) ![256, 0] S256x1024.size inb_S512x1024_S256x1024_256_0)
  let v21 : Vec F S1x1024 .f32 := View.ld x4 (Rect.unit (s := S1x1024) ![0, 0] S1x1024.size inb_S1x1024_S1x1024_0_0)
  let v35 : Vec F S1024x256 .bf16 := View.ld x24 (Rect.unit (s := S1024x2816) ![0, 0] S1024x256.size inb_S1024x2816_S1024x256_0_0)
  let v18 : FVec F S256x1024 .bf16 := k0_pay9 v3 v5
  let v34 : FVec F S256x1024 .bf16 := k0_pay11 v19 v21
  let v36 : FVec F S256x256 .f32 := k0_pay12 v3 v5 v35
  let v37 : Vec F S1024x256 .bf16 := View.ld x25 (Rect.unit (s := S1024x2816) ![0, 0] S1024x256.size inb_S1024x2816_S1024x256_0_0)
  let v49 : Vec F S1024x256 .bf16 := View.ld x24 (Rect.unit (s := S1024x2816) ![0, 256] S1024x256.size inb_S1024x2816_S1024x256_0_256)
  let v51 : Vec F S1024x256 .bf16 := View.ld x25 (Rect.unit (s := S1024x2816) ![0, 256] S1024x256.size inb_S1024x2816_S1024x256_0_256)
  let v63 : Vec F S1024x256 .bf16 := View.ld x24 (Rect.unit (s := S1024x2816) ![0, 512] S1024x256.size inb_S1024x2816_S1024x256_0_512)
  let v65 : Vec F S1024x256 .bf16 := View.ld x25 (Rect.unit (s := S1024x2816) ![0, 512] S1024x256.size inb_S1024x2816_S1024x256_0_512)
  let v73 : FVec F S256x256 .bf16 := (k0_pay15 v18 v63 v65)
  let v77 : Vec F S1024x256 .bf16 := View.ld x24 (Rect.unit (s := S1024x2816) ![0, 768] S1024x256.size inb_S1024x2816_S1024x256_0_768)
  let v79 : Vec F S1024x256 .bf16 := View.ld x25 (Rect.unit (s := S1024x2816) ![0, 768] S1024x256.size inb_S1024x2816_S1024x256_0_768)
  let v91 : Vec F S1024x256 .bf16 := View.ld x24 (Rect.unit (s := S1024x2816) ![0, 1024] S1024x256.size inb_S1024x2816_S1024x256_0_1024)
  let v93 : Vec F S1024x256 .bf16 := View.ld x25 (Rect.unit (s := S1024x2816) ![0, 1024] S1024x256.size inb_S1024x2816_S1024x256_0_1024)
  let v105 : Vec F S1024x256 .bf16 := View.ld x24 (Rect.unit (s := S1024x2816) ![0, 1280] S1024x256.size inb_S1024x2816_S1024x256_0_1280)
  let v106 : FVec F S256x256 .f32 := (k0_pay19 v18 v105)
  let v107 : Vec F S1024x256 .bf16 := View.ld x25 (Rect.unit (s := S1024x2816) ![0, 1280] S1024x256.size inb_S1024x2816_S1024x256_0_1280)
  let v119 : Vec F S1024x256 .bf16 := View.ld x24 (Rect.unit (s := S1024x2816) ![0, 1536] S1024x256.size inb_S1024x2816_S1024x256_0_1536)
  let v121 : Vec F S1024x256 .bf16 := View.ld x25 (Rect.unit (s := S1024x2816) ![0, 1536] S1024x256.size inb_S1024x2816_S1024x256_0_1536)
  let v133 : Vec F S1024x256 .bf16 := View.ld x24 (Rect.unit (s := S1024x2816) ![0, 1792] S1024x256.size inb_S1024x2816_S1024x256_0_1792)
  let v135 : Vec F S1024x256 .bf16 := View.ld x25 (Rect.unit (s := S1024x2816) ![0, 1792] S1024x256.size inb_S1024x2816_S1024x256_0_1792)
  let v143 : FVec F S256x256 .bf16 := (k0_pay22 v18 v133 v135)
  let v147 : Vec F S1024x256 .bf16 := View.ld x24 (Rect.unit (s := S1024x2816) ![0, 2048] S1024x256.size inb_S1024x2816_S1024x256_0_2048)
  let v149 : Vec F S1024x256 .bf16 := View.ld x25 (Rect.unit (s := S1024x2816) ![0, 2048] S1024x256.size inb_S1024x2816_S1024x256_0_2048)
  let v161 : Vec F S1024x256 .bf16 := View.ld x24 (Rect.unit (s := S1024x2816) ![0, 2304] S1024x256.size inb_S1024x2816_S1024x256_0_2304)
  let v163 : Vec F S1024x256 .bf16 := View.ld x25 (Rect.unit (s := S1024x2816) ![0, 2304] S1024x256.size inb_S1024x2816_S1024x256_0_2304)
  let v175 : Vec F S1024x256 .bf16 := View.ld x24 (Rect.unit (s := S1024x2816) ![0, 2560] S1024x256.size inb_S1024x2816_S1024x256_0_2560)
  let v176 : FVec F S256x256 .f32 := (k0_pay26 v18 v175)
  let v177 : Vec F S1024x256 .bf16 := View.ld x25 (Rect.unit (s := S1024x2816) ![0, 2560] S1024x256.size inb_S1024x2816_S1024x256_0_2560)
  let v189 : Vec F S1024x256 .bf16 := View.ld x24 (Rect.unit (s := S1024x2816) ![0, 0] S1024x256.size inb_S1024x2816_S1024x256_0_0)
  let v191 : Vec F S1024x256 .bf16 := View.ld x25 (Rect.unit (s := S1024x2816) ![0, 0] S1024x256.size inb_S1024x2816_S1024x256_0_0)
  let v203 : Vec F S1024x256 .bf16 := View.ld x24 (Rect.unit (s := S1024x2816) ![0, 256] S1024x256.size inb_S1024x2816_S1024x256_0_256)
  let v205 : Vec F S1024x256 .bf16 := View.ld x25 (Rect.unit (s := S1024x2816) ![0, 256] S1024x256.size inb_S1024x2816_S1024x256_0_256)
  let v213 : FVec F S256x256 .bf16 := (k0_pay29 v34 v203 v205)
  let v217 : Vec F S1024x256 .bf16 := View.ld x24 (Rect.unit (s := S1024x2816) ![0, 512] S1024x256.size inb_S1024x2816_S1024x256_0_512)
  let v219 : Vec F S1024x256 .bf16 := View.ld x25 (Rect.unit (s := S1024x2816) ![0, 512] S1024x256.size inb_S1024x2816_S1024x256_0_512)
  let v231 : Vec F S1024x256 .bf16 := View.ld x24 (Rect.unit (s := S1024x2816) ![0, 768] S1024x256.size inb_S1024x2816_S1024x256_0_768)
  let v233 : Vec F S1024x256 .bf16 := View.ld x25 (Rect.unit (s := S1024x2816) ![0, 768] S1024x256.size inb_S1024x2816_S1024x256_0_768)
  let v245 : Vec F S1024x256 .bf16 := View.ld x24 (Rect.unit (s := S1024x2816) ![0, 1024] S1024x256.size inb_S1024x2816_S1024x256_0_1024)
  let v246 : FVec F S256x256 .f32 := (k0_pay33 v34 v245)
  let v247 : Vec F S1024x256 .bf16 := View.ld x25 (Rect.unit (s := S1024x2816) ![0, 1024] S1024x256.size inb_S1024x2816_S1024x256_0_1024)
  let v259 : Vec F S1024x256 .bf16 := View.ld x24 (Rect.unit (s := S1024x2816) ![0, 1280] S1024x256.size inb_S1024x2816_S1024x256_0_1280)
  let v261 : Vec F S1024x256 .bf16 := View.ld x25 (Rect.unit (s := S1024x2816) ![0, 1280] S1024x256.size inb_S1024x2816_S1024x256_0_1280)
  let v273 : Vec F S1024x256 .bf16 := View.ld x24 (Rect.unit (s := S1024x2816) ![0, 1536] S1024x256.size inb_S1024x2816_S1024x256_0_1536)
  let v275 : Vec F S1024x256 .bf16 := View.ld x25 (Rect.unit (s := S1024x2816) ![0, 1536] S1024x256.size inb_S1024x2816_S1024x256_0_1536)
  let v283 : FVec F S256x256 .bf16 := (k0_pay36 v34 v273 v275)
  let v287 : Vec F S1024x256 .bf16 := View.ld x24 (Rect.unit (s := S1024x2816) ![0, 1792] S1024x256.size inb_S1024x2816_S1024x256_0_1792)
  let v289 : Vec F S1024x256 .bf16 := View.ld x25 (Rect.unit (s := S1024x2816) ![0, 1792] S1024x256.size inb_S1024x2816_S1024x256_0_1792)
  let v301 : Vec F S1024x256 .bf16 := View.ld x24 (Rect.unit (s := S1024x2816) ![0, 2048] S1024x256.size inb_S1024x2816_S1024x256_0_2048)
  let v303 : Vec F S1024x256 .bf16 := View.ld x25 (Rect.unit (s := S1024x2816) ![0, 2048] S1024x256.size inb_S1024x2816_S1024x256_0_2048)
  let v315 : Vec F S1024x256 .bf16 := View.ld x24 (Rect.unit (s := S1024x2816) ![0, 2304] S1024x256.size inb_S1024x2816_S1024x256_0_2304)
  let v316 : FVec F S256x256 .f32 := (k0_pay40 v34 v315)
  let v317 : Vec F S1024x256 .bf16 := View.ld x25 (Rect.unit (s := S1024x2816) ![0, 2304] S1024x256.size inb_S1024x2816_S1024x256_0_2304)
  let v329 : Vec F S1024x256 .bf16 := View.ld x24 (Rect.unit (s := S1024x2816) ![0, 2560] S1024x256.size inb_S1024x2816_S1024x256_0_2560)
  let v331 : Vec F S1024x256 .bf16 := View.ld x25 (Rect.unit (s := S1024x2816) ![0, 2560] S1024x256.size inb_S1024x2816_S1024x256_0_2560)
  [⟨Rect.unit (s := S512x2816) ![256, 2560] S256x256.size inb_S512x2816_S256x256_256_2560, (k0_pay42 v34 v329 v331)⟩,
    ⟨Rect.unit (s := S512x2816) ![256, 2304] S256x256.size inb_S512x2816_S256x256_256_2304, (k0_pay41 v34 v316 v317)⟩,
    ⟨Rect.unit (s := S512x2816) ![256, 2048] S256x256.size inb_S512x2816_S256x256_256_2048, (k0_pay39 v34 v301 v303)⟩,
    ⟨Rect.unit (s := S512x2816) ![256, 1792] S256x256.size inb_S512x2816_S256x256_256_1792, (k0_pay38 v34 v287 v289)⟩,
    ⟨Rect.unit (s := S512x2816) ![256, 1536] S256x256.size inb_S512x2816_S256x256_256_1536, (k0_pay37 v283)⟩,
    ⟨Rect.unit (s := S512x2816) ![256, 1280] S256x256.size inb_S512x2816_S256x256_256_1280, (k0_pay35 v34 v259 v261)⟩,
    ⟨Rect.unit (s := S512x2816) ![256, 1024] S256x256.size inb_S512x2816_S256x256_256_1024, (k0_pay34 v34 v246 v247)⟩,
    ⟨Rect.unit (s := S512x2816) ![256, 768] S256x256.size inb_S512x2816_S256x256_256_768, (k0_pay32 v34 v231 v233)⟩,
    ⟨Rect.unit (s := S512x2816) ![256, 512] S256x256.size inb_S512x2816_S256x256_256_512, (k0_pay31 v34 v217 v219)⟩,
    ⟨Rect.unit (s := S512x2816) ![256, 256] S256x256.size inb_S512x2816_S256x256_256_256, (k0_pay30 v213)⟩,
    ⟨Rect.unit (s := S512x2816) ![256, 0] S256x256.size inb_S512x2816_S256x256_256_0, (k0_pay28 v34 v189 v191)⟩,
    ⟨Rect.unit (s := S512x2816) ![0, 2560] S256x256.size inb_S512x2816_S256x256_0_2560, (k0_pay27 v18 v176 v177)⟩,
    ⟨Rect.unit (s := S512x2816) ![0, 2304] S256x256.size inb_S512x2816_S256x256_0_2304, (k0_pay25 v18 v161 v163)⟩,
    ⟨Rect.unit (s := S512x2816) ![0, 2048] S256x256.size inb_S512x2816_S256x256_0_2048, (k0_pay24 v18 v147 v149)⟩,
    ⟨Rect.unit (s := S512x2816) ![0, 1792] S256x256.size inb_S512x2816_S256x256_0_1792, (k0_pay23 v143)⟩,
    ⟨Rect.unit (s := S512x2816) ![0, 1536] S256x256.size inb_S512x2816_S256x256_0_1536, (k0_pay21 v18 v119 v121)⟩,
    ⟨Rect.unit (s := S512x2816) ![0, 1280] S256x256.size inb_S512x2816_S256x256_0_1280, (k0_pay20 v18 v106 v107)⟩,
    ⟨Rect.unit (s := S512x2816) ![0, 1024] S256x256.size inb_S512x2816_S256x256_0_1024, (k0_pay18 v18 v91 v93)⟩,
    ⟨Rect.unit (s := S512x2816) ![0, 768] S256x256.size inb_S512x2816_S256x256_0_768, (k0_pay17 v18 v77 v79)⟩,
    ⟨Rect.unit (s := S512x2816) ![0, 512] S256x256.size inb_S512x2816_S256x256_0_512, (k0_pay16 v73)⟩,
    ⟨Rect.unit (s := S512x2816) ![0, 256] S256x256.size inb_S512x2816_S256x256_0_256, (k0_pay14 v18 v49 v51)⟩,
    ⟨Rect.unit (s := S512x2816) ![0, 0] S256x256.size inb_S512x2816_S256x256_0_0, (k0_pay13 v18 v36 v37)⟩]

/-- A slab of the output weight, cast. -/
def outO (x12 : Vec F S32x1024 .f32) : List (View.Piece (Elt F) S32x1024 .bf16) :=
  let v343 : Vec F S32x1024 .f32 := View.ld x12 (Rect.unit (s := S32x1024) ![0, 0] S32x1024.size inb_S32x1024_S32x1024_0_0)
  [⟨Rect.unit (s := S32x1024) ![0, 0] S32x1024.size inb_S32x1024_S32x1024_0_0, (k0_pay43 v343)⟩]

/-- A slab of the second layer's gate weight, cast. -/
def outG (x13 : Vec F S32x2816 .f32) : List (View.Piece (Elt F) S32x2816 .bf16) :=
  let v347 : Vec F S32x2816 .f32 := View.ld x13 (Rect.unit (s := S32x2816) ![0, 0] S32x2816.size inb_S32x2816_S32x2816_0_0)
  [⟨Rect.unit (s := S32x2816) ![0, 0] S32x2816.size inb_S32x2816_S32x2816_0_0, (k0_pay44 v347)⟩]

/-- The rows after the first feed-forward layer. -/
def outX (x1 : Vec F S512x1024 .f32) (x23 : Vec F S512x2816 .bf16) (x26 : Vec F S2816x1024 .bf16) : List (View.Piece (Elt F) S512x1024 .f32) :=
  let v3 : Vec F S256x1024 .f32 := View.ld x1 (Rect.unit (s := S512x1024) ![0, 0] S256x1024.size inb_S512x1024_S256x1024_0_0)
  let v19 : Vec F S256x1024 .f32 := View.ld x1 (Rect.unit (s := S512x1024) ![256, 0] S256x1024.size inb_S512x1024_S256x1024_256_0)
  let v4 : FVec F S256x1024 .f32 := k0_pay8 v3
  let v20 : FVec F S256x1024 .f32 := k0_pay10 v19
  let v359 : Vec F S256x2816 .bf16 := View.ld x23 (Rect.unit (s := S512x2816) ![0, 0] S256x2816.size inb_S512x2816_S256x2816_0_0)
  let v360 : Vec F S2816x1024 .bf16 := View.ld x26 (Rect.unit (s := S2816x1024) ![0, 0] S2816x1024.size inb_S2816x1024_S2816x1024_0_0)
  let v380 : Vec F S256x2816 .bf16 := View.ld x23 (Rect.unit (s := S512x2816) ![256, 0] S256x2816.size inb_S512x2816_S256x2816_256_0)
  let v381 : Vec F S2816x1024 .bf16 := View.ld x26 (Rect.unit (s := S2816x1024) ![0, 0] S2816x1024.size inb_S2816x1024_S2816x1024_0_0)
  let v382 : FVec F S256x1024 .f32 := k0_pay49 v380 v381
  [⟨Rect.unit (s := S512x1024) ![256, 0] S256x1024.size inb_S512x1024_S256x1024_256_0, (k0_pay50 v20 v382)⟩,
    ⟨Rect.unit (s := S512x1024) ![0, 0] S256x1024.size inb_S512x1024_S256x1024_0_0, (k0_pay47 v4 v359 v360)⟩]

/-- The input projection's columns. -/
def outP (x1 : Vec F S512x1024 .f32) (x2 : Vec F S512x128 .f32) (x3 : Vec F S512x128 .f32) (x8 : Vec F S1x1024 .f32) (x23 : Vec F S512x2816 .bf16) (x26 : Vec F S2816x1024 .bf16) (x27 : Vec F S3072x1024 .bf16) : List (View.Piece (Elt F) S512x3072 .bf16) :=
  let v3 : Vec F S256x1024 .f32 := View.ld x1 (Rect.unit (s := S512x1024) ![0, 0] S256x1024.size inb_S512x1024_S256x1024_0_0)
  let v19 : Vec F S256x1024 .f32 := View.ld x1 (Rect.unit (s := S512x1024) ![256, 0] S256x1024.size inb_S512x1024_S256x1024_256_0)
  let v4 : FVec F S256x1024 .f32 := k0_pay8 v3
  let v20 : FVec F S256x1024 .f32 := k0_pay10 v19
  let v359 : Vec F S256x2816 .bf16 := View.ld x23 (Rect.unit (s := S512x2816) ![0, 0] S256x2816.size inb_S512x2816_S256x2816_0_0)
  let v360 : Vec F S2816x1024 .bf16 := View.ld x26 (Rect.unit (s := S2816x1024) ![0, 0] S2816x1024.size inb_S2816x1024_S2816x1024_0_0)
  let v366 : Vec F S1x1024 .f32 := View.ld x8 (Rect.unit (s := S1x1024) ![0, 0] S1x1024.size inb_S1x1024_S1x1024_0_0)
  let v380 : Vec F S256x2816 .bf16 := View.ld x23 (Rect.unit (s := S512x2816) ![256, 0] S256x2816.size inb_S512x2816_S256x2816_256_0)
  let v381 : Vec F S2816x1024 .bf16 := View.ld x26 (Rect.unit (s := S2816x1024) ![0, 0] S2816x1024.size inb_S2816x1024_S2816x1024_0_0)
  let v379 : FVec F S256x1024 .bf16 := k0_pay48 v4 v359 v360 v366
  let v382 : FVec F S256x1024 .f32 := k0_pay49 v380 v381
  let v387 : Vec F S1x1024 .f32 := View.ld x8 (Rect.unit (s := S1x1024) ![0, 0] S1x1024.size inb_S1x1024_S1x1024_0_0)
  let v401 : Vec F S256x128 .f32 := View.ld x2 (Rect.unit (s := S512x128) ![0, 0] S256x128.size inb_S512x128_S256x128_0_0)
  let v403 : Vec F S256x128 .f32 := View.ld x3 (Rect.unit (s := S512x128) ![0, 0] S256x128.size inb_S512x128_S256x128_0_0)
  let v400 : FVec F S256x1024 .bf16 := k0_pay51 v20 v382 v387
  let v402 : FVec F S256x128 .f32 := k0_pay52 v401
  let v404 : FVec F S256x128 .f32 := k0_pay53 v403
  let v421 : IVec S256x128 32 := k0_pay54
  let v422 : IVec S256x128 32 := k0_pay55
  let v424 : Vec F S256x1024 .bf16 := View.ld x27 (Rect.unit (s := S3072x1024) ![0, 0] S256x1024.size inb_S3072x1024_S256x1024_0_0)
  let v448 : Vec F S256x1024 .bf16 := View.ld x27 (Rect.unit (s := S3072x1024) ![256, 0] S256x1024.size inb_S3072x1024_S256x1024_256_0)
  let v423 : IVec S256x128 1 := k0_pay56 v421 v422
  let v449 : FVec F S256x256 .f32 := k0_pay60 v379 v448
  let v459 : FVec F S256x128 .bf16 := k0_pay61 v379 v402 v404 v421 v422 v448
  let v472 : Vec F S1024x1024 .bf16 := View.ld x27 (Rect.unit (s := S3072x1024) ![512, 0] S1024x1024.size inb_S3072x1024_S1024x1024_512_0)
  let v485 : Vec F S256x1024 .bf16 := View.ld x27 (Rect.unit (s := S3072x1024) ![1536, 0] S256x1024.size inb_S3072x1024_S256x1024_1536_0)
  let v491 : Vec F S1280x1024 .bf16 := View.ld x27 (Rect.unit (s := S3072x1024) ![1792, 0] S1280x1024.size inb_S3072x1024_S1280x1024_1792_0)
  let v492 : FVec F S256x1280 .f32 := (k0_pay67 v379 v491)
  let v507 : Vec F S256x128 .f32 := View.ld x2 (Rect.unit (s := S512x128) ![256, 0] S256x128.size inb_S512x128_S256x128_256_0)
  let v509 : Vec F S256x128 .f32 := View.ld x3 (Rect.unit (s := S512x128) ![256, 0] S256x128.size inb_S512x128_S256x128_256_0)
  let v508 : FVec F S256x128 .f32 := k0_pay71 v507
  let v510 : FVec F S256x128 .f32 := k0_pay72 v509
  let v529 : IVec S256x128 1 := k0_pay73
  let v530 : Vec F S256x1024 .bf16 := View.ld x27 (Rect.unit (s := S3072x1024) ![0, 0] S256x1024.size inb_S3072x1024_S256x1024_0_0)
  let v554 : Vec F S256x1024 .bf16 := View.ld x27 (Rect.unit (s := S3072x1024) ![256, 0] S256x1024.size inb_S3072x1024_S256x1024_256_0)
  let v567 : FVec F S256x128 .f32 := (k0_pay79 v400 v554)
  let v578 : Vec F S1024x1024 .bf16 := View.ld x27 (Rect.unit (s := S3072x1024) ![512, 0] S1024x1024.size inb_S3072x1024_S1024x1024_512_0)
  let v591 : Vec F S256x1024 .bf16 := View.ld x27 (Rect.unit (s := S3072x1024) ![1536, 0] S256x1024.size inb_S3072x1024_S256x1024_1536_0)
  let v597 : Vec F S1280x1024 .bf16 := View.ld x27 (Rect.unit (s := S3072x1024) ![1792, 0] S1280x1024.size inb_S3072x1024_S1280x1024_1792_0)
  let v598 : FVec F S256x1280 .f32 := k0_pay85 v400 v597
  let v600 : FVec F S256x768 .bf16 := k0_pay86 v400 v597
  [⟨Rect.unit (s := S512x3072) ![256, 2560] S256x512.size inb_S512x3072_S256x512_256_2560, (k0_pay87 v598)⟩,
    ⟨Rect.unit (s := S512x3072) ![256, 1792] S256x768.size inb_S512x3072_S256x768_256_1792, v600⟩,
    ⟨Rect.unit (s := S512x3072) ![256, 1536] S256x256.size inb_S512x3072_S256x256_256_1536, (k0_pay84 v400 v591)⟩,
    ⟨Rect.unit (s := S512x3072) ![256, 1024] S256x512.size inb_S512x3072_S256x512_256_1024, (k0_pay83 v400 v578)⟩,
    ⟨Rect.unit (s := S512x3072) ![256, 512] S256x512.size inb_S512x3072_S256x512_256_512, (k0_pay82 v400 v578)⟩,
    ⟨Rect.unit (s := S512x3072) ![256, 384] S256x128.size inb_S512x3072_S256x128_256_384, (k0_pay80 v508 v510 v529 v567)⟩,
    ⟨Rect.unit (s := S512x3072) ![256, 256] S256x128.size inb_S512x3072_S256x128_256_256, (k0_pay78 v400 v508 v510 v529 v554)⟩,
    ⟨Rect.unit (s := S512x3072) ![256, 128] S256x128.size inb_S512x3072_S256x128_256_128, (k0_pay76 v400 v508 v510 v529 v530)⟩,
    ⟨Rect.unit (s := S512x3072) ![256, 0] S256x128.size inb_S512x3072_S256x128_256_0, (k0_pay75 v400 v508 v510 v529 v530)⟩,
    ⟨Rect.unit (s := S512x3072) ![0, 2560] S256x512.size inb_S512x3072_S256x512_0_2560, (k0_pay69 v492)⟩,
    ⟨Rect.unit (s := S512x3072) ![0, 1792] S256x768.size inb_S512x3072_S256x768_0_1792, (k0_pay68 v492)⟩,
    ⟨Rect.unit (s := S512x3072) ![0, 1536] S256x256.size inb_S512x3072_S256x256_0_1536, (k0_pay66 v379 v485)⟩,
    ⟨Rect.unit (s := S512x3072) ![0, 1024] S256x512.size inb_S512x3072_S256x512_0_1024, (k0_pay65 v379 v472)⟩,
    ⟨Rect.unit (s := S512x3072) ![0, 512] S256x512.size inb_S512x3072_S256x512_0_512, (k0_pay64 v379 v472)⟩,
    ⟨Rect.unit (s := S512x3072) ![0, 384] S256x128.size inb_S512x3072_S256x128_0_384, (k0_pay62 v402 v404 v423 v449)⟩,
    ⟨Rect.unit (s := S512x3072) ![0, 256] S256x128.size inb_S512x3072_S256x128_0_256, v459⟩,
    ⟨Rect.unit (s := S512x3072) ![0, 128] S256x128.size inb_S512x3072_S256x128_0_128, (k0_pay59 v379 v402 v404 v421 v422 v424)⟩,
    ⟨Rect.unit (s := S512x3072) ![0, 0] S256x128.size inb_S512x3072_S256x128_0_0, (k0_pay58 v379 v402 v404 v421 v422 v424)⟩]

/-- The decay gates' logarithms. -/
def outL (x1 : Vec F S512x1024 .f32) (x8 : Vec F S1x1024 .f32) (x10 : Vec F S128x256 .bf16) (x11 : Vec F S1x256 .f32) (x23 : Vec F S512x2816 .bf16) (x26 : Vec F S2816x1024 .bf16) (x28 : Vec F S128x1024 .bf16) : List (View.Piece (Elt F) S512x256 .f32) :=
  let v3 : Vec F S256x1024 .f32 := View.ld x1 (Rect.unit (s := S512x1024) ![0, 0] S256x1024.size inb_S512x1024_S256x1024_0_0)
  let v19 : Vec F S256x1024 .f32 := View.ld x1 (Rect.unit (s := S512x1024) ![256, 0] S256x1024.size inb_S512x1024_S256x1024_256_0)
  let v4 : FVec F S256x1024 .f32 := k0_pay8 v3
  let v20 : FVec F S256x1024 .f32 := k0_pay10 v19
  let v359 : Vec F S256x2816 .bf16 := View.ld x23 (Rect.unit (s := S512x2816) ![0, 0] S256x2816.size inb_S512x2816_S256x2816_0_0)
  let v360 : Vec F S2816x1024 .bf16 := View.ld x26 (Rect.unit (s := S2816x1024) ![0, 0] S2816x1024.size inb_S2816x1024_S2816x1024_0_0)
  let v366 : Vec F S1x1024 .f32 := View.ld x8 (Rect.unit (s := S1x1024) ![0, 0] S1x1024.size inb_S1x1024_S1x1024_0_0)
  let v380 : Vec F S256x2816 .bf16 := View.ld x23 (Rect.unit (s := S512x2816) ![256, 0] S256x2816.size inb_S512x2816_S256x2816_256_0)
  let v381 : Vec F S2816x1024 .bf16 := View.ld x26 (Rect.unit (s := S2816x1024) ![0, 0] S2816x1024.size inb_S2816x1024_S2816x1024_0_0)
  let v379 : FVec F S256x1024 .bf16 := k0_pay48 v4 v359 v360 v366
  let v382 : FVec F S256x1024 .f32 := k0_pay49 v380 v381
  let v387 : Vec F S1x1024 .f32 := View.ld x8 (Rect.unit (s := S1x1024) ![0, 0] S1x1024.size inb_S1x1024_S1x1024_0_0)
  let v400 : FVec F S256x1024 .bf16 := k0_pay51 v20 v382 v387
  let v504 : Vec F S128x1024 .bf16 := View.ld x28 (Rect.unit (s := S128x1024) ![0, 0] S128x1024.size inb_S128x1024_S128x1024_0_0)
  let v506 : FVec F S256x128 .bf16 := k0_pay70 v379 v504
  let v610 : Vec F S128x1024 .bf16 := View.ld x28 (Rect.unit (s := S128x1024) ![0, 0] S128x1024.size inb_S128x1024_S128x1024_0_0)
  let v613 : Vec F S128x256 .bf16 := View.ld x10 (Rect.unit (s := S128x256) ![0, 0] S128x256.size inb_S128x256_S128x256_0_0)
  let v616 : Vec F S1x256 .f32 := View.ld x11 (Rect.unit (s := S1x256) ![0, 0] S1x256.size inb_S1x256_S1x256_0_0)
  let v632 : Vec F S128x256 .bf16 := View.ld x10 (Rect.unit (s := S128x256) ![0, 0] S128x256.size inb_S128x256_S128x256_0_0)
  let v634 : FVec F S256x256 .f32 := (k0_pay89 v400 v610 v632)
  let v635 : Vec F S1x256 .f32 := View.ld x11 (Rect.unit (s := S1x256) ![0, 0] S1x256.size inb_S1x256_S1x256_0_0)
  [⟨Rect.unit (s := S512x256) ![256, 0] S256x256.size inb_S512x256_S256x256_256_0, (k0_pay1 v634 v635)⟩,
    ⟨Rect.unit (s := S512x256) ![0, 0] S256x256.size inb_S512x256_S256x256_0_0, (k0_pay88 v506 v613 v616)⟩]

/-- A slab of the second layer's up weight, cast. -/
def outU (x14 : Vec F S32x2816 .f32) : List (View.Piece (Elt F) S32x2816 .bf16) :=
  let v351 : Vec F S32x2816 .f32 := View.ld x14 (Rect.unit (s := S32x2816) ![0, 0] S32x2816.size inb_S32x2816_S32x2816_0_0)
  [⟨Rect.unit (s := S32x2816) ![0, 0] S32x2816.size inb_S32x2816_S32x2816_0_0, (k0_pay45 v351)⟩]

/-- A slab of the second layer's down weight, cast. -/
def outD (x15 : Vec F S176x1024 .f32) : List (View.Piece (Elt F) S176x1024 .bf16) :=
  let v355 : Vec F S176x1024 .f32 := View.ld x15 (Rect.unit (s := S176x1024) ![0, 0] S176x1024.size inb_S176x1024_S176x1024_0_0)
  [⟨Rect.unit (s := S176x1024) ![0, 0] S176x1024.size inb_S176x1024_S176x1024_0_0, (k0_pay46 v355)⟩]

theorem cover23 (x1 : Vec F S512x1024 .f32) (x4 : Vec F S1x1024 .f32) (x24 : Vec F S1024x2816 .bf16) (x25 : Vec F S1024x2816 .bf16) (y) : ∃ p ∈ outA x1 x4 x24 x25, y ∈ p.1.set :=
  View.cover_of_tiled (outA x1 x4 x24 x25) ![256, 256] (by rfl) y
theorem cover16 (x1 : Vec F S512x1024 .f32) (x23 : Vec F S512x2816 .bf16) (x26 : Vec F S2816x1024 .bf16) (y) : ∃ p ∈ outX x1 x23 x26, y ∈ p.1.set :=
  View.cover_of_tiled (outX x1 x23 x26) ![256, 1024] (by rfl) y
theorem mem_piece {s : Shape} {e : EltTy} {y : s.Idx} (L : List (View.Piece (Elt F) s e)) (k : ℕ) (hk : k < L.length)
    (h : y ∈ (L[k]).1.set) : ∃ p ∈ L, y ∈ p.1.set := ⟨L[k], List.getElem_mem hk, h⟩
theorem cover17 (x1 : Vec F S512x1024 .f32) (x2 : Vec F S512x128 .f32) (x3 : Vec F S512x128 .f32) (x8 : Vec F S1x1024 .f32) (x23 : Vec F S512x2816 .bf16) (x26 : Vec F S2816x1024 .bf16) (x27 : Vec F S3072x1024 .bf16) (y) : ∃ p ∈ outP x1 x2 x3 x8 x23 x26 x27, y ∈ p.1.set := by
  have h0 : (y 0).val < 512 := (y 0).isLt
  have h1 : (y 1).val < 3072 := (y 1).isLt
  rcases Nat.lt_or_ge (y 0).val 256 with hr | hr
  · rcases Nat.lt_or_ge (y 1).val 128 with hc | hc
    · exact mem_piece (outP x1 x2 x3 x8 x23 x26 x27) 17 (by show 17 < 18; omega) (show y ∈ (Rect.unit (s := S512x3072) ![0, 0] S256x128.size inb_S512x3072_S256x128_0_0).set from Rect.mem_set_unit.mpr (Fin.forall_fin_two.mpr
          ⟨⟨by show 0 ≤ (y 0).val; omega, by show (y 0).val < 0 + 256; omega⟩, by show 0 ≤ (y 1).val; omega, by show (y 1).val < 0 + 128; omega⟩))
    rcases Nat.lt_or_ge (y 1).val 256 with hc | hc
    · exact mem_piece (outP x1 x2 x3 x8 x23 x26 x27) 16 (by show 16 < 18; omega) (show y ∈ (Rect.unit (s := S512x3072) ![0, 128] S256x128.size inb_S512x3072_S256x128_0_128).set from Rect.mem_set_unit.mpr (Fin.forall_fin_two.mpr
          ⟨⟨by show 0 ≤ (y 0).val; omega, by show (y 0).val < 0 + 256; omega⟩, by show 128 ≤ (y 1).val; omega, by show (y 1).val < 128 + 128; omega⟩))
    rcases Nat.lt_or_ge (y 1).val 384 with hc | hc
    · exact mem_piece (outP x1 x2 x3 x8 x23 x26 x27) 15 (by show 15 < 18; omega) (show y ∈ (Rect.unit (s := S512x3072) ![0, 256] S256x128.size inb_S512x3072_S256x128_0_256).set from Rect.mem_set_unit.mpr (Fin.forall_fin_two.mpr
          ⟨⟨by show 0 ≤ (y 0).val; omega, by show (y 0).val < 0 + 256; omega⟩, by show 256 ≤ (y 1).val; omega, by show (y 1).val < 256 + 128; omega⟩))
    rcases Nat.lt_or_ge (y 1).val 512 with hc | hc
    · exact mem_piece (outP x1 x2 x3 x8 x23 x26 x27) 14 (by show 14 < 18; omega) (show y ∈ (Rect.unit (s := S512x3072) ![0, 384] S256x128.size inb_S512x3072_S256x128_0_384).set from Rect.mem_set_unit.mpr (Fin.forall_fin_two.mpr
          ⟨⟨by show 0 ≤ (y 0).val; omega, by show (y 0).val < 0 + 256; omega⟩, by show 384 ≤ (y 1).val; omega, by show (y 1).val < 384 + 128; omega⟩))
    rcases Nat.lt_or_ge (y 1).val 1024 with hc | hc
    · exact mem_piece (outP x1 x2 x3 x8 x23 x26 x27) 13 (by show 13 < 18; omega) (show y ∈ (Rect.unit (s := S512x3072) ![0, 512] S256x512.size inb_S512x3072_S256x512_0_512).set from Rect.mem_set_unit.mpr (Fin.forall_fin_two.mpr
          ⟨⟨by show 0 ≤ (y 0).val; omega, by show (y 0).val < 0 + 256; omega⟩, by show 512 ≤ (y 1).val; omega, by show (y 1).val < 512 + 512; omega⟩))
    rcases Nat.lt_or_ge (y 1).val 1536 with hc | hc
    · exact mem_piece (outP x1 x2 x3 x8 x23 x26 x27) 12 (by show 12 < 18; omega) (show y ∈ (Rect.unit (s := S512x3072) ![0, 1024] S256x512.size inb_S512x3072_S256x512_0_1024).set from Rect.mem_set_unit.mpr (Fin.forall_fin_two.mpr
          ⟨⟨by show 0 ≤ (y 0).val; omega, by show (y 0).val < 0 + 256; omega⟩, by show 1024 ≤ (y 1).val; omega, by show (y 1).val < 1024 + 512; omega⟩))
    rcases Nat.lt_or_ge (y 1).val 1792 with hc | hc
    · exact mem_piece (outP x1 x2 x3 x8 x23 x26 x27) 11 (by show 11 < 18; omega) (show y ∈ (Rect.unit (s := S512x3072) ![0, 1536] S256x256.size inb_S512x3072_S256x256_0_1536).set from Rect.mem_set_unit.mpr (Fin.forall_fin_two.mpr
          ⟨⟨by show 0 ≤ (y 0).val; omega, by show (y 0).val < 0 + 256; omega⟩, by show 1536 ≤ (y 1).val; omega, by show (y 1).val < 1536 + 256; omega⟩))
    rcases Nat.lt_or_ge (y 1).val 2560 with hc | hc
    · exact mem_piece (outP x1 x2 x3 x8 x23 x26 x27) 10 (by show 10 < 18; omega) (show y ∈ (Rect.unit (s := S512x3072) ![0, 1792] S256x768.size inb_S512x3072_S256x768_0_1792).set from Rect.mem_set_unit.mpr (Fin.forall_fin_two.mpr
          ⟨⟨by show 0 ≤ (y 0).val; omega, by show (y 0).val < 0 + 256; omega⟩, by show 1792 ≤ (y 1).val; omega, by show (y 1).val < 1792 + 768; omega⟩))
    exact mem_piece (outP x1 x2 x3 x8 x23 x26 x27) 9 (by show 9 < 18; omega) (show y ∈ (Rect.unit (s := S512x3072) ![0, 2560] S256x512.size inb_S512x3072_S256x512_0_2560).set from Rect.mem_set_unit.mpr (Fin.forall_fin_two.mpr
          ⟨⟨by show 0 ≤ (y 0).val; omega, by show (y 0).val < 0 + 256; omega⟩, by show 2560 ≤ (y 1).val; omega, by show (y 1).val < 2560 + 512; omega⟩))
  · rcases Nat.lt_or_ge (y 1).val 128 with hc | hc
    · exact mem_piece (outP x1 x2 x3 x8 x23 x26 x27) 8 (by show 8 < 18; omega) (show y ∈ (Rect.unit (s := S512x3072) ![256, 0] S256x128.size inb_S512x3072_S256x128_256_0).set from Rect.mem_set_unit.mpr (Fin.forall_fin_two.mpr
          ⟨⟨by show 256 ≤ (y 0).val; omega, by show (y 0).val < 256 + 256; omega⟩, by show 0 ≤ (y 1).val; omega, by show (y 1).val < 0 + 128; omega⟩))
    rcases Nat.lt_or_ge (y 1).val 256 with hc | hc
    · exact mem_piece (outP x1 x2 x3 x8 x23 x26 x27) 7 (by show 7 < 18; omega) (show y ∈ (Rect.unit (s := S512x3072) ![256, 128] S256x128.size inb_S512x3072_S256x128_256_128).set from Rect.mem_set_unit.mpr (Fin.forall_fin_two.mpr
          ⟨⟨by show 256 ≤ (y 0).val; omega, by show (y 0).val < 256 + 256; omega⟩, by show 128 ≤ (y 1).val; omega, by show (y 1).val < 128 + 128; omega⟩))
    rcases Nat.lt_or_ge (y 1).val 384 with hc | hc
    · exact mem_piece (outP x1 x2 x3 x8 x23 x26 x27) 6 (by show 6 < 18; omega) (show y ∈ (Rect.unit (s := S512x3072) ![256, 256] S256x128.size inb_S512x3072_S256x128_256_256).set from Rect.mem_set_unit.mpr (Fin.forall_fin_two.mpr
          ⟨⟨by show 256 ≤ (y 0).val; omega, by show (y 0).val < 256 + 256; omega⟩, by show 256 ≤ (y 1).val; omega, by show (y 1).val < 256 + 128; omega⟩))
    rcases Nat.lt_or_ge (y 1).val 512 with hc | hc
    · exact mem_piece (outP x1 x2 x3 x8 x23 x26 x27) 5 (by show 5 < 18; omega) (show y ∈ (Rect.unit (s := S512x3072) ![256, 384] S256x128.size inb_S512x3072_S256x128_256_384).set from Rect.mem_set_unit.mpr (Fin.forall_fin_two.mpr
          ⟨⟨by show 256 ≤ (y 0).val; omega, by show (y 0).val < 256 + 256; omega⟩, by show 384 ≤ (y 1).val; omega, by show (y 1).val < 384 + 128; omega⟩))
    rcases Nat.lt_or_ge (y 1).val 1024 with hc | hc
    · exact mem_piece (outP x1 x2 x3 x8 x23 x26 x27) 4 (by show 4 < 18; omega) (show y ∈ (Rect.unit (s := S512x3072) ![256, 512] S256x512.size inb_S512x3072_S256x512_256_512).set from Rect.mem_set_unit.mpr (Fin.forall_fin_two.mpr
          ⟨⟨by show 256 ≤ (y 0).val; omega, by show (y 0).val < 256 + 256; omega⟩, by show 512 ≤ (y 1).val; omega, by show (y 1).val < 512 + 512; omega⟩))
    rcases Nat.lt_or_ge (y 1).val 1536 with hc | hc
    · exact mem_piece (outP x1 x2 x3 x8 x23 x26 x27) 3 (by show 3 < 18; omega) (show y ∈ (Rect.unit (s := S512x3072) ![256, 1024] S256x512.size inb_S512x3072_S256x512_256_1024).set from Rect.mem_set_unit.mpr (Fin.forall_fin_two.mpr
          ⟨⟨by show 256 ≤ (y 0).val; omega, by show (y 0).val < 256 + 256; omega⟩, by show 1024 ≤ (y 1).val; omega, by show (y 1).val < 1024 + 512; omega⟩))
    rcases Nat.lt_or_ge (y 1).val 1792 with hc | hc
    · exact mem_piece (outP x1 x2 x3 x8 x23 x26 x27) 2 (by show 2 < 18; omega) (show y ∈ (Rect.unit (s := S512x3072) ![256, 1536] S256x256.size inb_S512x3072_S256x256_256_1536).set from Rect.mem_set_unit.mpr (Fin.forall_fin_two.mpr
          ⟨⟨by show 256 ≤ (y 0).val; omega, by show (y 0).val < 256 + 256; omega⟩, by show 1536 ≤ (y 1).val; omega, by show (y 1).val < 1536 + 256; omega⟩))
    rcases Nat.lt_or_ge (y 1).val 2560 with hc | hc
    · exact mem_piece (outP x1 x2 x3 x8 x23 x26 x27) 1 (by show 1 < 18; omega) (show y ∈ (Rect.unit (s := S512x3072) ![256, 1792] S256x768.size inb_S512x3072_S256x768_256_1792).set from Rect.mem_set_unit.mpr (Fin.forall_fin_two.mpr
          ⟨⟨by show 256 ≤ (y 0).val; omega, by show (y 0).val < 256 + 256; omega⟩, by show 1792 ≤ (y 1).val; omega, by show (y 1).val < 1792 + 768; omega⟩))
    exact mem_piece (outP x1 x2 x3 x8 x23 x26 x27) 0 (by show 0 < 18; omega) (show y ∈ (Rect.unit (s := S512x3072) ![256, 2560] S256x512.size inb_S512x3072_S256x512_256_2560).set from Rect.mem_set_unit.mpr (Fin.forall_fin_two.mpr
          ⟨⟨by show 256 ≤ (y 0).val; omega, by show (y 0).val < 256 + 256; omega⟩, by show 2560 ≤ (y 1).val; omega, by show (y 1).val < 2560 + 512; omega⟩))
theorem cover18 (x1 : Vec F S512x1024 .f32) (x8 : Vec F S1x1024 .f32) (x10 : Vec F S128x256 .bf16) (x11 : Vec F S1x256 .f32) (x23 : Vec F S512x2816 .bf16) (x26 : Vec F S2816x1024 .bf16) (x28 : Vec F S128x1024 .bf16) (y) : ∃ p ∈ outL x1 x8 x10 x11 x23 x26 x28, y ∈ p.1.set :=
  View.cover_of_tiled (outL x1 x8 x10 x11 x23 x26 x28) ![256, 256] (by rfl) y
theorem cover19 (x12 : Vec F S32x1024 .f32) (y) : ∃ p ∈ outO x12, y ∈ p.1.set :=
  View.cover_of_tiled (outO x12) S32x1024.size (by rfl) y
theorem cover20 (x13 : Vec F S32x2816 .f32) (y) : ∃ p ∈ outG x13, y ∈ p.1.set :=
  View.cover_of_tiled (outG x13) S32x2816.size (by rfl) y
theorem cover21 (x14 : Vec F S32x2816 .f32) (y) : ∃ p ∈ outU x14, y ∈ p.1.set :=
  View.cover_of_tiled (outU x14) S32x2816.size (by rfl) y
theorem cover22 (x15 : Vec F S176x1024 .f32) (y) : ∃ p ∈ outD x15, y ∈ p.1.set :=
  View.cover_of_tiled (outD x15) S176x1024.size (by rfl) y

section
variable (arg1 : Memref sig .tc .vmem S512x1024 .f32) (harg1 : arg1.IsWhole) (arg2 : Memref sig .tc .vmem S512x128 .f32) (harg2
      : arg2.IsWhole) (arg3 : Memref sig .tc .vmem S512x128 .f32) (harg3 : arg3.IsWhole) (arg4 : Memref sig .tc .vmem
      S1x1024 .f32) (harg4 : arg4.IsWhole) (arg5 : Memref sig .tc .hbm S1024x2816 .f32) (harg5 : arg5.IsWhole) (arg6 :
      Memref sig .tc .hbm S1024x2816 .f32) (harg6 : arg6.IsWhole) (arg7 : Memref sig .tc .hbm S2816x1024 .f32) (harg7 :
      arg7.IsWhole) (arg8 : Memref sig .tc .vmem S1x1024 .f32) (harg8 : arg8.IsWhole) (arg9 : Memref sig .tc .hbm S3088x1024
      .f32) (harg9 : arg9.IsWhole) (arg10 : Memref sig .tc .vmem S128x256 .bf16) (harg10 : arg10.IsWhole) (arg11 : Memref
      sig .tc .vmem S1x256 .f32) (harg11 : arg11.IsWhole) (arg12 : Memref sig .tc .vmem S32x1024 .f32) (harg12 :
      arg12.IsWhole) (arg13 : Memref sig .tc .vmem S32x2816 .f32) (harg13 : arg13.IsWhole) (arg14 : Memref sig .tc .vmem
      S32x2816 .f32) (harg14 : arg14.IsWhole) (arg15 : Memref sig .tc .vmem S176x1024 .f32) (harg15 : arg15.IsWhole) (arg16
      : Memref sig .tc .vmem S512x1024 .f32) (harg16 : arg16.IsWhole) (arg17 : Memref sig .tc .vmem S512x3072 .bf16) (harg17
      : arg17.IsWhole) (arg18 : Memref sig .tc .vmem S512x256 .f32) (harg18 : arg18.IsWhole) (arg19 : Memref sig .tc .vmem
      S32x1024 .bf16) (harg19 : arg19.IsWhole) (arg20 : Memref sig .tc .vmem S32x2816 .bf16) (harg20 : arg20.IsWhole) (arg21
      : Memref sig .tc .vmem S32x2816 .bf16) (harg21 : arg21.IsWhole) (arg22 : Memref sig .tc .vmem S176x1024 .bf16) (harg22
      : arg22.IsWhole) (arg23 : Memref sig .tc .vmem S512x2816 .bf16) (harg23 : arg23.IsWhole) (arg24 : Memref sig .tc .vmem
      S1024x2816 .bf16) (harg24 : arg24.IsWhole) (arg25 : Memref sig .tc .vmem S1024x2816 .bf16) (harg25 : arg25.IsWhole)
      (arg26 : Memref sig .tc .vmem S2816x1024 .bf16) (harg26 : arg26.IsWhole) (arg27 : Memref sig .tc .vmem S3072x1024
      .bf16) (harg27 : arg27.IsWhole) (arg28 : Memref sig .tc .vmem S128x1024 .bf16) (harg28 : arg28.IsWhole) (alloca_r0 :
      Memref sig .tc .vmem S6x128x2816 .f32) (halloca_r0 : alloca_r0.IsWhole) (v651_r0 : DmaSems sig S6) (alloca_r1 : Memref
      sig .tc .vmem S6x128x2816 .f32) (halloca_r1 : alloca_r1.IsWhole) (v651_r1 : DmaSems sig S6) (alloca_r2 : Memref sig
      .tc .vmem S6x352x1024 .f32) (halloca_r2 : alloca_r2.IsWhole) (v651_r2 : DmaSems sig S6) (alloca_r3 : Memref sig .tc
      .vmem S6x384x1024 .f32) (halloca_r3 : alloca_r3.IsWhole) (v651_r3 : DmaSems sig S6) (alloca_r4 : Memref sig .tc .vmem
      S16x1024 .f32) (halloca_r4 : alloca_r4.IsWhole) (v651_r4 : DmaSems sig S1)
  (c : Dev nD) (i : grid0.Coords)

theorem runA_19 (f1 : Buf (Elt F) (arg1.view.loc (c : Thread nD τ))) (f4 : Buf (Elt F) (arg4.view.loc (c : Thread nD τ))) (f12 : Buf (Elt F) (arg12.view.loc (c : Thread nD τ))) (f13 : Buf (Elt F) (arg13.view.loc (c : Thread nD τ))) (f24 : Buf (Elt F) (arg24.view.loc (c : Thread nD τ))) (f25 : Buf (Elt F) (arg25.view.loc (c : Thread nD τ))) :
    (runA (F := F) arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 c i f1 f4 f12 f13 f24 f25).1.1 = outO (arg12.view.read (Elt F) f12) := rfl
theorem runA_20 (f1 : Buf (Elt F) (arg1.view.loc (c : Thread nD τ))) (f4 : Buf (Elt F) (arg4.view.loc (c : Thread nD τ))) (f12 : Buf (Elt F) (arg12.view.loc (c : Thread nD τ))) (f13 : Buf (Elt F) (arg13.view.loc (c : Thread nD τ))) (f24 : Buf (Elt F) (arg24.view.loc (c : Thread nD τ))) (f25 : Buf (Elt F) (arg25.view.loc (c : Thread nD τ))) :
    (runA (F := F) arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 c i f1 f4 f12 f13 f24 f25).1.2.1 = outG (arg13.view.read (Elt F) f13) := rfl
theorem runA_23 (f1 : Buf (Elt F) (arg1.view.loc (c : Thread nD τ))) (f4 : Buf (Elt F) (arg4.view.loc (c : Thread nD τ))) (f12 : Buf (Elt F) (arg12.view.loc (c : Thread nD τ))) (f13 : Buf (Elt F) (arg13.view.loc (c : Thread nD τ))) (f24 : Buf (Elt F) (arg24.view.loc (c : Thread nD τ))) (f25 : Buf (Elt F) (arg25.view.loc (c : Thread nD τ))) :
    (runA (F := F) arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 c i f1 f4 f12 f13 f24 f25).1.2.2 = outA (arg1.view.read (Elt F) f1) (arg4.view.read (Elt F) f4) (arg24.view.read (Elt F) f24) (arg25.view.read (Elt F) f25) := rfl
theorem runB_16 (f1 : Buf (Elt F) (arg1.view.loc (c : Thread nD τ))) (f2 : Buf (Elt F) (arg2.view.loc (c : Thread nD τ))) (f3 : Buf (Elt F) (arg3.view.loc (c : Thread nD τ))) (f8 : Buf (Elt F) (arg8.view.loc (c : Thread nD τ))) (f10 : Buf (Elt F) (arg10.view.loc (c : Thread nD τ))) (f11 : Buf (Elt F) (arg11.view.loc (c : Thread nD τ))) (f14 : Buf (Elt F) (arg14.view.loc (c : Thread nD τ))) (f15 : Buf (Elt F) (arg15.view.loc (c : Thread nD τ))) (f23 : Buf (Elt F) (arg23.view.loc (c : Thread nD τ))) (f26 : Buf (Elt F) (arg26.view.loc (c : Thread nD τ))) (f27 : Buf (Elt F) (arg27.view.loc (c : Thread nD τ))) (f28 : Buf (Elt F) (arg28.view.loc (c : Thread nD τ))) :
    (runB (F := F) arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 c i (k0_pay8 (arg1.view.readAt (Elt F) (Rect.unit (s := S512x1024) ![0, 0] S256x1024.size inb_S512x1024_S256x1024_0_0).toLoadRect f1)) (k0_pay10 (arg1.view.readAt (Elt F) (Rect.unit (s := S512x1024) ![256, 0] S256x1024.size inb_S512x1024_S256x1024_256_0).toLoadRect f1)) f2 f3 f8 f10 f11 f14 f15 f23 f26 f27 f28).1.1 = outX (arg1.view.read (Elt F) f1) (arg23.view.read (Elt F) f23) (arg26.view.read (Elt F) f26) := rfl
theorem runB_17 (f1 : Buf (Elt F) (arg1.view.loc (c : Thread nD τ))) (f2 : Buf (Elt F) (arg2.view.loc (c : Thread nD τ))) (f3 : Buf (Elt F) (arg3.view.loc (c : Thread nD τ))) (f8 : Buf (Elt F) (arg8.view.loc (c : Thread nD τ))) (f10 : Buf (Elt F) (arg10.view.loc (c : Thread nD τ))) (f11 : Buf (Elt F) (arg11.view.loc (c : Thread nD τ))) (f14 : Buf (Elt F) (arg14.view.loc (c : Thread nD τ))) (f15 : Buf (Elt F) (arg15.view.loc (c : Thread nD τ))) (f23 : Buf (Elt F) (arg23.view.loc (c : Thread nD τ))) (f26 : Buf (Elt F) (arg26.view.loc (c : Thread nD τ))) (f27 : Buf (Elt F) (arg27.view.loc (c : Thread nD τ))) (f28 : Buf (Elt F) (arg28.view.loc (c : Thread nD τ))) :
    (runB (F := F) arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 c i (k0_pay8 (arg1.view.readAt (Elt F) (Rect.unit (s := S512x1024) ![0, 0] S256x1024.size inb_S512x1024_S256x1024_0_0).toLoadRect f1)) (k0_pay10 (arg1.view.readAt (Elt F) (Rect.unit (s := S512x1024) ![256, 0] S256x1024.size inb_S512x1024_S256x1024_256_0).toLoadRect f1)) f2 f3 f8 f10 f11 f14 f15 f23 f26 f27 f28).1.2.1 = outP (arg1.view.read (Elt F) f1) (arg2.view.read (Elt F) f2) (arg3.view.read (Elt F) f3) (arg8.view.read (Elt F) f8) (arg23.view.read (Elt F) f23) (arg26.view.read (Elt F) f26) (arg27.view.read (Elt F) f27) := rfl
theorem runB_18 (f1 : Buf (Elt F) (arg1.view.loc (c : Thread nD τ))) (f2 : Buf (Elt F) (arg2.view.loc (c : Thread nD τ))) (f3 : Buf (Elt F) (arg3.view.loc (c : Thread nD τ))) (f8 : Buf (Elt F) (arg8.view.loc (c : Thread nD τ))) (f10 : Buf (Elt F) (arg10.view.loc (c : Thread nD τ))) (f11 : Buf (Elt F) (arg11.view.loc (c : Thread nD τ))) (f14 : Buf (Elt F) (arg14.view.loc (c : Thread nD τ))) (f15 : Buf (Elt F) (arg15.view.loc (c : Thread nD τ))) (f23 : Buf (Elt F) (arg23.view.loc (c : Thread nD τ))) (f26 : Buf (Elt F) (arg26.view.loc (c : Thread nD τ))) (f27 : Buf (Elt F) (arg27.view.loc (c : Thread nD τ))) (f28 : Buf (Elt F) (arg28.view.loc (c : Thread nD τ))) :
    (runB (F := F) arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 c i (k0_pay8 (arg1.view.readAt (Elt F) (Rect.unit (s := S512x1024) ![0, 0] S256x1024.size inb_S512x1024_S256x1024_0_0).toLoadRect f1)) (k0_pay10 (arg1.view.readAt (Elt F) (Rect.unit (s := S512x1024) ![256, 0] S256x1024.size inb_S512x1024_S256x1024_256_0).toLoadRect f1)) f2 f3 f8 f10 f11 f14 f15 f23 f26 f27 f28).1.2.2.1 = outL (arg1.view.read (Elt F) f1) (arg8.view.read (Elt F) f8) (arg10.view.read (Elt F) f10) (arg11.view.read (Elt F) f11) (arg23.view.read (Elt F) f23) (arg26.view.read (Elt F) f26) (arg28.view.read (Elt F) f28) := rfl
theorem runB_21 (f1 : Buf (Elt F) (arg1.view.loc (c : Thread nD τ))) (f2 : Buf (Elt F) (arg2.view.loc (c : Thread nD τ))) (f3 : Buf (Elt F) (arg3.view.loc (c : Thread nD τ))) (f8 : Buf (Elt F) (arg8.view.loc (c : Thread nD τ))) (f10 : Buf (Elt F) (arg10.view.loc (c : Thread nD τ))) (f11 : Buf (Elt F) (arg11.view.loc (c : Thread nD τ))) (f14 : Buf (Elt F) (arg14.view.loc (c : Thread nD τ))) (f15 : Buf (Elt F) (arg15.view.loc (c : Thread nD τ))) (f23 : Buf (Elt F) (arg23.view.loc (c : Thread nD τ))) (f26 : Buf (Elt F) (arg26.view.loc (c : Thread nD τ))) (f27 : Buf (Elt F) (arg27.view.loc (c : Thread nD τ))) (f28 : Buf (Elt F) (arg28.view.loc (c : Thread nD τ))) :
    (runB (F := F) arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 c i (k0_pay8 (arg1.view.readAt (Elt F) (Rect.unit (s := S512x1024) ![0, 0] S256x1024.size inb_S512x1024_S256x1024_0_0).toLoadRect f1)) (k0_pay10 (arg1.view.readAt (Elt F) (Rect.unit (s := S512x1024) ![256, 0] S256x1024.size inb_S512x1024_S256x1024_256_0).toLoadRect f1)) f2 f3 f8 f10 f11 f14 f15 f23 f26 f27 f28).1.2.2.2.1 = outU (arg14.view.read (Elt F) f14) := rfl
theorem runB_22 (f1 : Buf (Elt F) (arg1.view.loc (c : Thread nD τ))) (f2 : Buf (Elt F) (arg2.view.loc (c : Thread nD τ))) (f3 : Buf (Elt F) (arg3.view.loc (c : Thread nD τ))) (f8 : Buf (Elt F) (arg8.view.loc (c : Thread nD τ))) (f10 : Buf (Elt F) (arg10.view.loc (c : Thread nD τ))) (f11 : Buf (Elt F) (arg11.view.loc (c : Thread nD τ))) (f14 : Buf (Elt F) (arg14.view.loc (c : Thread nD τ))) (f15 : Buf (Elt F) (arg15.view.loc (c : Thread nD τ))) (f23 : Buf (Elt F) (arg23.view.loc (c : Thread nD τ))) (f26 : Buf (Elt F) (arg26.view.loc (c : Thread nD τ))) (f27 : Buf (Elt F) (arg27.view.loc (c : Thread nD τ))) (f28 : Buf (Elt F) (arg28.view.loc (c : Thread nD τ))) :
    (runB (F := F) arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 c i (k0_pay8 (arg1.view.readAt (Elt F) (Rect.unit (s := S512x1024) ![0, 0] S256x1024.size inb_S512x1024_S256x1024_0_0).toLoadRect f1)) (k0_pay10 (arg1.view.readAt (Elt F) (Rect.unit (s := S512x1024) ![256, 0] S256x1024.size inb_S512x1024_S256x1024_256_0).toLoadRect f1)) f2 f3 f8 f10 f11 f14 f15 f23 f26 f27 f28).1.2.2.2.2 = outD (arg15.view.read (Elt F) f15) := rfl

set_option maxHeartbeats 4000000 in
/-- From blocks to blocks: the body past the weights' coming in. -/
theorem rest_spec (x1 : Vec F S512x1024 .f32) (x2 : Vec F S512x128 .f32) (x3 : Vec F S512x128 .f32) (x4 : Vec F S1x1024 .f32) (x8 : Vec
      F S1x1024 .f32) (x10 : Vec F S128x256 .bf16) (x11 : Vec F S1x256 .f32) (x12 : Vec F S32x1024 .f32) (x13 : Vec F
      S32x2816 .f32) (x14 : Vec F S32x2816 .f32) (x15 : Vec F S176x1024 .f32) (x24 : Vec F S1024x2816 .bf16) (x25 : Vec F
      S1024x2816 .bf16) (x26 : Vec F S2816x1024 .bf16) (x27 : Vec F S3072x1024 .bf16) (x28 : Vec F S128x1024 .bf16) (K : PUnit.{1} → sProp 𝕄) :
    iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg8 fullShare x8
      ∗ owns (c : Thread nD τ) arg10 fullShare x10
      ∗ owns (c : Thread nD τ) arg11 fullShare x11
      ∗ owns (c : Thread nD τ) arg12 fullShare x12
      ∗ owns (c : Thread nD τ) arg13 fullShare x13
      ∗ owns (c : Thread nD τ) arg14 fullShare x14
      ∗ owns (c : Thread nD τ) arg15 fullShare x15
      ∗ owns (c : Thread nD τ) arg24 fullShare x24
      ∗ owns (c : Thread nD τ) arg25 fullShare x25
      ∗ owns (c : Thread nD τ) arg26 fullShare x26
      ∗ owns (c : Thread nD τ) arg27 fullShare x27
      ∗ owns (c : Thread nD τ) arg28 fullShare x28
      ∗ (∃ d, owns (c : Thread nD τ) arg16 fullShare d)
      ∗ (∃ d, owns (c : Thread nD τ) arg17 fullShare d)
      ∗ (∃ d, owns (c : Thread nD τ) arg18 fullShare d)
      ∗ (∃ d, owns (c : Thread nD τ) arg19 fullShare d)
      ∗ (∃ d, owns (c : Thread nD τ) arg20 fullShare d)
      ∗ (∃ d, owns (c : Thread nD τ) arg21 fullShare d)
      ∗ (∃ d, owns (c : Thread nD τ) arg22 fullShare d)
      ∗ (∃ d, owns (c : Thread nD τ) arg23 fullShare d)
      ∗ (iprop(owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg8 fullShare x8
      ∗ owns (c : Thread nD τ) arg10 fullShare x10
      ∗ owns (c : Thread nD τ) arg11 fullShare x11
      ∗ owns (c : Thread nD τ) arg12 fullShare x12
      ∗ owns (c : Thread nD τ) arg13 fullShare x13
      ∗ owns (c : Thread nD τ) arg14 fullShare x14
      ∗ owns (c : Thread nD τ) arg15 fullShare x15
      ∗ owns (c : Thread nD τ) arg24 fullShare x24
      ∗ owns (c : Thread nD τ) arg25 fullShare x25
      ∗ owns (c : Thread nD τ) arg26 fullShare x26
      ∗ owns (c : Thread nD τ) arg27 fullShare x27
      ∗ owns (c : Thread nD τ) arg28 fullShare x28
      ∗ owns (c : Thread nD τ) arg16 fullShare (View.canon (outX x1 (View.canon (outA x1 x4 x24 x25)) x26))
      ∗ owns (c : Thread nD τ) arg17 fullShare (View.canon (outP x1 x2 x3 x8 (View.canon (outA x1 x4 x24 x25)) x26 x27))
      ∗ owns (c : Thread nD τ) arg18 fullShare (View.canon (outL x1 x8 x10 x11 (View.canon (outA x1 x4 x24 x25)) x26 x28))
      ∗ owns (c : Thread nD τ) arg19 fullShare (View.canon (outO x12))
      ∗ owns (c : Thread nD τ) arg20 fullShare (View.canon (outG x13))
      ∗ owns (c : Thread nD τ) arg21 fullShare (View.canon (outU x14))
      ∗ owns (c : Thread nD τ) arg22 fullShare (View.canon (outD x15))
      ∗ (∃ d, owns (c : Thread nD τ) arg23 fullShare d)) -∗ K PUnit.unit))
      ⊢ wp Idealize.ShloMosaic.frame (wpE (defs₀ (F := F)) Variants.none c none) Set.univ
          (progA (F := F) arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 i >>= fun v => progB (F := F) arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 i v.1 v.2) K := by
  rw [wp_bind]
  unfold owns
  iintro ⟨⟨%f1, %h1, H1⟩, ⟨%f2, %h2, H2⟩, ⟨%f3, %h3, H3⟩, ⟨%f4, %h4, H4⟩, ⟨%f8, %h8, H8⟩, ⟨%f10, %h10, H10⟩, ⟨%f11, %h11, H11⟩, ⟨%f12, %h12, H12⟩, ⟨%f13, %h13, H13⟩, ⟨%f14, %h14, H14⟩, ⟨%f15, %h15, H15⟩, ⟨%f24, %h24, H24⟩, ⟨%f25, %h25, H25⟩, ⟨%f26, %h26, H26⟩, ⟨%f27, %h27, H27⟩, ⟨%f28, %h28, H28⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  have e23 : arg23.view.read (Elt F) (arg23.view.writes (Elt F) f23 (runA (F := F) arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 c i f1 f4 f12 f13 f24 f25).1.2.2) = (View.canon (outA x1 x4 x24 x25)) := by
    rw [runA_23, View.read_writes_eq_canon _ _ _ (cover23 _ _ _ _), h1, h4, h24, h25]
  iapply ((runA (F := F) arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 c i f1 f4 f12 f13 f24 f25).2 _ f19 f20 f23)
  isplitl [H1]; · iexact H1
  isplitl [H4]; · iexact H4
  isplitl [H12]; · iexact H12
  isplitl [H13]; · iexact H13
  isplitl [H24]; · iexact H24
  isplitl [H25]; · iexact H25
  isplitl [H19]; · iexact H19
  isplitl [H20]; · iexact H20
  isplitl [H23]; · iexact H23
  iintro ⟨H1, H4, H12, H13, H24, H25, H19, H20, H23⟩
  generalize (runA (F := F) arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 c i f1 f4 f12 f13 f24 f25).1.2.2 = L23 at e23
  iapply ((runB (F := F) arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 c i (k0_pay8 (arg1.view.readAt (Elt F) (Rect.unit (s := S512x1024) ![0, 0] S256x1024.size inb_S512x1024_S256x1024_0_0).toLoadRect f1)) (k0_pay10 (arg1.view.readAt (Elt F) (Rect.unit (s := S512x1024) ![256, 0] S256x1024.size inb_S512x1024_S256x1024_256_0).toLoadRect f1)) f2 f3 f8 f10 f11 f14 f15 (arg23.view.writes (Elt F) f23 L23) f26 f27 f28).2 _ f16 f17 f18 f21 f22)
  isplitl [H2]; · iexact H2
  isplitl [H3]; · iexact H3
  isplitl [H8]; · iexact H8
  isplitl [H10]; · iexact H10
  isplitl [H11]; · iexact H11
  isplitl [H14]; · iexact H14
  isplitl [H15]; · iexact H15
  isplitl [H23]; · iexact H23
  isplitl [H26]; · iexact H26
  isplitl [H27]; · iexact H27
  isplitl [H28]; · iexact H28
  isplitl [H16]; · iexact H16
  isplitl [H17]; · iexact H17
  isplitl [H18]; · iexact H18
  isplitl [H21]; · iexact H21
  isplitl [H22]; · iexact H22
  iintro ⟨H2, H3, H8, H10, H11, H14, H15, H23, H26, H27, H28, H16, H17, H18, H21, H22⟩
  iapply Hk
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H8]
  · iexists f8; isplitr; · ipureintro; exact h8
    iexact H8
  isplitl [H10]
  · iexists f10; isplitr; · ipureintro; exact h10
    iexact H10
  isplitl [H11]
  · iexists f11; isplitr; · ipureintro; exact h11
    iexact H11
  isplitl [H12]
  · iexists f12; isplitr; · ipureintro; exact h12
    iexact H12
  isplitl [H13]
  · iexists f13; isplitr; · ipureintro; exact h13
    iexact H13
  isplitl [H14]
  · iexists f14; isplitr; · ipureintro; exact h14
    iexact H14
  isplitl [H15]
  · iexists f15; isplitr; · ipureintro; exact h15
    iexact H15
  isplitl [H24]
  · iexists f24; isplitr; · ipureintro; exact h24
    iexact H24
  isplitl [H25]
  · iexists f25; isplitr; · ipureintro; exact h25
    iexact H25
  isplitl [H26]
  · iexists f26; isplitr; · ipureintro; exact h26
    iexact H26
  isplitl [H27]
  · iexists f27; isplitr; · ipureintro; exact h27
    iexact H27
  isplitl [H28]
  · iexists f28; isplitr; · ipureintro; exact h28
    iexact H28
  isplitl [H16]
  · iexists _; isplitr; swap; · iexact H16
    ipureintro
    rw [runB_16, View.read_writes_eq_canon _ _ _ (cover16 _ _ _), h1, e23, h26]
  isplitl [H17]
  · iexists _; isplitr; swap; · iexact H17
    ipureintro
    rw [runB_17, View.read_writes_eq_canon _ _ _ (cover17 _ _ _ _ _ _ _), h1, h2, h3, h8, e23, h26, h27]
  isplitl [H18]
  · iexists _; isplitr; swap; · iexact H18
    ipureintro
    rw [runB_18, View.read_writes_eq_canon _ _ _ (cover18 _ _ _ _ _ _ _), h1, h8, h10, h11, e23, h26, h28]
  isplitl [H19]
  · iexists _; isplitr; swap; · iexact H19
    ipureintro
    rw [runA_19, View.read_writes_eq_canon _ _ _ (cover19 _), h12]
  isplitl [H20]
  · iexists _; isplitr; swap; · iexact H20
    ipureintro
    rw [runA_20, View.read_writes_eq_canon _ _ _ (cover20 _), h13]
  isplitl [H21]
  · iexists _; isplitr; swap; · iexact H21
    ipureintro
    rw [runB_21, View.read_writes_eq_canon _ _ _ (cover21 _), h14]
  isplitl [H22]
  · iexists _; isplitr; swap; · iexact H22
    ipureintro
    rw [runB_22, View.read_writes_eq_canon _ _ _ (cover22 _), h15]
  iexists _, _; isplitr; swap; · iexact H23
  ipureintro; rfl

end

end Cert.KernelIdeal.Hand
-- ==== Proof.Weights.lean ====
/-
  All five weights brought in: the four rings' loops and the last block's copy, one after another.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueLayout
public import Idealize.SL.BI.BigOpNat
public import proofs.«01_k».proof.Proof.Load

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

/-- The resource algebra: the pipeline library's beside the transfers' counters. -/
local notation "𝕄" => MT nD τ sig Unit (Elt F) ℕ (Pipeline.UD sig nD τ) ℕ

section
variable (arg1 : Memref sig .tc .vmem S512x1024 .f32) (harg1 : arg1.IsWhole) (arg2 : Memref sig .tc .vmem S512x128 .f32) (harg2
      : arg2.IsWhole) (arg3 : Memref sig .tc .vmem S512x128 .f32) (harg3 : arg3.IsWhole) (arg4 : Memref sig .tc .vmem
      S1x1024 .f32) (harg4 : arg4.IsWhole) (arg5 : Memref sig .tc .hbm S1024x2816 .f32) (harg5 : arg5.IsWhole) (arg6 :
      Memref sig .tc .hbm S1024x2816 .f32) (harg6 : arg6.IsWhole) (arg7 : Memref sig .tc .hbm S2816x1024 .f32) (harg7 :
      arg7.IsWhole) (arg8 : Memref sig .tc .vmem S1x1024 .f32) (harg8 : arg8.IsWhole) (arg9 : Memref sig .tc .hbm S3088x1024
      .f32) (harg9 : arg9.IsWhole) (arg10 : Memref sig .tc .vmem S128x256 .bf16) (harg10 : arg10.IsWhole) (arg11 : Memref
      sig .tc .vmem S1x256 .f32) (harg11 : arg11.IsWhole) (arg12 : Memref sig .tc .vmem S32x1024 .f32) (harg12 :
      arg12.IsWhole) (arg13 : Memref sig .tc .vmem S32x2816 .f32) (harg13 : arg13.IsWhole) (arg14 : Memref sig .tc .vmem
      S32x2816 .f32) (harg14 : arg14.IsWhole) (arg15 : Memref sig .tc .vmem S176x1024 .f32) (harg15 : arg15.IsWhole) (arg16
      : Memref sig .tc .vmem S512x1024 .f32) (harg16 : arg16.IsWhole) (arg17 : Memref sig .tc .vmem S512x3072 .bf16) (harg17
      : arg17.IsWhole) (arg18 : Memref sig .tc .vmem S512x256 .f32) (harg18 : arg18.IsWhole) (arg19 : Memref sig .tc .vmem
      S32x1024 .bf16) (harg19 : arg19.IsWhole) (arg20 : Memref sig .tc .vmem S32x2816 .bf16) (harg20 : arg20.IsWhole) (arg21
      : Memref sig .tc .vmem S32x2816 .bf16) (harg21 : arg21.IsWhole) (arg22 : Memref sig .tc .vmem S176x1024 .bf16) (harg22
      : arg22.IsWhole) (arg23 : Memref sig .tc .vmem S512x2816 .bf16) (harg23 : arg23.IsWhole) (arg24 : Memref sig .tc .vmem
      S1024x2816 .bf16) (harg24 : arg24.IsWhole) (arg25 : Memref sig .tc .vmem S1024x2816 .bf16) (harg25 : arg25.IsWhole)
      (arg26 : Memref sig .tc .vmem S2816x1024 .bf16) (harg26 : arg26.IsWhole) (arg27 : Memref sig .tc .vmem S3072x1024
      .bf16) (harg27 : arg27.IsWhole) (arg28 : Memref sig .tc .vmem S128x1024 .bf16) (harg28 : arg28.IsWhole) (alloca_r0 :
      Memref sig .tc .vmem S6x128x2816 .f32) (halloca_r0 : alloca_r0.IsWhole) (v651_r0 : DmaSems sig S6) (alloca_r1 : Memref
      sig .tc .vmem S6x128x2816 .f32) (halloca_r1 : alloca_r1.IsWhole) (v651_r1 : DmaSems sig S6) (alloca_r2 : Memref sig
      .tc .vmem S6x352x1024 .f32) (halloca_r2 : alloca_r2.IsWhole) (v651_r2 : DmaSems sig S6) (alloca_r3 : Memref sig .tc
      .vmem S6x384x1024 .f32) (halloca_r3 : alloca_r3.IsWhole) (v651_r3 : DmaSems sig S6) (alloca_r4 : Memref sig .tc .vmem
      S16x1024 .f32) (halloca_r4 : alloca_r4.IsWhole) (v651_r4 : DmaSems sig S1)
  (c : Dev nD) (i : grid0.Coords) (h1 : k0_cond1 i = 1#1)

set_option maxHeartbeats 2000000 in
/-- What the five loads take and give. -/
theorem load_spec {α : Type} {Q : α → sProp 𝕄}
    (H5 : Buf (Elt F) (arg5.view.loc (c : Thread nD τ))) (H6 : Buf (Elt F) (arg6.view.loc (c : Thread nD τ))) (H7 : Buf
      (Elt F) (arg7.view.loc (c : Thread nD τ))) (H9 : Buf (Elt F) (arg9.view.loc (c : Thread nD τ)))
    (kk : PUnit.{1} → Prog (TpuEff nD τ sig (Elt F) Λ₀ .tc) α) :
    iprop(atRest c arg5 alloca_r0 v651_r0 H5
        ∗ atRest c arg6 alloca_r1 v651_r1 H6
        ∗ atRest c arg7 alloca_r2 v651_r2 H7
        ∗ atRest c arg9 alloca_r3 v651_r3 H9
        ∗ (∃ f, alloca_r4.view.loc (c : Thread nD τ) ↦[alloca_r4.view.set]{fullShare} f)
        ∗ semVal ((c : Thread nD τ), SemLoc.dma (sem4 v651_r4)) 0
        ∗ (∃ W, owes (c : Thread nD τ) 0 W)
        ∗ (∃ f, arg24.view.loc (c : Thread nD τ) ↦{fullShare} f)
        ∗ (∃ f, arg25.view.loc (c : Thread nD τ) ↦{fullShare} f)
        ∗ (∃ f, arg26.view.loc (c : Thread nD τ) ↦{fullShare} f)
        ∗ (∃ f, arg27.view.loc (c : Thread nD τ) ↦{fullShare} f)
        ∗ (∃ f, arg28.view.loc (c : Thread nD τ) ↦{fullShare} f))
      ⊢ iprop((iprop(atRest c arg5 alloca_r0 v651_r0 H5
        ∗ atRest c arg6 alloca_r1 v651_r1 H6
        ∗ atRest c arg7 alloca_r2 v651_r2 H7
        ∗ atRest c arg9 alloca_r3 v651_r3 H9
        ∗ (∃ f, alloca_r4.view.loc (c : Thread nD τ) ↦[alloca_r4.view.set]{fullShare} f)
        ∗ semVal ((c : Thread nD τ), SemLoc.dma (sem4 v651_r4)) 0
        ∗ (∃ W, owes (c : Thread nD τ) 0 W)
        ∗ (∃ f, ⌜arg24.view.read (Elt F) f = castW c arg5 H5 (N' := 1024) (by decide) cst⌝ ∗ arg24.view.loc (c : Thread nD τ) ↦{fullShare} f)
        ∗ (∃ f, ⌜arg25.view.read (Elt F) f = castW c arg6 H6 (N' := 1024) (by decide) cst⌝ ∗ arg25.view.loc (c : Thread nD τ) ↦{fullShare} f)
        ∗ (∃ f, ⌜arg26.view.read (Elt F) f = castW c arg7 H7 (N' := 2816) (by decide) cst⌝ ∗ arg26.view.loc (c : Thread nD τ) ↦{fullShare} f)
        ∗ (∃ f, ⌜arg27.view.read (Elt F) f = castW c arg9 H9 (N' := 3072) (by decide) cst⌝ ∗ arg27.view.loc (c : Thread nD τ) ↦{fullShare} f)
        ∗ (∃ f, ⌜arg28.view.read (Elt F) f = lowW arg9 c H9⌝ ∗ arg28.view.loc (c : Thread nD τ) ↦{fullShare} f))
          -∗ wpK c (kk PUnit.unit) Q)
        -∗ wpK c (loadProg (F := F) arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 i h1 >>= kk) Q) := by
  rw [loadProg_eq]
  simp only [bind_assoc]
  iintro ⟨A5, A6, A7, A9, Ha, Hv, HW, D24, D25, D26, D27, D28⟩ HK
  iapply (bring_spec (R := 128) (C := 2816) (N := 1024) (N' := 1024) c arg5 _ alloca_r0 arg24 _ v651_r0 squeezes_S1x128x2816_S128x2816 H5
    (by decide) (by decide) (by decide) trips_t1 (trip_t1 arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 c i h1 H5)) $$ [A5 HW D24]
  · isplitl [A5]; · iexact A5
    isplitl [HW]; · iexact HW
    iexact D24
  iintro ⟨A5, HW, D24⟩
  iapply (bring_spec (R := 128) (C := 2816) (N := 1024) (N' := 1024) c arg6 _ alloca_r1 arg25 _ v651_r1 squeezes_S1x128x2816_S128x2816 H6
    (by decide) (by decide) (by decide) trips_t2 (trip_t2 arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 c i h1 H6)) $$ [A6 HW D25]
  · isplitl [A6]; · iexact A6
    isplitl [HW]; · iexact HW
    iexact D25
  iintro ⟨A6, HW, D25⟩
  iapply (bring_spec (R := 352) (C := 1024) (N := 2816) (N' := 2816) c arg7 _ alloca_r2 arg26 _ v651_r2 squeezes_S1x352x1024_S352x1024 H7
    (by decide) (by decide) (by decide) trips_t3 (trip_t3 arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 c i h1 H7)) $$ [A7 HW D26]
  · isplitl [A7]; · iexact A7
    isplitl [HW]; · iexact HW
    iexact D26
  iintro ⟨A7, HW, D26⟩
  iapply (bring_spec (R := 384) (C := 1024) (N := 3088) (N' := 3072) c arg9 _ alloca_r3 arg27 _ v651_r3 squeezes_S1x384x1024_S384x1024 H9
    (by decide) (by decide) (by decide) trips_t4 (trip_t4 arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 c i h1 H9)) $$ [A9 HW D27]
  · isplitl [A9]; · iexact A9
    isplitl [HW]; · iexact HW
    iexact D27
  iintro ⟨A9, HW, D27⟩
  ihave A9 := (show atRest c arg9 alloca_r3 v651_r3 H9 ⊢ iprop((arg9.view.loc (c : Thread nD τ) ↦{fullShare} H9)
    ∗ (∃ f, alloca_r3.view.loc (c : Thread nD τ) ↦{fullShare} f) ∗ cells0 (F := F) c v651_r3) from .rfl) $$ A9
  icases A9 with ⟨A9, A9r, A9c⟩
  iapply (tail_spec arg9 arg28 harg28 alloca_r4 halloca_r4 v651_r4 c H9) $$ [A9 Ha Hv HW D28]
  · isplitl [A9]; · iexact A9
    isplitl [Ha]; · iexact Ha
    isplitl [Hv]; · iexact Hv
    isplitl [HW]; · iexact HW
    iexact D28
  iintro ⟨A9, Ha, Hv, HW, D28⟩
  iapply HK
  isplitl [A5]; · iexact A5
  isplitl [A6]; · iexact A6
  isplitl [A7]; · iexact A7
  isplitl [A9 A9r A9c]
  · unfold atRest
    isplitl [A9]; · iexact A9
    isplitl [A9r]; · iexact A9r
    iexact A9c
  isplitl [Ha]; · iexact Ha
  isplitl [Hv]; · iexact Hv
  isplitl [HW]; · iexact HW
  isplitl [D24]; · iexact D24
  isplitl [D25]; · iexact D25
  isplitl [D26]; · iexact D26
  isplitl [D27]; · iexact D27
  iexact D28

end

end Cert.KernelIdeal.Hand
-- ==== Proof.Body.lean ====
/-
  The body at one point of the grid: what it finds in its scratch, what it leaves there, and what its results are.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueLayout
public import Idealize.SL.BI.BigOpNat
public import proofs.«01_k».proof.Proof.Step
public import proofs.«01_k».proof.Proof.Weights

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

/-- The resource algebra: the pipeline library's beside the transfers' counters. -/
local notation "𝕄" => MT nD τ sig Unit (Elt F) ℕ (Pipeline.UD sig nD τ) ℕ

/-- A scratch of the body, at some contents: at `x` where `p` holds. -/
def held (c : Dev nD) {s : Shape} {e : EltTy} (m : Memref sig .tc .vmem s e) (p : Prop) (x : Vec F s e) : sProp 𝕄 :=
  iprop(∃ f, ⌜p → m.view.read (Elt F) f = x⌝ ∗ m.view.loc (c : Thread nD τ) ↦{fullShare} f)

theorem owns_of_held (c : Dev nD) {s : Shape} {e : EltTy} {m : Memref sig .tc .vmem s e} (hm : m.IsWhole) {x : Vec F s e} :
    held c m True x ⊢ owns (c : Thread nD τ) m fullShare x := by
  unfold held owns
  rw [hm.set_eq_univ]
  iintro ⟨%f, %hf, H⟩
  iexists f; isplitr; · ipureintro; exact hf trivial
  iexact H

theorem held_of_owns (c : Dev nD) {s : Shape} {e : EltTy} {m : Memref sig .tc .vmem s e} (hm : m.IsWhole) (p : Prop) {x : Vec F s e} :
    owns (c : Thread nD τ) m fullShare x ⊢ held c m p x := by
  unfold held owns
  rw [hm.set_eq_univ]
  iintro ⟨%f, %hf, H⟩
  iexists f; isplitr; · ipureintro; exact fun _ => hf
  iexact H

theorem any_of_held (c : Dev nD) {s : Shape} {e : EltTy} {m : Memref sig .tc .vmem s e} {p : Prop} {x : Vec F s e} :
    held c m p x ⊢ iprop(∃ f, m.view.loc (c : Thread nD τ) ↦{fullShare} f) := by
  unfold held
  iintro ⟨%f, -, H⟩
  iexists f; iexact H

theorem held_any (c : Dev nD) {s : Shape} {e : EltTy} {m : Memref sig .tc .vmem s e} (x : Vec F s e) :
    iprop(∃ f, m.view.loc (c : Thread nD τ) ↦{fullShare} f) ⊢ held c m False x := by
  unfold held
  iintro ⟨%f, H⟩
  iexists f; isplitr; · ipureintro; exact fun h => h.elim
  iexact H

theorem held_True (c : Dev nD) {s : Shape} {e : EltTy} {m : Memref sig .tc .vmem s e} (x : Vec F s e) :
    iprop(∃ f, ⌜m.view.read (Elt F) f = x⌝ ∗ m.view.loc (c : Thread nD τ) ↦{fullShare} f) ⊢ held c m True x := by
  unfold held
  iintro ⟨%f, %hf, H⟩
  iexists f; isplitr; · ipureintro; exact fun _ => hf
  iexact H

section
variable (arg1 : Memref sig .tc .vmem S512x1024 .f32) (harg1 : arg1.IsWhole) (arg2 : Memref sig .tc .vmem S512x128 .f32) (harg2
      : arg2.IsWhole) (arg3 : Memref sig .tc .vmem S512x128 .f32) (harg3 : arg3.IsWhole) (arg4 : Memref sig .tc .vmem
      S1x1024 .f32) (harg4 : arg4.IsWhole) (arg5 : Memref sig .tc .hbm S1024x2816 .f32) (harg5 : arg5.IsWhole) (arg6 :
      Memref sig .tc .hbm S1024x2816 .f32) (harg6 : arg6.IsWhole) (arg7 : Memref sig .tc .hbm S2816x1024 .f32) (harg7 :
      arg7.IsWhole) (arg8 : Memref sig .tc .vmem S1x1024 .f32) (harg8 : arg8.IsWhole) (arg9 : Memref sig .tc .hbm S3088x1024
      .f32) (harg9 : arg9.IsWhole) (arg10 : Memref sig .tc .vmem S128x256 .bf16) (harg10 : arg10.IsWhole) (arg11 : Memref
      sig .tc .vmem S1x256 .f32) (harg11 : arg11.IsWhole) (arg12 : Memref sig .tc .vmem S32x1024 .f32) (harg12 :
      arg12.IsWhole) (arg13 : Memref sig .tc .vmem S32x2816 .f32) (harg13 : arg13.IsWhole) (arg14 : Memref sig .tc .vmem
      S32x2816 .f32) (harg14 : arg14.IsWhole) (arg15 : Memref sig .tc .vmem S176x1024 .f32) (harg15 : arg15.IsWhole) (arg16
      : Memref sig .tc .vmem S512x1024 .f32) (harg16 : arg16.IsWhole) (arg17 : Memref sig .tc .vmem S512x3072 .bf16) (harg17
      : arg17.IsWhole) (arg18 : Memref sig .tc .vmem S512x256 .f32) (harg18 : arg18.IsWhole) (arg19 : Memref sig .tc .vmem
      S32x1024 .bf16) (harg19 : arg19.IsWhole) (arg20 : Memref sig .tc .vmem S32x2816 .bf16) (harg20 : arg20.IsWhole) (arg21
      : Memref sig .tc .vmem S32x2816 .bf16) (harg21 : arg21.IsWhole) (arg22 : Memref sig .tc .vmem S176x1024 .bf16) (harg22
      : arg22.IsWhole) (arg23 : Memref sig .tc .vmem S512x2816 .bf16) (harg23 : arg23.IsWhole) (arg24 : Memref sig .tc .vmem
      S1024x2816 .bf16) (harg24 : arg24.IsWhole) (arg25 : Memref sig .tc .vmem S1024x2816 .bf16) (harg25 : arg25.IsWhole)
      (arg26 : Memref sig .tc .vmem S2816x1024 .bf16) (harg26 : arg26.IsWhole) (arg27 : Memref sig .tc .vmem S3072x1024
      .bf16) (harg27 : arg27.IsWhole) (arg28 : Memref sig .tc .vmem S128x1024 .bf16) (harg28 : arg28.IsWhole) (alloca_r0 :
      Memref sig .tc .vmem S6x128x2816 .f32) (halloca_r0 : alloca_r0.IsWhole) (v651_r0 : DmaSems sig S6) (alloca_r1 : Memref
      sig .tc .vmem S6x128x2816 .f32) (halloca_r1 : alloca_r1.IsWhole) (v651_r1 : DmaSems sig S6) (alloca_r2 : Memref sig
      .tc .vmem S6x352x1024 .f32) (halloca_r2 : alloca_r2.IsWhole) (v651_r2 : DmaSems sig S6) (alloca_r3 : Memref sig .tc
      .vmem S6x384x1024 .f32) (halloca_r3 : alloca_r3.IsWhole) (v651_r3 : DmaSems sig S6) (alloca_r4 : Memref sig .tc .vmem
      S16x1024 .f32) (halloca_r4 : alloca_r4.IsWhole) (v651_r4 : DmaSems sig S1)
  (c : Dev nD) (i : grid0.Coords)

set_option maxHeartbeats 4000000 in
/-- With the weights in their scratches. -/
theorem held_spec (H5 : Buf (Elt F) (arg5.view.loc (c : Thread nD τ))) (H6 : Buf (Elt F) (arg6.view.loc (c : Thread nD τ))) (H7 : Buf
      (Elt F) (arg7.view.loc (c : Thread nD τ))) (H9 : Buf (Elt F) (arg9.view.loc (c : Thread nD τ)))
    (x1 : Vec F S512x1024 .f32) (x2 : Vec F S512x128 .f32) (x3 : Vec F S512x128 .f32) (x4 : Vec F S1x1024 .f32) (x8 : Vec
      F S1x1024 .f32) (x10 : Vec F S128x256 .bf16) (x11 : Vec F S1x256 .f32) (x12 : Vec F S32x1024 .f32) (x13 : Vec F
      S32x2816 .f32) (x14 : Vec F S32x2816 .f32) (x15 : Vec F S176x1024 .f32) (K : PUnit.{1} → sProp 𝕄) :
    iprop(held c arg23 False (fun _ => Scalar.ofBits .bf16 0x0000#16)
      ∗ held c arg24 True (castW c arg5 H5 (N' := 1024) (by decide) cst)
      ∗ held c arg25 True (castW c arg6 H6 (N' := 1024) (by decide) cst)
      ∗ held c arg26 True (castW c arg7 H7 (N' := 2816) (by decide) cst)
      ∗ held c arg27 True (castW c arg9 H9 (N' := 3072) (by decide) cst)
      ∗ held c arg28 True (lowW arg9 c H9)
      ∗ atRest c arg5 alloca_r0 v651_r0 H5
      ∗ atRest c arg6 alloca_r1 v651_r1 H6
      ∗ atRest c arg7 alloca_r2 v651_r2 H7
      ∗ atRest c arg9 alloca_r3 v651_r3 H9
      ∗ (∃ f, alloca_r4.view.loc (c : Thread nD τ) ↦[alloca_r4.view.set]{fullShare} f)
      ∗ semVal ((c : Thread nD τ), SemLoc.dma (sem4 v651_r4)) 0
      ∗ (∃ W, owes (c : Thread nD τ) 0 W)
      ∗ owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg8 fullShare x8
      ∗ owns (c : Thread nD τ) arg10 fullShare x10
      ∗ owns (c : Thread nD τ) arg11 fullShare x11
      ∗ owns (c : Thread nD τ) arg12 fullShare x12
      ∗ owns (c : Thread nD τ) arg13 fullShare x13
      ∗ owns (c : Thread nD τ) arg14 fullShare x14
      ∗ owns (c : Thread nD τ) arg15 fullShare x15
      ∗ (∃ d, owns (c : Thread nD τ) arg16 fullShare d)
      ∗ (∃ d, owns (c : Thread nD τ) arg17 fullShare d)
      ∗ (∃ d, owns (c : Thread nD τ) arg18 fullShare d)
      ∗ (∃ d, owns (c : Thread nD τ) arg19 fullShare d)
      ∗ (∃ d, owns (c : Thread nD τ) arg20 fullShare d)
      ∗ (∃ d, owns (c : Thread nD τ) arg21 fullShare d)
      ∗ (∃ d, owns (c : Thread nD τ) arg22 fullShare d)
      ∗ (iprop(held c arg23 False (fun _ => Scalar.ofBits .bf16 0x0000#16)
      ∗ held c arg24 True (castW c arg5 H5 (N' := 1024) (by decide) cst)
      ∗ held c arg25 True (castW c arg6 H6 (N' := 1024) (by decide) cst)
      ∗ held c arg26 True (castW c arg7 H7 (N' := 2816) (by decide) cst)
      ∗ held c arg27 True (castW c arg9 H9 (N' := 3072) (by decide) cst)
      ∗ held c arg28 True (lowW arg9 c H9)
      ∗ atRest c arg5 alloca_r0 v651_r0 H5
      ∗ atRest c arg6 alloca_r1 v651_r1 H6
      ∗ atRest c arg7 alloca_r2 v651_r2 H7
      ∗ atRest c arg9 alloca_r3 v651_r3 H9
      ∗ (∃ f, alloca_r4.view.loc (c : Thread nD τ) ↦[alloca_r4.view.set]{fullShare} f)
      ∗ semVal ((c : Thread nD τ), SemLoc.dma (sem4 v651_r4)) 0
      ∗ (∃ W, owes (c : Thread nD τ) 0 W)
      ∗ owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg8 fullShare x8
      ∗ owns (c : Thread nD τ) arg10 fullShare x10
      ∗ owns (c : Thread nD τ) arg11 fullShare x11
      ∗ owns (c : Thread nD τ) arg12 fullShare x12
      ∗ owns (c : Thread nD τ) arg13 fullShare x13
      ∗ owns (c : Thread nD τ) arg14 fullShare x14
      ∗ owns (c : Thread nD τ) arg15 fullShare x15
      ∗ owns (c : Thread nD τ) arg16 fullShare (View.canon (outX x1 (View.canon (outA x1 x4 (castW c arg5 H5 (N' := 1024) (by decide) cst) (castW c arg6 H6 (N' := 1024) (by decide) cst))) (castW c arg7 H7 (N' := 2816) (by decide) cst)))
      ∗ owns (c : Thread nD τ) arg17 fullShare (View.canon (outP x1 x2 x3 x8 (View.canon (outA x1 x4 (castW c arg5 H5 (N' := 1024) (by decide) cst) (castW c arg6 H6 (N' := 1024) (by decide) cst))) (castW c arg7 H7 (N' := 2816) (by decide) cst) (castW c arg9 H9 (N' := 3072) (by decide) cst)))
      ∗ owns (c : Thread nD τ) arg18 fullShare (View.canon (outL x1 x8 x10 x11 (View.canon (outA x1 x4 (castW c arg5 H5 (N' := 1024) (by decide) cst) (castW c arg6 H6 (N' := 1024) (by decide) cst))) (castW c arg7 H7 (N' := 2816) (by decide) cst) (lowW arg9 c H9)))
      ∗ owns (c : Thread nD τ) arg19 fullShare (View.canon (outO x12))
      ∗ owns (c : Thread nD τ) arg20 fullShare (View.canon (outG x13))
      ∗ owns (c : Thread nD τ) arg21 fullShare (View.canon (outU x14))
      ∗ owns (c : Thread nD τ) arg22 fullShare (View.canon (outD x15))) -∗ K PUnit.unit))
      ⊢ wpK c (progA (F := F) arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 i >>= fun v => progB (F := F) arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 i v.1 v.2) K := by
  iintro ⟨H23, H24, H25, H26, H27, H28, R5, R6, R7, R9, Ha, Hv, HW, H1, H2, H3, H4, H8, H10, H11, H12, H13, H14, H15, H16, H17, H18, H19, H20, H21, H22, HK⟩
  ihave H24 := (owns_of_held c harg24) $$ H24
  ihave H25 := (owns_of_held c harg25) $$ H25
  ihave H26 := (owns_of_held c harg26) $$ H26
  ihave H27 := (owns_of_held c harg27) $$ H27
  ihave H28 := (owns_of_held c harg28) $$ H28
  ihave H23 := (any_of_held c) $$ H23
  icases H23 with ⟨%f23, H23⟩
  iapply (rest_spec arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 c i x1 x2 x3 x4 x8 x10 x11 x12 x13 x14 x15 (castW c arg5 H5 (N' := 1024) (by decide) cst) (castW c arg6 H6 (N' := 1024) (by decide) cst) (castW c arg7 H7 (N' := 2816) (by decide) cst) (castW c arg9 H9 (N' := 3072) (by decide) cst) (lowW arg9 c H9) K)
  isplitl [H1]; · iexact H1
  isplitl [H2]; · iexact H2
  isplitl [H3]; · iexact H3
  isplitl [H4]; · iexact H4
  isplitl [H8]; · iexact H8
  isplitl [H10]; · iexact H10
  isplitl [H11]; · iexact H11
  isplitl [H12]; · iexact H12
  isplitl [H13]; · iexact H13
  isplitl [H14]; · iexact H14
  isplitl [H15]; · iexact H15
  isplitl [H24]; · iexact H24
  isplitl [H25]; · iexact H25
  isplitl [H26]; · iexact H26
  isplitl [H27]; · iexact H27
  isplitl [H28]; · iexact H28
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]
  · unfold owns; iexists _, f23; isplitr; · ipureintro; rfl
    rw [harg23.set_eq_univ]; iexact H23
  iintro ⟨H1, H2, H3, H4, H8, H10, H11, H12, H13, H14, H15, H24, H25, H26, H27, H28, H16, H17, H18, H19, H20, H21, H22, %d23, H23⟩
  ihave H24 := (held_of_owns c harg24 True) $$ H24
  ihave H25 := (held_of_owns c harg25 True) $$ H25
  ihave H26 := (held_of_owns c harg26 True) $$ H26
  ihave H27 := (held_of_owns c harg27 True) $$ H27
  ihave H28 := (held_of_owns c harg28 True) $$ H28
  ihave H23 := (held_of_owns c harg23 False) $$ H23
  ihave H23 := (any_of_held c) $$ H23
  ihave H23 := (held_any c (fun _ => Scalar.ofBits .bf16 0x0000#16)) $$ H23
  iapply HK
  isplitl [H23]; · iexact H23
  isplitl [H24]; · iexact H24
  isplitl [H25]; · iexact H25
  isplitl [H26]; · iexact H26
  isplitl [H27]; · iexact H27
  isplitl [H28]; · iexact H28
  isplitl [R5]; · iexact R5
  isplitl [R6]; · iexact R6
  isplitl [R7]; · iexact R7
  isplitl [R9]; · iexact R9
  isplitl [Ha]; · iexact Ha
  isplitl [Hv]; · iexact Hv
  isplitl [HW]; · iexact HW
  isplitl [H1]; · iexact H1
  isplitl [H2]; · iexact H2
  isplitl [H3]; · iexact H3
  isplitl [H4]; · iexact H4
  isplitl [H8]; · iexact H8
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

set_option maxHeartbeats 4000000 in
/-- The body at a point: at the first the weights are brought in, at the others they are there. -/
theorem body_spec (H5 : Buf (Elt F) (arg5.view.loc (c : Thread nD τ))) (H6 : Buf (Elt F) (arg6.view.loc (c : Thread nD τ))) (H7 : Buf
      (Elt F) (arg7.view.loc (c : Thread nD τ))) (H9 : Buf (Elt F) (arg9.view.loc (c : Thread nD τ)))
    (x1 : Vec F S512x1024 .f32) (x2 : Vec F S512x128 .f32) (x3 : Vec F S512x128 .f32) (x4 : Vec F S1x1024 .f32) (x8 : Vec
      F S1x1024 .f32) (x10 : Vec F S128x256 .bf16) (x11 : Vec F S1x256 .f32) (x12 : Vec F S32x1024 .f32) (x13 : Vec F
      S32x2816 .f32) (x14 : Vec F S32x2816 .f32) (x15 : Vec F S176x1024 .f32) (p : Prop) (hp : ¬ k0_cond1 i = 1#1 → p) (K : PUnit.{1} → sProp 𝕄) :
    iprop(held c arg23 False (fun _ => Scalar.ofBits .bf16 0x0000#16)
      ∗ held c arg24 p (castW c arg5 H5 (N' := 1024) (by decide) cst)
      ∗ held c arg25 p (castW c arg6 H6 (N' := 1024) (by decide) cst)
      ∗ held c arg26 p (castW c arg7 H7 (N' := 2816) (by decide) cst)
      ∗ held c arg27 p (castW c arg9 H9 (N' := 3072) (by decide) cst)
      ∗ held c arg28 p (lowW arg9 c H9)
      ∗ atRest c arg5 alloca_r0 v651_r0 H5
      ∗ atRest c arg6 alloca_r1 v651_r1 H6
      ∗ atRest c arg7 alloca_r2 v651_r2 H7
      ∗ atRest c arg9 alloca_r3 v651_r3 H9
      ∗ (∃ f, alloca_r4.view.loc (c : Thread nD τ) ↦[alloca_r4.view.set]{fullShare} f)
      ∗ semVal ((c : Thread nD τ), SemLoc.dma (sem4 v651_r4)) 0
      ∗ (∃ W, owes (c : Thread nD τ) 0 W)
      ∗ owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg8 fullShare x8
      ∗ owns (c : Thread nD τ) arg10 fullShare x10
      ∗ owns (c : Thread nD τ) arg11 fullShare x11
      ∗ owns (c : Thread nD τ) arg12 fullShare x12
      ∗ owns (c : Thread nD τ) arg13 fullShare x13
      ∗ owns (c : Thread nD τ) arg14 fullShare x14
      ∗ owns (c : Thread nD τ) arg15 fullShare x15
      ∗ (∃ d, owns (c : Thread nD τ) arg16 fullShare d)
      ∗ (∃ d, owns (c : Thread nD τ) arg17 fullShare d)
      ∗ (∃ d, owns (c : Thread nD τ) arg18 fullShare d)
      ∗ (∃ d, owns (c : Thread nD τ) arg19 fullShare d)
      ∗ (∃ d, owns (c : Thread nD τ) arg20 fullShare d)
      ∗ (∃ d, owns (c : Thread nD τ) arg21 fullShare d)
      ∗ (∃ d, owns (c : Thread nD τ) arg22 fullShare d)
      ∗ (iprop(held c arg23 False (fun _ => Scalar.ofBits .bf16 0x0000#16)
      ∗ held c arg24 True (castW c arg5 H5 (N' := 1024) (by decide) cst)
      ∗ held c arg25 True (castW c arg6 H6 (N' := 1024) (by decide) cst)
      ∗ held c arg26 True (castW c arg7 H7 (N' := 2816) (by decide) cst)
      ∗ held c arg27 True (castW c arg9 H9 (N' := 3072) (by decide) cst)
      ∗ held c arg28 True (lowW arg9 c H9)
      ∗ atRest c arg5 alloca_r0 v651_r0 H5
      ∗ atRest c arg6 alloca_r1 v651_r1 H6
      ∗ atRest c arg7 alloca_r2 v651_r2 H7
      ∗ atRest c arg9 alloca_r3 v651_r3 H9
      ∗ (∃ f, alloca_r4.view.loc (c : Thread nD τ) ↦[alloca_r4.view.set]{fullShare} f)
      ∗ semVal ((c : Thread nD τ), SemLoc.dma (sem4 v651_r4)) 0
      ∗ (∃ W, owes (c : Thread nD τ) 0 W)
      ∗ owns (c : Thread nD τ) arg1 fullShare x1
      ∗ owns (c : Thread nD τ) arg2 fullShare x2
      ∗ owns (c : Thread nD τ) arg3 fullShare x3
      ∗ owns (c : Thread nD τ) arg4 fullShare x4
      ∗ owns (c : Thread nD τ) arg8 fullShare x8
      ∗ owns (c : Thread nD τ) arg10 fullShare x10
      ∗ owns (c : Thread nD τ) arg11 fullShare x11
      ∗ owns (c : Thread nD τ) arg12 fullShare x12
      ∗ owns (c : Thread nD τ) arg13 fullShare x13
      ∗ owns (c : Thread nD τ) arg14 fullShare x14
      ∗ owns (c : Thread nD τ) arg15 fullShare x15
      ∗ owns (c : Thread nD τ) arg16 fullShare (View.canon (outX x1 (View.canon (outA x1 x4 (castW c arg5 H5 (N' := 1024) (by decide) cst) (castW c arg6 H6 (N' := 1024) (by decide) cst))) (castW c arg7 H7 (N' := 2816) (by decide) cst)))
      ∗ owns (c : Thread nD τ) arg17 fullShare (View.canon (outP x1 x2 x3 x8 (View.canon (outA x1 x4 (castW c arg5 H5 (N' := 1024) (by decide) cst) (castW c arg6 H6 (N' := 1024) (by decide) cst))) (castW c arg7 H7 (N' := 2816) (by decide) cst) (castW c arg9 H9 (N' := 3072) (by decide) cst)))
      ∗ owns (c : Thread nD τ) arg18 fullShare (View.canon (outL x1 x8 x10 x11 (View.canon (outA x1 x4 (castW c arg5 H5 (N' := 1024) (by decide) cst) (castW c arg6 H6 (N' := 1024) (by decide) cst))) (castW c arg7 H7 (N' := 2816) (by decide) cst) (lowW arg9 c H9)))
      ∗ owns (c : Thread nD τ) arg19 fullShare (View.canon (outO x12))
      ∗ owns (c : Thread nD τ) arg20 fullShare (View.canon (outG x13))
      ∗ owns (c : Thread nD τ) arg21 fullShare (View.canon (outU x14))
      ∗ owns (c : Thread nD τ) arg22 fullShare (View.canon (outD x15))) -∗ K PUnit.unit))
      ⊢ wpK c (cc0_ffn1_proj (F := F) i arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4) K := by
  rw [cc0_ffn1_proj_eq_skeleton, rest_eq]
  by_cases h1 : k0_cond1 i = 1#1
  · rw [dif_pos h1]
    iintro ⟨H23, H24, H25, H26, H27, H28, R5, R6, R7, R9, Ha, Hv, HW, H1, H2, H3, H4, H8, H10, H11, H12, H13, H14, H15, H16, H17, H18, H19, H20, H21, H22, HK⟩
    ihave H24 := (any_of_held c) $$ H24
    ihave H25 := (any_of_held c) $$ H25
    ihave H26 := (any_of_held c) $$ H26
    ihave H27 := (any_of_held c) $$ H27
    ihave H28 := (any_of_held c) $$ H28
    iapply (load_spec arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 c i h1 H5 H6 H7 H9) $$ [R5 R6 R7 R9 Ha Hv HW H24 H25 H26 H27 H28]
    · isplitl [R5]; · iexact R5
      isplitl [R6]; · iexact R6
      isplitl [R7]; · iexact R7
      isplitl [R9]; · iexact R9
      isplitl [Ha]; · iexact Ha
      isplitl [Hv]; · iexact Hv
      isplitl [HW]; · iexact HW
      isplitl [H24]; · iexact H24
      isplitl [H25]; · iexact H25
      isplitl [H26]; · iexact H26
      isplitl [H27]; · iexact H27
      iexact H28
    iintro ⟨R5, R6, R7, R9, Ha, Hv, HW, H24, H25, H26, H27, H28⟩
    ihave H24 := (held_True c _) $$ H24
    ihave H25 := (held_True c _) $$ H25
    ihave H26 := (held_True c _) $$ H26
    ihave H27 := (held_True c _) $$ H27
    ihave H28 := (held_True c _) $$ H28
    iapply (held_spec arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 c i H5 H6 H7 H9 x1 x2 x3 x4 x8 x10 x11 x12 x13 x14 x15 K)
    isplitl [H23]; · iexact H23
    isplitl [H24]; · iexact H24
    isplitl [H25]; · iexact H25
    isplitl [H26]; · iexact H26
    isplitl [H27]; · iexact H27
    isplitl [H28]; · iexact H28
    isplitl [R5]; · iexact R5
    isplitl [R6]; · iexact R6
    isplitl [R7]; · iexact R7
    isplitl [R9]; · iexact R9
    isplitl [Ha]; · iexact Ha
    isplitl [Hv]; · iexact Hv
    isplitl [HW]; · iexact HW
    isplitl [H1]; · iexact H1
    isplitl [H2]; · iexact H2
    isplitl [H3]; · iexact H3
    isplitl [H4]; · iexact H4
    isplitl [H8]; · iexact H8
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact HK
  · rw [dif_neg h1]
    obtain rfl : p = True := eq_true (hp h1)
    rw [pure_bind]
    exact held_spec arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20
      harg20 arg21 harg21 arg22 harg22 arg23 harg23 arg24 harg24 arg25 harg25 arg26 harg26 arg27 harg27 arg28 harg28
      alloca_r0 halloca_r0 v651_r0 alloca_r1 halloca_r1 v651_r1 alloca_r2 halloca_r2 v651_r2 alloca_r3 halloca_r3 v651_r3
      alloca_r4 halloca_r4 v651_r4 c i H5 H6 H7 H9 x1 x2 x3 x4 x8 x10 x11 x12 x13 x14 x15 K

end

end Cert.KernelIdeal.Hand
-- ==== Proof.Setup.lean ====
/-
  The launch's set-up at the algebra with the transfers' counters: the program up to the kernel, the windows' blocks,
  the frame claim's postcondition from a run, and the kernel's own semaphores and arrays named one by one.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueLayout
public import Idealize.SL.BI.BigOpNat
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

/-- The resource algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

set_option maxHeartbeats 800000 in
theorem hmain (𝒱₀ : Variants) : Pipeline.HMain (Ix := Unit) (Name := ℕ) (U := Pipeline.UD sig nD τ) (Lvl := ℕ) cfgs 0 defs₀ 𝒱₀ m
    (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩)
    main_chain

section Before

variable {c : Dev nD} (dat : Dat τ (Elt F) Unit ℕ (Pipeline.UD sig nD τ) ℕ cfg0 c)

theorem before_0 (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3 (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4 (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5 (hA : dat.A 5 = V m c (Pipeline.arrRef spec0 5)) (hafter : ∀ t, dat.after 5 t = iblk m c 5 t)
    (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6 (hA : dat.A 6 = V m c (Pipeline.arrRef spec0 6)) (hafter : ∀ t, dat.after 6 t = iblk m c 6 t)
    (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7 (hA : dat.A 7 = V m c (Pipeline.arrRef spec0 7)) (hafter : ∀ t, dat.after 7 t = iblk m c 7 t)
    (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8 (hA : dat.A 8 = V m c (Pipeline.arrRef spec0 8)) (hafter : ∀ t, dat.after 8 t = iblk m c 8 t)
    (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9 (hA : dat.A 9 = V m c (Pipeline.arrRef spec0 9)) (hafter : ∀ t, dat.after 9 t = iblk m c 9 t)
    (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10 (hA : dat.A 10 = V m c (Pipeline.arrRef spec0 10)) (hafter : ∀ t, dat.after 10 t = iblk m c 10 t)
    (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

end Before

set_option maxHeartbeats 1080000 in
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (fun r => Pipeline.FramePost cfgs dats 0 (V m) r ∧ r.2.sem = fun _ => 0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨fun c => ⟨((h.1 c).2 main_arg0 (Pipeline.mem_restRefs_of main_arg0 (by decide) (by decide))).trans (V_main_arg0 m c),
    (h.1 c).1 3 |>.trans (((dats 0 c).arrAt_in 3 rfl _).trans ((hA c 3).trans (V_main_arg1 m c))),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    (h.1 c).1 4 |>.trans (((dats 0 c).arrAt_in 4 rfl _).trans ((hA c 4).trans (V_main_arg5 m c))),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    (h.1 c).1 6 |>.trans (((dats 0 c).arrAt_in 6 rfl _).trans ((hA c 6).trans (V_main_arg8 m c))),
    ((h.1 c).2 main_arg9 (Pipeline.mem_restRefs_of main_arg9 (by decide) (by decide))).trans (V_main_arg9 m c),
    ((h.1 c).2 main_arg10 (Pipeline.mem_restRefs_of main_arg10 (by decide) (by decide))).trans (V_main_arg10 m c),
    ((h.1 c).2 main_arg11 (Pipeline.mem_restRefs_of main_arg11 (by decide) (by decide))).trans (V_main_arg11 m c),
    ((h.1 c).2 main_arg12 (Pipeline.mem_restRefs_of main_arg12 (by decide) (by decide))).trans (V_main_arg12 m c)⟩, h.2⟩) h

/-! ## The kernel's own semaphores, and the weights it reads where they are -/

/-- The semaphores of the four rings and of the tail's copy. -/
abbrev osem0 : Fin 25 → SemLoc sig := fun j => (![
  SemLoc.dma 32, SemLoc.dma 33, SemLoc.dma 34, SemLoc.dma 35, SemLoc.dma 36, SemLoc.dma 37, SemLoc.dma 38, SemLoc.dma 39, SemLoc.dma 40, SemLoc.dma 41, SemLoc.dma 42, SemLoc.dma 43, SemLoc.dma 44, SemLoc.dma 45, SemLoc.dma 46, SemLoc.dma 47, SemLoc.dma 48, SemLoc.dma 49, SemLoc.dma 50, SemLoc.dma 51, SemLoc.dma 52, SemLoc.dma 53, SemLoc.dma 54, SemLoc.dma 55, SemLoc.dma 56] : Fin 25 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 32) 0
          ∗ semVal ((c : Thread nD τ), SemLoc.dma 33) 0
          ∗ semVal ((c : Thread nD τ), SemLoc.dma 34) 0
          ∗ semVal ((c : Thread nD τ), SemLoc.dma 35) 0
          ∗ semVal ((c : Thread nD τ), SemLoc.dma 36) 0
          ∗ semVal ((c : Thread nD τ), SemLoc.dma 37) 0
          ∗ semVal ((c : Thread nD τ), SemLoc.dma 38) 0
          ∗ semVal ((c : Thread nD τ), SemLoc.dma 39) 0
          ∗ semVal ((c : Thread nD τ), SemLoc.dma 40) 0
          ∗ semVal ((c : Thread nD τ), SemLoc.dma 41) 0
          ∗ semVal ((c : Thread nD τ), SemLoc.dma 42) 0
          ∗ semVal ((c : Thread nD τ), SemLoc.dma 43) 0
          ∗ semVal ((c : Thread nD τ), SemLoc.dma 44) 0
          ∗ semVal ((c : Thread nD τ), SemLoc.dma 45) 0
          ∗ semVal ((c : Thread nD τ), SemLoc.dma 46) 0
          ∗ semVal ((c : Thread nD τ), SemLoc.dma 47) 0
          ∗ semVal ((c : Thread nD τ), SemLoc.dma 48) 0
          ∗ semVal ((c : Thread nD τ), SemLoc.dma 49) 0
          ∗ semVal ((c : Thread nD τ), SemLoc.dma 50) 0
          ∗ semVal ((c : Thread nD τ), SemLoc.dma 51) 0
          ∗ semVal ((c : Thread nD τ), SemLoc.dma 52) 0
          ∗ semVal ((c : Thread nD τ), SemLoc.dma 53) 0
          ∗ semVal ((c : Thread nD τ), SemLoc.dma 54) 0
          ∗ semVal ((c : Thread nD τ), SemLoc.dma 55) 0
          ∗ semVal ((c : Thread nD τ), SemLoc.dma 56) 0) := by
  rw [Pipeline.ownSems0_eq_of_list c osem0 [0, 1, 2, 3, 4, 5, 6, 7, 8, 9, 10, 11, 12, 13, 14, 15, 16, 17, 18, 19, 20, 21, 22, 23, 24] (by decide) (by decide)]; rfl

def H0 : Finset (Ref sig .tc) := {main_v41, main_v42, main_v43, main_v1}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_v41) ↦{fullShare} V m c main_v41) ∗ (((c : Thread nD τ).loc main_v42) ↦{fullShare} V m c main_v42)
          ∗ (((c : Thread nD τ).loc main_v43) ↦{fullShare} V m c main_v43) ∗ (((c : Thread nD τ).loc main_v1) ↦{fullShare} V m c main_v1)) := by
  rw [BI.bigSep_eq_bigSepL_of_eq [main_v41, main_v42, main_v43, main_v1] (by decide) (by decide)]; rfl

end Cert.KernelIdeal.Hand
-- ==== Proof.Run.lean ====
/-
  The frame: the proof data of the call, its body's obligation, the run, and what the run leaves of the arguments.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueLayout
public import Idealize.SL.BI.BigOpNat
public import proofs.«01_k».proof.Proof.Body
public import proofs.«01_k».proof.Proof.Setup

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

/-- The resource algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The gate weight as the body holds it: cast. -/
abbrev wGate (c : Dev nD) : Vec F S1024x2816 .bf16 := castW c (Memref.whole main_v41) (V m c main_v41) (N' := 1024) (by decide) cst
/-- The up weight. -/
abbrev wUp (c : Dev nD) : Vec F S1024x2816 .bf16 := castW c (Memref.whole main_v42) (V m c main_v42) (N' := 1024) (by decide) cst
/-- The down weight. -/
abbrev wDown (c : Dev nD) : Vec F S2816x1024 .bf16 := castW c (Memref.whole main_v43) (V m c main_v43) (N' := 2816) (by decide) cst
/-- The input weight, its first rows. -/
abbrev wIn (c : Dev nD) : Vec F S3072x1024 .bf16 := castW c (Memref.whole main_v1) (V m c main_v1) (N' := 3072) (by decide) cst
/-- The input weight, its last rows, over zeros. -/
abbrev wLow (c : Dev nD) : Vec F S128x1024 .bf16 := lowW (Memref.whole main_v1) c (V m c main_v1)
/-- The activations at a point. -/
abbrev actAt (c : Dev nD) (t : Fin cfg0.N) : Vec F S512x2816 .bf16 :=
  View.canon (outA (iblk m c 0 t) (iblk m c 3 t) (wGate m c) (wUp m c))
abbrev xAt (c : Dev nD) (t : Fin cfg0.N) : Vec F S512x1024 .f32 :=
  View.canon (outX (iblk m c 0 t) (actAt m c t) (wDown m c))
abbrev pAt (c : Dev nD) (t : Fin cfg0.N) : Vec F S512x3072 .bf16 :=
  View.canon (outP (iblk m c 0 t) (iblk m c 1 t) (iblk m c 2 t) (iblk m c 4 t) (actAt m c t) (wDown m c) (wIn m c))
abbrev lAt (c : Dev nD) (t : Fin cfg0.N) : Vec F S512x256 .f32 :=
  View.canon (outL (iblk m c 0 t) (iblk m c 4 t) (iblk m c 5 t) (iblk m c 6 t) (actAt m c t) (wDown m c) (wLow m c))
abbrev oAt (c : Dev nD) (t : Fin cfg0.N) : Vec F S32x1024 .bf16 :=
  View.canon (outO (iblk m c 7 t))
abbrev gAt (c : Dev nD) (t : Fin cfg0.N) : Vec F S32x2816 .bf16 :=
  View.canon (outG (iblk m c 8 t))
abbrev uAt (c : Dev nD) (t : Fin cfg0.N) : Vec F S32x2816 .bf16 :=
  View.canon (outU (iblk m c 9 t))
abbrev dAt (c : Dev nD) (t : Fin cfg0.N) : Vec F S176x1024 .bf16 :=
  View.canon (outD (iblk m c 10 t))

/-- What the body keeps between points: its scratch, at the cast weights where `p`, the weights in HBM, its semaphores. -/
def keep (c : Dev nD) (p : Prop) : sProp 𝕄 :=
  iprop(held c (Memref.whole cc0_scratch0) False (fun _ => Scalar.ofBits .bf16 0x0000#16)
      ∗ held c (Memref.whole cc0_scratch1) p (wGate m c)
      ∗ held c (Memref.whole cc0_scratch2) p (wUp m c)
      ∗ held c (Memref.whole cc0_scratch3) p (wDown m c)
      ∗ held c (Memref.whole cc0_scratch4) p (wIn m c)
      ∗ held c (Memref.whole cc0_scratch5) p (wLow m c)
      ∗ atRest c (Memref.whole main_v41) (Memref.whole cc0_scoped0) cc0_scoped1 (V m c main_v41)
      ∗ atRest c (Memref.whole main_v42) (Memref.whole cc0_scoped2) cc0_scoped3 (V m c main_v42)
      ∗ atRest c (Memref.whole main_v43) (Memref.whole cc0_scoped4) cc0_scoped5 (V m c main_v43)
      ∗ atRest c (Memref.whole main_v1) (Memref.whole cc0_scoped6) cc0_scoped7 (V m c main_v1)
      ∗ (∃ f, (Memref.whole cc0_scoped8).view.loc (c : Thread nD τ) ↦[(Memref.whole cc0_scoped8).view.set]{fullShare} f)
      ∗ semVal ((c : Thread nD τ), SemLoc.dma (sem4 cc0_scoped9)) 0)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => xAt m c t
    | ⟨12, _⟩ => pAt m c t
    | ⟨13, _⟩ => lAt m c t
    | ⟨14, _⟩ => oAt m c t
    | ⟨15, _⟩ => gAt m c t
    | ⟨16, _⟩ => uAt m c t
    | ⟨17, _⟩ => dAt m c t
    | ⟨n + 18, h⟩ => absurd (show n + 18 < 18 from h) (by omega)
  Φ t := iprop(keep m c (t.val ≠ 0) ∗ (∃ r, prngReg c r))
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = xAt m c t := by dsimp only [dats]
theorem after_12 (c : Dev nD) (t : Fin cfg0.N) : (dats m 0 c).after 12 t = pAt m c t := by dsimp only [dats]
theorem after_13 (c : Dev nD) (t : Fin cfg0.N) : (dats m 0 c).after 13 t = lAt m c t := by dsimp only [dats]
theorem after_14 (c : Dev nD) (t : Fin cfg0.N) : (dats m 0 c).after 14 t = oAt m c t := by dsimp only [dats]
theorem after_15 (c : Dev nD) (t : Fin cfg0.N) : (dats m 0 c).after 15 t = gAt m c t := by dsimp only [dats]
theorem after_16 (c : Dev nD) (t : Fin cfg0.N) : (dats m 0 c).after 16 t = uAt m c t := by dsimp only [dats]
theorem after_17 (c : Dev nD) (t : Fin cfg0.N) : (dats m 0 c).after 17 t = dAt m c t := by dsimp only [dats]

theorem first : ∀ t : Fin cfg0.N, ¬ k0_cond1 (grid0.coords t) = 1#1 → t.val ≠ 0 := by decide

/-! ## The scratch and the semaphores, as the launch gives them -/

theorem cells_1 (c : Dev nD) : cells0 (F := F) c cc0_scoped1 = iprop(semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0) := by
  unfold cells0; rw [BI.bigSep_eq_bigSepL_of_eq [0, 1, 2, 3, 4, 5] (by decide) (by decide)]; rfl
theorem cells_3 (c : Dev nD) : cells0 (F := F) c cc0_scoped3 = iprop(semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0) := by
  unfold cells0; rw [BI.bigSep_eq_bigSepL_of_eq [0, 1, 2, 3, 4, 5] (by decide) (by decide)]; rfl
theorem cells_5 (c : Dev nD) : cells0 (F := F) c cc0_scoped5 = iprop(semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0) := by
  unfold cells0; rw [BI.bigSep_eq_bigSepL_of_eq [0, 1, 2, 3, 4, 5] (by decide) (by decide)]; rfl
theorem cells_7 (c : Dev nD) : cells0 (F := F) c cc0_scoped7 = iprop(semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0) := by
  unfold cells0; rw [BI.bigSep_eq_bigSepL_of_eq [0, 1, 2, 3, 4, 5] (by decide) (by decide)]; rfl

set_option maxHeartbeats 4000000 in
theorem keep_in (c : Dev nD) : Pipeline.ΦD osem0 spec0 H0 (V m) c ⊢ (dats m 0 c).Φ 0 := by
  rw [Pipeline.ΦD_eq, scopedRest0_eq, ownSems00_eq, hbmPts0_eq]
  rw [show (dats m 0 c).Φ 0 = iprop(keep m c ((0 : Fin (cfg0.N + 1)).val ≠ 0) ∗ (∃ r, prngReg c r)) from rfl,
    show ((0 : Fin (cfg0.N + 1)).val ≠ 0) = False from eq_false (by decide)]
  unfold keep atRest
  rw [cells_1, cells_3, cells_5, cells_7]
  iintro ⟨⟨K23, K24, K25, K26, K27, K28, SR5, SR6, SR7, SR9, Ha⟩, Hg, ⟨C32, C33, C34, C35, C36, C37, C38, C39, C40, C41, C42, C43, C44, C45, C46, C47, C48, C49, C50, C51, C52, C53, C54, C55, C56⟩, ⟨BR5, BR6, BR7, BR9⟩⟩
  ihave K23 := (held_any c (m := (Memref.whole cc0_scratch0)) (fun _ => Scalar.ofBits .bf16 0x0000#16)) $$ K23
  ihave K24 := (held_any c (m := (Memref.whole cc0_scratch1)) (wGate m c)) $$ K24
  ihave K25 := (held_any c (m := (Memref.whole cc0_scratch2)) (wUp m c)) $$ K25
  ihave K26 := (held_any c (m := (Memref.whole cc0_scratch3)) (wDown m c)) $$ K26
  ihave K27 := (held_any c (m := (Memref.whole cc0_scratch4)) (wIn m c)) $$ K27
  ihave K28 := (held_any c (m := (Memref.whole cc0_scratch5)) (wLow m c)) $$ K28
  isplitr [Hg]; swap; · iexact Hg
  isplitl [K23]; · iexact K23
  isplitl [K24]; · iexact K24
  isplitl [K25]; · iexact K25
  isplitl [K26]; · iexact K26
  isplitl [K27]; · iexact K27
  isplitl [K28]; · iexact K28
  isplitl [BR5 SR5 C32 C33 C34 C35 C36 C37]
  · isplitl [BR5]; · iexact BR5
    isplitl [SR5]; · iexact SR5
    isplitl [C32]; · iexact C32
    isplitl [C33]; · iexact C33
    isplitl [C34]; · iexact C34
    isplitl [C35]; · iexact C35
    isplitl [C36]; · iexact C36
    iexact C37
  isplitl [BR6 SR6 C38 C39 C40 C41 C42 C43]
  · isplitl [BR6]; · iexact BR6
    isplitl [SR6]; · iexact SR6
    isplitl [C38]; · iexact C38
    isplitl [C39]; · iexact C39
    isplitl [C40]; · iexact C40
    isplitl [C41]; · iexact C41
    isplitl [C42]; · iexact C42
    iexact C43
  isplitl [BR7 SR7 C44 C45 C46 C47 C48 C49]
  · isplitl [BR7]; · iexact BR7
    isplitl [SR7]; · iexact SR7
    isplitl [C44]; · iexact C44
    isplitl [C45]; · iexact C45
    isplitl [C46]; · iexact C46
    isplitl [C47]; · iexact C47
    isplitl [C48]; · iexact C48
    iexact C49
  isplitl [BR9 SR9 C50 C51 C52 C53 C54 C55]
  · isplitl [BR9]; · iexact BR9
    isplitl [SR9]; · iexact SR9
    isplitl [C50]; · iexact C50
    isplitl [C51]; · iexact C51
    isplitl [C52]; · iexact C52
    isplitl [C53]; · iexact C53
    isplitl [C54]; · iexact C54
    iexact C55
  isplitl [Ha]
  · icases Ha with ⟨%f, Ha⟩
    iexists f
    rw [View.set_whole]; iexact Ha
  iexact C56

set_option maxHeartbeats 4000000 in
theorem keep_out (c : Dev nD) : (dats m 0 c).Φ (Fin.last cfg0.N) ⊢ Pipeline.ΦD osem0 spec0 H0 (V m) c := by
  rw [Pipeline.ΦD_eq, scopedRest0_eq, ownSems00_eq, hbmPts0_eq]
  rw [show (dats m 0 c).Φ (Fin.last cfg0.N) = iprop(keep m c ((Fin.last cfg0.N).val ≠ 0) ∗ (∃ r, prngReg c r)) from rfl]
  unfold keep atRest
  rw [cells_1, cells_3, cells_5, cells_7]
  iintro ⟨⟨K23, K24, K25, K26, K27, K28, ⟨BR5, SR5, C32, C33, C34, C35, C36, C37⟩, ⟨BR6, SR6, C38, C39, C40, C41, C42, C43⟩, ⟨BR7, SR7, C44, C45, C46, C47, C48, C49⟩, ⟨BR9, SR9, C50, C51, C52, C53, C54, C55⟩, ⟨%fa, Ha⟩, C56⟩, Hg⟩
  ihave K23 := (any_of_held c) $$ K23
  ihave K24 := (any_of_held c) $$ K24
  ihave K25 := (any_of_held c) $$ K25
  ihave K26 := (any_of_held c) $$ K26
  ihave K27 := (any_of_held c) $$ K27
  ihave K28 := (any_of_held c) $$ K28
  isplitl [K23 K24 K25 K26 K27 K28 SR5 SR6 SR7 SR9 Ha]
  · isplitl [K23]; · iexact K23
    isplitl [K24]; · iexact K24
    isplitl [K25]; · iexact K25
    isplitl [K26]; · iexact K26
    isplitl [K27]; · iexact K27
    isplitl [K28]; · iexact K28
    isplitl [SR5]; · iexact SR5
    isplitl [SR6]; · iexact SR6
    isplitl [SR7]; · iexact SR7
    isplitl [SR9]; · iexact SR9
    iexists fa; rw [View.set_whole]; iexact Ha
  isplitl [Hg]; · iexact Hg
  isplitl [C32 C33 C34 C35 C36 C37 C38 C39 C40 C41 C42 C43 C44 C45 C46 C47 C48 C49 C50 C51 C52 C53 C54 C55 C56]
  · isplitl [C32]; · iexact C32
    isplitl [C33]; · iexact C33
    isplitl [C34]; · iexact C34
    isplitl [C35]; · iexact C35
    isplitl [C36]; · iexact C36
    isplitl [C37]; · iexact C37
    isplitl [C38]; · iexact C38
    isplitl [C39]; · iexact C39
    isplitl [C40]; · iexact C40
    isplitl [C41]; · iexact C41
    isplitl [C42]; · iexact C42
    isplitl [C43]; · iexact C43
    isplitl [C44]; · iexact C44
    isplitl [C45]; · iexact C45
    isplitl [C46]; · iexact C46
    isplitl [C47]; · iexact C47
    isplitl [C48]; · iexact C48
    isplitl [C49]; · iexact C49
    isplitl [C50]; · iexact C50
    isplitl [C51]; · iexact C51
    isplitl [C52]; · iexact C52
    isplitl [C53]; · iexact C53
    isplitl [C54]; · iexact C54
    isplitl [C55]; · iexact C55
    iexact C56
  isplitl [BR5]; · iexact BR5
  isplitl [BR6]; · iexact BR6
  isplitl [BR7]; · iexact BR7
  iexact BR9

/-! ## The body -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d))
      ∗ (∃ d, owns (c : Thread nD τ) (win0_6.stage (cfg0.slots t 6)) fullShare ((dats m 0 c).before 6 t d))
      ∗ (∃ d, owns (c : Thread nD τ) (win0_7.stage (cfg0.slots t 7)) fullShare ((dats m 0 c).before 7 t d))
      ∗ (∃ d, owns (c : Thread nD τ) (win0_8.stage (cfg0.slots t 8)) fullShare ((dats m 0 c).before 8 t d))
      ∗ (∃ d, owns (c : Thread nD τ) (win0_9.stage (cfg0.slots t 9)) fullShare ((dats m 0 c).before 9 t d))
      ∗ (∃ d, owns (c : Thread nD τ) (win0_10.stage (cfg0.slots t 10)) fullShare ((dats m 0 c).before 10 t d))
      ∗ (∃ d, owns (c : Thread nD τ) (win0_11.stage (cfg0.slots t 11)) fullShare ((dats m 0 c).before 11 t d))
      ∗ (∃ d, owns (c : Thread nD τ) (win0_12.stage (cfg0.slots t 12)) fullShare ((dats m 0 c).before 12 t d))
      ∗ (∃ d, owns (c : Thread nD τ) (win0_13.stage (cfg0.slots t 13)) fullShare ((dats m 0 c).before 13 t d))
      ∗ (∃ d, owns (c : Thread nD τ) (win0_14.stage (cfg0.slots t 14)) fullShare ((dats m 0 c).before 14 t d))
      ∗ (∃ d, owns (c : Thread nD τ) (win0_15.stage (cfg0.slots t 15)) fullShare ((dats m 0 c).before 15 t d))
      ∗ (∃ d, owns (c : Thread nD τ) (win0_16.stage (cfg0.slots t 16)) fullShare ((dats m 0 c).before 16 t d))
      ∗ (∃ d, owns (c : Thread nD τ) (win0_17.stage (cfg0.slots t 17)) fullShare ((dats m 0 c).before 17 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
      ∗ owns (c : Thread nD τ) (win0_1.stage (cfg0.slots t 1)) fullShare ((dats m 0 c).after 1 t)
      ∗ owns (c : Thread nD τ) (win0_2.stage (cfg0.slots t 2)) fullShare ((dats m 0 c).after 2 t)
      ∗ owns (c : Thread nD τ) (win0_3.stage (cfg0.slots t 3)) fullShare ((dats m 0 c).after 3 t)
      ∗ owns (c : Thread nD τ) (win0_4.stage (cfg0.slots t 4)) fullShare ((dats m 0 c).after 4 t)
      ∗ owns (c : Thread nD τ) (win0_5.stage (cfg0.slots t 5)) fullShare ((dats m 0 c).after 5 t)
      ∗ owns (c : Thread nD τ) (win0_6.stage (cfg0.slots t 6)) fullShare ((dats m 0 c).after 6 t)
      ∗ owns (c : Thread nD τ) (win0_7.stage (cfg0.slots t 7)) fullShare ((dats m 0 c).after 7 t)
      ∗ owns (c : Thread nD τ) (win0_8.stage (cfg0.slots t 8)) fullShare ((dats m 0 c).after 8 t)
      ∗ owns (c : Thread nD τ) (win0_9.stage (cfg0.slots t 9)) fullShare ((dats m 0 c).after 9 t)
      ∗ owns (c : Thread nD τ) (win0_10.stage (cfg0.slots t 10)) fullShare ((dats m 0 c).after 10 t)
      ∗ owns (c : Thread nD τ) (win0_11.stage (cfg0.slots t 11)) fullShare ((dats m 0 c).after 11 t)
      ∗ owns (c : Thread nD τ) (win0_12.stage (cfg0.slots t 12)) fullShare ((dats m 0 c).after 12 t)
      ∗ owns (c : Thread nD τ) (win0_13.stage (cfg0.slots t 13)) fullShare ((dats m 0 c).after 13 t)
      ∗ owns (c : Thread nD τ) (win0_14.stage (cfg0.slots t 14)) fullShare ((dats m 0 c).after 14 t)
      ∗ owns (c : Thread nD τ) (win0_15.stage (cfg0.slots t 15)) fullShare ((dats m 0 c).after 15 t)
      ∗ owns (c : Thread nD τ) (win0_16.stage (cfg0.slots t 16)) fullShare ((dats m 0 c).after 16 t)
      ∗ owns (c : Thread nD τ) (win0_17.stage (cfg0.slots t 17)) fullShare ((dats m 0 c).after 17 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = iprop(keep m c (t.succ.val ≠ 0) ∗ (∃ r, prngReg c r)) from rfl,
    show (dats m 0 c).Φ t.castSucc = iprop(keep m c (t.val ≠ 0) ∗ (∃ r, prngReg c r)) from rfl,
    show (t.succ.val ≠ 0) = True from eq_true (by rw [Fin.val_succ]; omega)]
  unfold Dat.owesAt Pipeline.owesWithin
  rw [show (dats m 0 c).owed t.castSucc = 0 from rfl, show (dats m 0 c).owed t.succ = 0 from rfl]
  rw [after_0, after_1, after_2, after_3, after_4, after_5, after_6, after_7, after_8, after_9, after_10, after_11, after_12, after_13, after_14, after_15, after_16, after_17]
  simp only [before_0 m (dats m 0 c) (A_eq m c 0) (after_0 m c) t, before_1 m (dats m 0 c) (A_eq m c 1) (after_1 m c) t, before_2 m (dats m 0 c) (A_eq m c 2) (after_2 m c) t, before_3 m (dats m 0 c) (A_eq m c 3) (after_3 m c) t, before_4 m (dats m 0 c) (A_eq m c 4) (after_4 m c) t, before_5 m (dats m 0 c) (A_eq m c 5) (after_5 m c) t, before_6 m (dats m 0 c) (A_eq m c 6) (after_6 m c) t, before_7 m (dats m 0 c) (A_eq m c 7) (after_7 m c) t, before_8 m (dats m 0 c) (A_eq m c 8) (after_8 m c) t, before_9 m (dats m 0 c) (A_eq m c 9) (after_9 m c) t, before_10 m (dats m 0 c) (A_eq m c 10) (after_10 m c) t]
  unfold keep
  iintro ⟨⟨⟨H23, H24, H25, H26, H27, H28, R5, R6, R7, R9, Ha, Hv⟩, Hg⟩, ⟨%W, -, HW⟩, ⟨%d1, H1⟩, ⟨%d2, H2⟩, ⟨%d3, H3⟩, ⟨%d4, H4⟩, ⟨%d8, H8⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (body_spec (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole main_v41) (Memref.isWhole_whole _) (Memref.whole main_v42) (Memref.isWhole_whole _) (Memref.whole main_v43) (Memref.isWhole_whole _) (win0_4.stage (cfg0.slots t 4)) (hstage0_4 ((cfg0.slots t 4).cast nbuf0_4)) (Memref.whole main_v1) (Memref.isWhole_whole _) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scoped0) (Memref.isWhole_whole _) cc0_scoped1 (Memref.whole cc0_scoped2) (Memref.isWhole_whole _) cc0_scoped3 (Memref.whole cc0_scoped4) (Memref.isWhole_whole _) cc0_scoped5 (Memref.whole cc0_scoped6) (Memref.isWhole_whole _) cc0_scoped7 (Memref.whole cc0_scoped8) (Memref.isWhole_whole _) cc0_scoped9 c (grid0.coords t) (V m c main_v41) (V m c main_v42) (V m c main_v43) (V m c main_v1)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (t.val ≠ 0) (first t))
  isplitl [H23]; · iexact H23
  isplitl [H24]; · iexact H24
  isplitl [H25]; · iexact H25
  isplitl [H26]; · iexact H26
  isplitl [H27]; · iexact H27
  isplitl [H28]; · iexact H28
  isplitl [R5]; · iexact R5
  isplitl [R6]; · iexact R6
  isplitl [R7]; · iexact R7
  isplitl [R9]; · iexact R9
  isplitl [Ha]; · iexact Ha
  isplitl [Hv]; · iexact Hv
  isplitl [HW]; · iexists W; iexact HW
  isplitl [H1]; · iexact H1
  isplitl [H2]; · iexact H2
  isplitl [H3]; · iexact H3
  isplitl [H4]; · iexact H4
  isplitl [H8]; · iexact H8
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H23, H24, H25, H26, H27, H28, R5, R6, R7, R9, Ha, Hv, ⟨%W2, HW⟩, H1, H2, H3, H4, H8, H10, H11, H12, H13, H14, H15, H16, H17, H18, H19, H20, H21, H22⟩
  isplitl [H23 H24 H25 H26 H27 H28 R5 R6 R7 R9 Ha Hv Hg]
  · isplitr [Hg]; swap; · iexact Hg
    isplitl [H23]; · iexact H23
    isplitl [H24]; · iexact H24
    isplitl [H25]; · iexact H25
    isplitl [H26]; · iexact H26
    isplitl [H27]; · iexact H27
    isplitl [H28]; · iexact H28
    isplitl [R5]; · iexact R5
    isplitl [R6]; · iexact R6
    isplitl [R7]; · iexact R7
    isplitl [R9]; · iexact R9
    isplitl [Ha]; · iexact Ha
    iexact Hv
  isplitl [HW]
  · iexists W2; isplitr; · ipureintro; exact fun _ _ => Or.inl trivial
    iexact HW
  isplitl [H1]; · iexact H1
  isplitl [H2]; · iexact H2
  isplitl [H3]; · iexact H3
  isplitl [H4]; · iexact H4
  isplitl [H8]; · iexact H8
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := keep_in m) (hout := keep_out m)

end Cert.KernelIdeal.Hand
-- ==== Proof.FrameKernel.lean ====
/-
  The program's own frame, from the run the idealized program's frame comes from.
-/
module

public import proofs.«01_k».proof.Defs
public import proofs.«01_k».proof.Proof.Gen.Kernel
public import proofs.«01_k».proof.Proof.Gen.KernelIdeal
public import proofs.«01_k».proof.Proof.Run
public import Idealize.ShloMosaic.Adequacy
public import Idealize.ShloMosaic.Init

@[expose] public section

noncomputable section

namespace Cert.Proof

open Idealize.ShloMosaic Idealize.SL.Sem Cert.KernelIdeal Cert.KernelIdeal.Hand

set_option smartUnfolding false in
set_option maxHeartbeats 40000000 in
/-- The program's own frame, from the same run. -/
theorem frame_kernel : Cert.quiescent_Kernel := fun m ρ _ =>
  frame_of m ρ (dats m) (A_eq m) (run_main (F := Bits) m ρ)

end Cert.Proof

end
-- ==== Proof.Spec.lean ====
/-
  The functions of one row that both programs compute, over the extended reals: the root-mean-square norm, the gated
  feed-forward layer, the projection. The gate's function is a parameter: the two programs spell it differently.
-/
module

public import Idealize.ShloMosaic.Lib.Pointwise
public import Idealize.ShloMosaic.PureOps.Ideal

@[expose] public section

noncomputable section

namespace Cert.Spec

open Idealize.ShloMosaic

/-- One half. -/
abbrev half : EReal := Ideal.ofBits .f32 0x3F000000#32

/-- A row's norm: each entry over the root of the mean square, times the gain. -/
def rms (x g : Fin 1024 → EReal) (k : Fin 1024) : EReal :=
  x k * Ideal.rsqrt (Ideal.div (∑ j, x j * x j) (Ideal.ofBits .f32 0x44800000#32) + Ideal.ofBits .f32 0x358637BD#32) * g k

/-- The gate by the hyperbolic tangent. -/
def siluT (z : EReal) : EReal := half * z * Ideal.tanh (half * z) + half * z

/-- The gate by the exponential. -/
def siluE (z : EReal) : EReal := z * Ideal.div 1 (1 + Ideal.exp (-z))

/-- One activation: the gate of one product times another. -/
def act (s : EReal → EReal) (h wg wu : Fin 1024 → EReal) : EReal := s (∑ k, h k * wg k) * ∑ k, h k * wu k

/-- A row after the feed-forward layer, at column `n`, from its activations. -/
def res (x : Fin 1024 → EReal) (a : Fin 2816 → EReal) (wd : Fin 2816 → Fin 1024 → EReal) (n : Fin 1024) : EReal :=
  x n + half * ∑ j, a j * wd j n

/-- A row after the feed-forward layer. -/
def ffn (s : EReal → EReal) (x g : Fin 1024 → EReal) (wg wu : Fin 1024 → Fin 2816 → EReal)
    (wd : Fin 2816 → Fin 1024 → EReal) : Fin 1024 → EReal :=
  res x (fun j => act s (rms x g) (fun k => wg k j) (fun k => wu k j)) wd

/-- The decay's logarithm from its logit, by the smaller of the logit and zero. -/
def decay (z : EReal) : EReal :=
  (min z 0 - Ideal.log (1 + Ideal.exp (0 - max z (-z)))) * Ideal.ofBits .f32 0x3D800000#32

/-- The decay's logarithm by the softplus of the opposite logit. -/
def decayE (z : EReal) : EReal :=
  Ideal.div (-(max (-z) 0 + Ideal.log1p (Ideal.exp (-(max (-z) (- -z)))))) (Ideal.ofBits .f32 0x41800000#32)

/-- One eighth: the root of the head's width, inverted. -/
abbrev eighth : EReal := Ideal.ofBits .f32 0x3E000000#32

/-- The projection at a column. -/
def proj (h : Fin 1024 → EReal) (w : Fin 1024 → Fin 3088 → EReal) (c : Fin 3088) : EReal := ∑ k, h k * w k c

/-- The projection's columns as the mixer takes them: rotated, scaled, gated or as they are, by the column's part. -/
def mixed (s : EReal → EReal) (p : Fin 3088 → EReal) (cos sin : Fin 32 → EReal) (c : Fin 3072) : EReal :=
  if h : c.val < 512 then
    let v := if h' : c.val % 64 < 32 then
        p ⟨c.val, by omega⟩ * cos ⟨c.val % 32, by omega⟩ - p ⟨c.val + 32, by omega⟩ * sin ⟨c.val % 32, by omega⟩
      else p ⟨c.val - 32, by omega⟩ * sin ⟨c.val % 32, by omega⟩ + p ⟨c.val, by omega⟩ * cos ⟨c.val % 32, by omega⟩
    if c.val < 256 then v else v * eighth
  else if c.val < 1024 then p ⟨c.val, by omega⟩
  else if c.val < 1536 then s (p ⟨c.val, by omega⟩)
  else if c.val < 1792 then p ⟨c.val, by omega⟩ * eighth
  else if c.val < 2560 then p ⟨c.val, by omega⟩
  else s (p ⟨c.val, by omega⟩)

/-- The decay's logit at a column, from the projection's last sixteen columns. -/
def logit (p : Fin 3088 → EReal) (w : Fin 16 → Fin 256 → EReal) (b : Fin 256 → EReal) (c : Fin 256) : EReal :=
  (∑ k : Fin 16, p ⟨3072 + k.val, by omega⟩ * w k c) + b c

/-- The rotation's angle: a position times a frequency. -/
def angle (t : Fin 4096) (a : Fin 32) : EReal :=
  ((t.val : ℝ) : EReal) * Ideal.pow (Ideal.ofBits .f32 0x461C4000#32) (Ideal.div (-((a.val : ℝ) : EReal) * Ideal.ofBits .f32 0x40000000#32) (Ideal.ofBits .f32 0x42800000#32))

end Cert.Spec
-- ==== Proof.Pay.lean ====
/-
  What the body's expressions are at an index, over the extended reals.
-/
module

public import proofs.«01_k».proof.Proof.Gen.KernelIdeal.Skeleton
public import proofs.«01_k».proof.Proof.Spec

@[expose] public section

set_option maxRecDepth 16384

noncomputable section

namespace Cert.KernelIdeal.Hand

open Cert.KernelIdeal Cert.KernelIdeal.Gen
open Idealize.ShloMosaic Cert.Spec

theorem pay9_at (x : Vec Ideal S256x1024 .f32) (g : Vec Ideal S1x1024 .f32) (r : Fin 256) (k : Fin 1024) :
    k0_pay9 x g (ix2 r k) = rms (fun j => x (ix2 r j)) (fun j => g (ix2 0 j)) k := by
  unfold rms
  pointwise [k0_pay9, k0_pay8]

theorem pay14_at (h : FVec Ideal S256x1024 .bf16) (wg wu : Vec Ideal S1024x256 .bf16) (r : Fin 256) (k : Fin 256) :
    k0_pay14 h wg wu (ix2 r k) = act siluT (fun j => h (ix2 r j)) (fun j => wg (ix2 j k)) (fun j => wu (ix2 j k)) := by
  unfold act siluT
  pointwise [k0_pay14]

theorem pay47_at (x : FVec Ideal S256x1024 .f32) (a : Vec Ideal S256x2816 .bf16) (wd : Vec Ideal S2816x1024 .bf16) (r : Fin 256) (n : Fin 1024) :
    k0_pay47 x a wd (ix2 r n) = res (fun j => x (ix2 r j)) (fun j => a (ix2 r j)) (fun j k => wd (ix2 j k)) n := by
  unfold res
  pointwise [k0_pay47]

theorem pay1_at (z : FVec Ideal S256x256 .f32) (b : Vec Ideal S1x256 .f32) (r l : Fin 256) :
    k0_pay1 z b (ix2 r l) = decay (z (ix2 r l) + b (ix2 0 l)) := by
  unfold decay
  pointwise [k0_pay1]
  rfl

/-- The lanes of a head's first half. -/
theorem mask_at (r : Fin 256) (l : Fin 128) :
    (k0_pay56 k0_pay54 k0_pay55) (ix2 r l) = if l.val % 64 < 32 then 1#1 else 0#1 := by
  pointwise [k0_pay54, k0_pay55, k0_pay56]
  revert l
  decide +kernel

/-- The other lane of a rotated pair. -/
def mate (l : Fin 128) : Fin 128 := if l.val % 64 < 32 then ⟨(l.val + 128 - 96) % 128, by omega⟩ else ⟨(l.val + 128 - 32) % 128, by omega⟩

/-- A lane of two heads, rotated. -/
def turn (p c s : Fin 128 → EReal) (l : Fin 128) : EReal := p l * c l + p (mate l) * s l

theorem pay62_at (v : FVec Ideal S256x256 .f32) (c s : FVec Ideal S256x128 .f32) (r : Fin 256) (l : Fin 128) :
    k0_pay62 c s (k0_pay56 k0_pay54 k0_pay55) v (ix2 r l)
      = turn (fun l => v (ix2 r ⟨128 + l.val, by omega⟩)) (fun l => c (ix2 r l)) (fun l => s (ix2 r l)) l * eighth := by
  have hm := mask_at r l
  unfold turn mate
  generalize k0_pay56 k0_pay54 k0_pay55 = M at hm ⊢
  pointwise [k0_pay62]
  rw [hm]
  split
  · rfl
  · rfl

theorem pay80_at (v : FVec Ideal S256x128 .f32) (c s : FVec Ideal S256x128 .f32) (r : Fin 256) (l : Fin 128) :
    k0_pay80 c s (k0_pay56 k0_pay54 k0_pay55) v (ix2 r l)
      = turn (fun l => v (ix2 r l)) (fun l => c (ix2 r l)) (fun l => s (ix2 r l)) l * eighth := by
  have hm := mask_at r l
  unfold turn mate
  generalize k0_pay56 k0_pay54 k0_pay55 = M at hm ⊢
  pointwise [k0_pay80]
  rw [hm]
  split
  · rfl
  · rfl

theorem pay75_at (h : FVec Ideal S256x1024 .bf16) (w : Vec Ideal S256x1024 .bf16) (c s : FVec Ideal S256x128 .f32) (r : Fin 256) (l : Fin 128) :
    k0_pay75 h c s (k0_pay56 k0_pay54 k0_pay55) w (ix2 r l)
      = turn (fun l => ∑ k, h (ix2 r k) * w (ix2 ⟨l.val, by omega⟩ k)) (fun l => c (ix2 r l)) (fun l => s (ix2 r l)) l := by
  have hm := mask_at r l
  unfold turn mate
  generalize k0_pay56 k0_pay54 k0_pay55 = M at hm ⊢
  pointwise [k0_pay75, k0_pay74]
  rw [hm]
  split
  · rfl
  · rfl

theorem pay76_at (h : FVec Ideal S256x1024 .bf16) (w : Vec Ideal S256x1024 .bf16) (c s : FVec Ideal S256x128 .f32) (r : Fin 256) (l : Fin 128) :
    k0_pay76 h c s (k0_pay56 k0_pay54 k0_pay55) w (ix2 r l)
      = turn (fun l => ∑ k, h (ix2 r k) * w (ix2 ⟨128 + l.val, by omega⟩ k)) (fun l => c (ix2 r l)) (fun l => s (ix2 r l)) l := by
  have hm := mask_at r l
  unfold turn mate
  generalize k0_pay56 k0_pay54 k0_pay55 = M at hm ⊢
  pointwise [k0_pay76, k0_pay74]
  rw [hm]
  split
  · rfl
  · rfl

theorem pay78_at (h : FVec Ideal S256x1024 .bf16) (w : Vec Ideal S256x1024 .bf16) (c s : FVec Ideal S256x128 .f32) (r : Fin 256) (l : Fin 128) :
    k0_pay78 h c s (k0_pay56 k0_pay54 k0_pay55) w (ix2 r l)
      = turn (fun l => ∑ k, h (ix2 r k) * w (ix2 ⟨l.val, by omega⟩ k)) (fun l => c (ix2 r l)) (fun l => s (ix2 r l)) l * eighth := by
  have hm := mask_at r l
  unfold turn mate
  generalize k0_pay56 k0_pay54 k0_pay55 = M at hm ⊢
  pointwise [k0_pay78, k0_pay77]
  rw [hm]
  split
  · rfl
  · rfl

theorem pay79_at (h : FVec Ideal S256x1024 .bf16) (w : Vec Ideal S256x1024 .bf16) (r : Fin 256) (l : Fin 128) :
    k0_pay79 h w (ix2 r l) = ∑ k, h (ix2 r k) * w (ix2 ⟨128 + l.val, by omega⟩ k) := by
  pointwise [k0_pay79, k0_pay77]

theorem pay82_at (h : FVec Ideal S256x1024 .bf16) (w : Vec Ideal S1024x1024 .bf16) (r : Fin 256) (l : Fin 512) :
    k0_pay82 h w (ix2 r l) = ∑ k, h (ix2 r k) * w (ix2 ⟨l.val, by omega⟩ k) := by
  pointwise [k0_pay82, k0_pay81]

theorem pay83_at (h : FVec Ideal S256x1024 .bf16) (w : Vec Ideal S1024x1024 .bf16) (r : Fin 256) (l : Fin 512) :
    k0_pay83 h w (ix2 r l) = siluT (∑ k, h (ix2 r k) * w (ix2 ⟨512 + l.val, by omega⟩ k)) := by
  unfold siluT
  pointwise [k0_pay83, k0_pay81]

theorem pay84_at (h : FVec Ideal S256x1024 .bf16) (w : Vec Ideal S256x1024 .bf16) (r : Fin 256) (l : Fin 256) :
    k0_pay84 h w (ix2 r l) = (∑ k, h (ix2 r k) * w (ix2 l k)) * eighth := by
  pointwise [k0_pay84]

theorem pay86_at (h : FVec Ideal S256x1024 .bf16) (w : Vec Ideal S1280x1024 .bf16) (r : Fin 256) (l : Fin 768) :
    k0_pay86 h w (ix2 r l) = ∑ k, h (ix2 r k) * w (ix2 ⟨l.val, by omega⟩ k) := by
  pointwise [k0_pay86, k0_pay85]

theorem pay87_at (h : FVec Ideal S256x1024 .bf16) (w : Vec Ideal S1280x1024 .bf16) (r : Fin 256) (l : Fin 512) :
    k0_pay87 (k0_pay85 h w) (ix2 r l) = siluT (∑ k, h (ix2 r k) * w (ix2 ⟨768 + l.val, by omega⟩ k)) := by
  unfold siluT
  pointwise [k0_pay87, k0_pay85]

theorem pay48_at (x : FVec Ideal S256x1024 .f32) (a : Vec Ideal S256x2816 .bf16) (wd : Vec Ideal S2816x1024 .bf16) (g : Vec Ideal S1x1024 .f32) (r : Fin 256) (n : Fin 1024) :
    k0_pay48 x a wd g (ix2 r n) = rms (res (fun j => x (ix2 r j)) (fun j => a (ix2 r j)) (fun j k => wd (ix2 j k))) (fun j => g (ix2 0 j)) n := by
  unfold rms res
  pointwise [k0_pay48, k0_pay47]

theorem pay89_at (h : FVec Ideal S256x1024 .bf16) (w : Vec Ideal S128x1024 .bf16) (u : Vec Ideal S128x256 .bf16) (r l : Fin 256) :
    k0_pay89 h w u (ix2 r l) = ∑ i, (∑ k, h (ix2 r k) * w (ix2 i k)) * u (ix2 i l) := by
  pointwise [k0_pay89]

theorem eq_8 : k0_pay10 (F := Ideal) = k0_pay8 := rfl

end Cert.KernelIdeal.Hand
-- ==== Proof.Blocks.lean ====
/-
  What a point leaves in each result's block, at an index, over the extended reals.
-/
module

public import proofs.«01_k».proof.Proof.Step
public import proofs.«01_k».proof.Proof.Pay
public import Idealize.ShloMosaic.Lib.Pipeline.ValueKit

@[expose] public section

set_option maxRecDepth 16384

noncomputable section

namespace Cert.KernelIdeal.Hand

open Cert.KernelIdeal Cert.KernelIdeal.Gen
open Idealize.ShloMosaic Cert.Spec

theorem act_congr {s : EReal → EReal} {h h' a a' b b' : Fin 1024 → EReal} (e : ∀ k, h k = h' k) (ea : ∀ k, a k = a' k) (eb : ∀ k, b k = b' k) :
    act s h a b = act s h' a' b' := by rw [funext e, funext ea, funext eb]

theorem rms_congr {x x' g g' : Fin 1024 → EReal} (e : ∀ k, x k = x' k) (eg : ∀ k, g k = g' k) (k : Fin 1024) :
    rms x g k = rms x' g' k := by rw [funext e, funext eg]

theorem res_congr {x x' : Fin 1024 → EReal} {a a' : Fin 2816 → EReal} {w w' : Fin 2816 → Fin 1024 → EReal} (e : ∀ k, x k = x' k)
    (ea : ∀ k, a k = a' k) (ew : ∀ j k, w j k = w' j k) (n : Fin 1024) : res x a w n = res x' a' w' n := by
  rw [funext e, funext ea, funext fun j => funext fun k => ew j k]

/-- A load at an index. -/
theorem ld2 {e : EltTy} {A B n m : ℕ} (X : Vec Ideal ⟨2, ![A, B]⟩ e) (off : Fin 2 → ℕ)
    (inb : ∀ a, off a + (![n, m] : Fin 2 → ℕ) a ≤ (⟨2, ![A, B]⟩ : Shape).size a) (p : Fin n) (q : Fin m) (r : Fin A) (c : Fin B)
    (hr : r.val = off 0 + p.val) (hc : c.val = off 1 + q.val) :
    View.ld X (Rect.unit (s := ⟨2, ![A, B]⟩) off ![n, m] inb) (ix2 p q) = X (ix2 r c) := by
  refine View.ld_unit_apply_of _ _ _ _ _ _ ?_
  intro a
  match a with
  | ⟨0, _⟩ => exact hr
  | ⟨1, _⟩ => exact hc

theorem piece_at (x : Vec Ideal S256x1024 .f32) (g : Vec Ideal S1x1024 .f32) (wg wu : Vec Ideal S1024x256 .bf16) (y : S256x256.Idx) :
    k0_pay14 (k0_pay9 x g) wg wu y = act siluT (rms (fun j => x (ix2 (y 0) j)) (fun j => g (ix2 0 j))) (fun j => wg (ix2 j (y 1))) (fun j => wu (ix2 j (y 1))) := by
  obtain ⟨r, k, rfl⟩ : ∃ (r k : Fin 256), y = ix2 r k := ⟨y 0, y 1, eq_ix2 y⟩
  rw [pay14_at]
  exact act_congr (fun j => pay9_at _ _ _ _) (fun _ => rfl) (fun _ => rfl)

/-- The activations of a point. -/
theorem canonA (x1 : Vec Ideal S512x1024 .f32) (x4 : Vec Ideal S1x1024 .f32) (x24 x25 : Vec Ideal S1024x2816 .bf16) (r : Fin 512) (j : Fin 2816) :
    View.canon (outA x1 x4 x24 x25) (ix2 r j)
      = act siluT (rms (fun k => x1 (ix2 r k)) (fun k => x4 (ix2 0 k))) (fun k => x24 (ix2 k j)) (fun k => x25 (ix2 k j)) := by
  have hc := cover23 x1 x4 x24 x25 (ix2 r j)
  unfold outA at hc ⊢
  dsimp only at hc ⊢
  canon_tiles x h using hc
  all_goals
    refine Eq.trans (b := k0_pay14 (k0_pay9 _ _) _ _ x) rfl ((piece_at _ _ _ _ _).trans (act_congr (rms_congr (fun k => ld2 _ _ _ _ _ _ _ ?_ ?_) (fun k => ld2 _ _ _ _ _ _ _ ?_ ?_)) (fun k => ld2 _ _ _ _ _ _ _ ?_ ?_) (fun k => ld2 _ _ _ _ _ _ _ ?_ ?_)))
  all_goals (simp at h0 h1 ⊢ <;> omega)

theorem pay8_at (x : Vec Ideal S256x1024 .f32) (r : Fin 256) (k : Fin 1024) : k0_pay8 x (ix2 r k) = x (ix2 r k) := by
  pointwise [k0_pay8]

theorem pay52_at (x : Vec Ideal S256x128 .f32) (r : Fin 256) (k : Fin 128) : k0_pay52 x (ix2 r k) = x (ix2 r k) := by
  pointwise [k0_pay52]

/-- The rows of a point after the layer. -/
theorem canonX (x1 : Vec Ideal S512x1024 .f32) (a : Vec Ideal S512x2816 .bf16) (wd : Vec Ideal S2816x1024 .bf16) (r : Fin 512) (n : Fin 1024) :
    View.canon (outX x1 a wd) (ix2 r n)
      = res (fun k => x1 (ix2 r k)) (fun k => a (ix2 r k)) (fun j k => wd (ix2 j k)) n := by
  have hc := cover16 x1 a wd (ix2 r n)
  unfold outX at hc ⊢
  dsimp only at hc ⊢
  canon_tiles x h using hc
  all_goals
    obtain ⟨p, q, rfl⟩ : ∃ (p : Fin 256) (q : Fin 1024), x = ix2 p q := ⟨x 0, x 1, eq_ix2 x⟩
    obtain rfl : n = q := by apply Fin.ext; simp at h0 h1 ⊢ <;> omega
    refine Eq.trans (b := k0_pay47 (k0_pay8 _) _ _ _) rfl ((pay47_at _ _ _ _ _).trans (res_congr (fun k => (pay8_at _ _ _).trans (ld2 _ _ _ _ _ _ _ ?_ ?_)) (fun k => ld2 _ _ _ _ _ _ _ ?_ ?_) (fun j k => ld2 _ _ _ _ _ _ _ ?_ ?_) _))
  all_goals (simp at h0 h1 ⊢ <;> omega)

/-- The projection's columns as the body stores them. -/
def kmixed (p : Fin 3072 → EReal) (C S : Fin 128 → EReal) (c : Fin 3072) : EReal :=
  if h : c.val < 512 then
    let v := turn (fun l => p ⟨128 * (c.val / 128) + l.val, by omega⟩) C S ⟨c.val % 128, by omega⟩
    if c.val < 256 then v else v * eighth
  else if c.val < 1024 then p c
  else if c.val < 1536 then siluT (p c)
  else if c.val < 1792 then p c * eighth
  else if c.val < 2560 then p c
  else siluT (p c)

theorem turn_congr {p p' C C' S S' : Fin 128 → EReal} {l l' : Fin 128} (e : ∀ k, p k = p' k) (eC : ∀ k, C k = C' k) (eS : ∀ k, S k = S' k) (el : l = l') :
    turn p C S l = turn p' C' S' l' := by rw [funext e, funext eC, funext eS, el]

theorem dot_congr {n : ℕ} {f f' g g' : Fin n → EReal} (e : ∀ k, f k = f' k) (eg : ∀ k, g k = g' k) :
    ∑ k, f k * g k = ∑ k, f' k * g' k := by rw [funext e, funext eg]

section parts

variable {h : FVec Ideal S256x1024 .bf16} {H : Fin 1024 → EReal} {X : Vec Ideal S3072x1024 .bf16} {p : Fin 256} {c : Fin 3072}
  {C S : FVec Ideal S256x128 .f32} {C' S' : Fin 128 → EReal}
  (hh : ∀ k, h (ix2 p k) = H k) (hC : ∀ l, C (ix2 p l) = C' l) (hS : ∀ l, S (ix2 p l) = S' l)
include hh

section rot
variable {w : Vec Ideal S256x1024 .bf16} {o : ℕ} (hw : ∀ (l : Fin 256) (c : Fin 3072) (k : Fin 1024), c.val = o + l.val → w (ix2 l k) = X (ix2 c k))
include hw

theorem part84 (l : Fin 256) (hc : c.val = o + l.val) (ho : o = 1536) :
    k0_pay84 h w (ix2 p l) = kmixed (fun c => ∑ k, H k * X (ix2 c k)) C' S' c := by
  subst ho
  have := l.isLt
  rw [pay84_at, kmixed, dif_neg (by omega), if_neg (by omega), if_neg (by omega), if_pos (by omega)]
  congr 1
  exact dot_congr hh (fun k => hw _ _ _ hc)

include hC hS

theorem part75 (l : Fin 128) (hc : c.val = l.val) (ho : o = 0) :
    k0_pay75 h C S (k0_pay56 k0_pay54 k0_pay55) w (ix2 p l) = kmixed (fun c => ∑ k, H k * X (ix2 c k)) C' S' c := by
  subst ho
  have := l.isLt
  rw [pay75_at, kmixed, dif_pos (by omega)]
  dsimp only
  rw [if_pos (by omega)]
  exact turn_congr (fun i => dot_congr hh (fun k => hw _ _ _ (by dsimp only; omega))) hC hS (Fin.ext (by dsimp only; omega))

theorem part76 (l : Fin 128) (hc : c.val = 128 + l.val) (ho : o = 0) :
    k0_pay76 h C S (k0_pay56 k0_pay54 k0_pay55) w (ix2 p l) = kmixed (fun c => ∑ k, H k * X (ix2 c k)) C' S' c := by
  subst ho
  have := l.isLt
  rw [pay76_at, kmixed, dif_pos (by omega)]
  dsimp only
  rw [if_pos (by omega)]
  exact turn_congr (fun i => dot_congr hh (fun k => hw _ _ _ (by dsimp only; omega))) hC hS (Fin.ext (by dsimp only; omega))

theorem part78 (l : Fin 128) (hc : c.val = 256 + l.val) (ho : o = 256) :
    k0_pay78 h C S (k0_pay56 k0_pay54 k0_pay55) w (ix2 p l) = kmixed (fun c => ∑ k, H k * X (ix2 c k)) C' S' c := by
  subst ho
  have := l.isLt
  rw [pay78_at, kmixed, dif_pos (by omega)]
  dsimp only
  rw [if_neg (by omega)]
  congr 1
  exact turn_congr (fun i => dot_congr hh (fun k => hw _ _ _ (by dsimp only; omega))) hC hS (Fin.ext (by dsimp only; omega))

theorem part80 (l : Fin 128) (hc : c.val = 384 + l.val) (ho : o = 256) :
    k0_pay80 C S (k0_pay56 k0_pay54 k0_pay55) (k0_pay79 h w) (ix2 p l) = kmixed (fun c => ∑ k, H k * X (ix2 c k)) C' S' c := by
  subst ho
  have := l.isLt
  rw [pay80_at, kmixed, dif_pos (by omega)]
  dsimp only
  rw [if_neg (by omega)]
  congr 1
  exact turn_congr (fun i => (pay79_at _ _ _ _).trans (dot_congr hh (fun k => hw _ _ _ (by dsimp only; omega)))) hC hS (Fin.ext (by dsimp only; omega))

end rot

theorem part82 {w : Vec Ideal S1024x1024 .bf16} (hw : ∀ (l : Fin 1024) (c : Fin 3072) (k : Fin 1024), c.val = 512 + l.val → w (ix2 l k) = X (ix2 c k))
    (l : Fin 512) (hc : c.val = 512 + l.val) :
    k0_pay82 h w (ix2 p l) = kmixed (fun c => ∑ k, H k * X (ix2 c k)) C' S' c := by
  have := l.isLt
  rw [pay82_at, kmixed, dif_neg (by omega), if_pos (by omega)]
  exact dot_congr hh (fun k => hw _ _ _ (by dsimp only; omega))

theorem part83 {w : Vec Ideal S1024x1024 .bf16} (hw : ∀ (l : Fin 1024) (c : Fin 3072) (k : Fin 1024), c.val = 512 + l.val → w (ix2 l k) = X (ix2 c k))
    (l : Fin 512) (hc : c.val = 1024 + l.val) :
    k0_pay83 h w (ix2 p l) = kmixed (fun c => ∑ k, H k * X (ix2 c k)) C' S' c := by
  have := l.isLt
  rw [pay83_at, kmixed, dif_neg (by omega), if_neg (by omega), if_pos (by omega)]
  congr 1
  exact dot_congr hh (fun k => hw _ _ _ (by dsimp only; omega))

theorem part86 {w : Vec Ideal S1280x1024 .bf16} (hw : ∀ (l : Fin 1280) (c : Fin 3072) (k : Fin 1024), c.val = 1792 + l.val → w (ix2 l k) = X (ix2 c k))
    (l : Fin 768) (hc : c.val = 1792 + l.val) :
    k0_pay86 h w (ix2 p l) = kmixed (fun c => ∑ k, H k * X (ix2 c k)) C' S' c := by
  have := l.isLt
  rw [pay86_at, kmixed, dif_neg (by omega), if_neg (by omega), if_neg (by omega), if_neg (by omega), if_pos (by omega)]
  exact dot_congr hh (fun k => hw _ _ _ (by dsimp only; omega))

theorem part87 {w : Vec Ideal S1280x1024 .bf16} (hw : ∀ (l : Fin 1280) (c : Fin 3072) (k : Fin 1024), c.val = 1792 + l.val → w (ix2 l k) = X (ix2 c k))
    (l : Fin 512) (hc : c.val = 2560 + l.val) :
    k0_pay87 (k0_pay85 h w) (ix2 p l) = kmixed (fun c => ∑ k, H k * X (ix2 c k)) C' S' c := by
  have := l.isLt
  rw [pay87_at, kmixed, dif_neg (by omega), if_neg (by omega), if_neg (by omega), if_neg (by omega), if_neg (by omega)]
  congr 1
  exact dot_congr hh (fun k => hw _ _ _ (by dsimp only; omega))

end parts

/-- A row of a point, normed after the layer. -/
abbrev hrow (x1 : Vec Ideal S512x1024 .f32) (a : Vec Ideal S512x2816 .bf16) (wd : Vec Ideal S2816x1024 .bf16) (g : Vec Ideal S1x1024 .f32) (r : Fin 512) :
    Fin 1024 → EReal :=
  rms (res (fun k => x1 (ix2 r k)) (fun k => a (ix2 r k)) (fun j k => wd (ix2 j k))) (fun k => g (ix2 0 k))

theorem hrow_at (x1 : Vec Ideal S512x1024 .f32) (a : Vec Ideal S512x2816 .bf16) (wd : Vec Ideal S2816x1024 .bf16) (g : Vec Ideal S1x1024 .f32)
    (o : ℕ) (i1 i2 i3 i4) (p : Fin 256) (r : Fin 512) (hr : r.val = o + p.val) (k : Fin 1024) :
    k0_pay48 (k0_pay8 (View.ld x1 (Rect.unit (s := S512x1024) ![o, 0] S256x1024.size i1))) (View.ld a (Rect.unit (s := S512x2816) ![o, 0] S256x2816.size i2))
      (View.ld wd (Rect.unit (s := S2816x1024) ![0, 0] S2816x1024.size i3)) (View.ld g (Rect.unit (s := S1x1024) ![0, 0] S1x1024.size i4)) (ix2 p k)
      = hrow x1 a wd g r k := by
  rw [pay48_at]
  refine rms_congr (fun n => res_congr (fun k => (pay8_at _ _ _).trans (ld2 _ _ _ _ _ _ _ ?_ ?_)) (fun k => ld2 _ _ _ _ _ _ _ ?_ ?_) (fun j k => ld2 _ _ _ _ _ _ _ ?_ ?_) n) (fun k => ld2 _ _ _ _ _ _ _ ?_ ?_) k
  all_goals (simp <;> omega)

end Cert.KernelIdeal.Hand
-- ==== Proof.Host.lean ====
/-
  What the host operations leave in the arrays the call takes, at an index, over the extended reals.
-/
module

public import proofs.«01_k».proof.Proof.Gen.KernelIdeal.Frame
public import proofs.«01_k».proof.Proof.Blocks
public import Idealize.ShloMosaic.Lib.StableHlo.RunRead
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Cert.Spec

variable (m : (ℓ : Loc nD τ sig) → Buf (Elt Ideal) ℓ)

theorem v36_eq (c : Dev nD) : V m c main_v36 = (shapeCast S16384x1024 (m ((c : Thread nD τ).loc main_arg0)) shapeCasts_S4x4096x1024_S16384x1024 : FVec Ideal S16384x1024 .f32) := by
  simp only [V, hostOps0, hostOps0_1, hostOps0_2, hostOps0_3, hostOps0_4, hostOps0_5, hostOps0_6, List.flatten_cons, List.flatten_nil, List.append_nil, List.cons_append, List.nil_append]
  after_reads_simp
  rfl

theorem v37_eq (c : Dev nD) : V m c main_v37 = (shapeCast S1024x1024 (m ((c : Thread nD τ).loc main_arg9)) shapeCasts_S1x1024x1024_S1024x1024 : FVec Ideal S1024x1024 .f32) := by
  simp only [V, hostOps0, hostOps0_1, hostOps0_2, hostOps0_3, hostOps0_4, hostOps0_5, hostOps0_6, List.flatten_cons, List.flatten_nil, List.append_nil, List.cons_append, List.nil_append]
  after_reads_simp
  rfl

theorem v38_eq (c : Dev nD) : V m c main_v38 = (shapeCast S1024x2816 (m ((c : Thread nD τ).loc main_arg10)) shapeCasts_S1x1024x2816_S1024x2816 : FVec Ideal S1024x2816 .f32) := by
  simp only [V, hostOps0, hostOps0_1, hostOps0_2, hostOps0_3, hostOps0_4, hostOps0_5, hostOps0_6, List.flatten_cons, List.flatten_nil, List.append_nil, List.cons_append, List.nil_append]
  after_reads_simp
  rfl

theorem v39_eq (c : Dev nD) : V m c main_v39 = (shapeCast S1024x2816 (m ((c : Thread nD τ).loc main_arg11)) shapeCasts_S1x1024x2816_S1024x2816 : FVec Ideal S1024x2816 .f32) := by
  simp only [V, hostOps0, hostOps0_1, hostOps0_2, hostOps0_3, hostOps0_4, hostOps0_5, hostOps0_6, List.flatten_cons, List.flatten_nil, List.append_nil, List.cons_append, List.nil_append]
  after_reads_simp
  rfl

theorem v40_eq (c : Dev nD) : V m c main_v40 = (shapeCast S2816x1024 (m ((c : Thread nD τ).loc main_arg12)) shapeCasts_S1x2816x1024_S2816x1024 : FVec Ideal S2816x1024 .f32) := by
  simp only [V, hostOps0, hostOps0_1, hostOps0_2, hostOps0_3, hostOps0_4, hostOps0_5, hostOps0_6, List.flatten_cons, List.flatten_nil, List.append_nil, List.cons_append, List.nil_append]
  after_reads_simp
  rfl

theorem v41_eq (c : Dev nD) : V m c main_v41 = (shapeCast S1024x2816 (m ((c : Thread nD τ).loc main_arg2)) shapeCasts_S1x1024x2816_S1024x2816 : FVec Ideal S1024x2816 .f32) := by
  simp only [V, hostOps0, hostOps0_1, hostOps0_2, hostOps0_3, hostOps0_4, hostOps0_5, hostOps0_6, List.flatten_cons, List.flatten_nil, List.append_nil, List.cons_append, List.nil_append]
  after_reads_simp
  rfl

theorem v42_eq (c : Dev nD) : V m c main_v42 = (shapeCast S1024x2816 (m ((c : Thread nD τ).loc main_arg3)) shapeCasts_S1x1024x2816_S1024x2816 : FVec Ideal S1024x2816 .f32) := by
  simp only [V, hostOps0, hostOps0_1, hostOps0_2, hostOps0_3, hostOps0_4, hostOps0_5, hostOps0_6, List.flatten_cons, List.flatten_nil, List.append_nil, List.cons_append, List.nil_append]
  after_reads_simp
  rfl

theorem v43_eq (c : Dev nD) : V m c main_v43 = (shapeCast S2816x1024 (m ((c : Thread nD τ).loc main_arg4)) shapeCasts_S1x2816x1024_S2816x1024 : FVec Ideal S2816x1024 .f32) := by
  simp only [V, hostOps0, hostOps0_1, hostOps0_2, hostOps0_3, hostOps0_4, hostOps0_5, hostOps0_6, List.flatten_cons, List.flatten_nil, List.append_nil, List.cons_append, List.nil_append]
  after_reads_simp
  rfl

theorem v1_eq (c : Dev nD) : V m c main_v1 = (shapeCast S3088x1024 (transpose S1x3088x1024 [0, 2, 1] (m ((c : Thread nD τ).loc main_arg6)) transposes_S1x1024x3088_S1x3088x1024_0_2_1 : FVec Ideal S1x3088x1024 .f32) shapeCasts_S1x3088x1024_S3088x1024 : FVec Ideal S3088x1024 .f32) := by
  simp only [V, hostOps0, hostOps0_1, hostOps0_2, hostOps0_3, hostOps0_4, hostOps0_5, hostOps0_6, List.flatten_cons, List.flatten_nil, List.append_nil, List.cons_append, List.nil_append]
  after_reads_simp
  rfl

theorem v4_eq (c : Dev nD) : V m c main_v4 = (truncf .bf16 (pad S128x256 ![0, 0] ![112, 0] ![0, 0] (shapeCast S16x256 (m ((c : Thread nD τ).loc main_arg7)) shapeCasts_S1x16x256_S16x256 : FVec Ideal S16x256 .f32) (sitofp .f32 (constantI S_ 32 0#32) : FVec Ideal S_ .f32) pads_S16x256_S128x256_01120_000 h_S_ : FVec Ideal S128x256 .f32) bitsLt_bf16_f32 : FVec Ideal S128x256 .bf16) := by
  simp only [V, hostOps0, hostOps0_1, hostOps0_2, hostOps0_3, hostOps0_4, hostOps0_5, hostOps0_6, List.flatten_cons, List.flatten_nil, List.append_nil, List.cons_append, List.nil_append]
  after_reads_simp
  rfl

/-- The rotation's angles, by position and frequency. -/
def angles : FVec Ideal S4096x32 .f32 :=
  mulf (broadcastInDim S4096x32 ![0, 1] bcast_S4096x1_S4096x32_0_1 (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1
      (Host.powf (broadcastInDim S32 ![] bcast_S_S32 (constant (F := Ideal) S_ .f32 0x461C4000#32))
        (Host.divf (mulf (Host.negf (sitofp .f32 (iotaInDim S32 32 0))) (broadcastInDim S32 ![] bcast_S_S32 (constant (F := Ideal) S_ .f32 0x40000000#32)))
          (broadcastInDim S32 ![] bcast_S_S32 (constant (F := Ideal) S_ .f32 0x42800000#32))))))

theorem v27_eq (c : Dev nD) : V m c main_v27 = (shapeCast S4096x128 (broadcastInDim S1x4096x4x32 ![0, 1, 2, 3] bcast_S1x4096x1x32_S1x4096x4x32_0_1_2_3 (shapeCast S1x4096x1x32 (Host.cos angles) shapeCasts_S4096x32_S1x4096x1x32 : FVec Ideal S1x4096x1x32 .f32)) shapeCasts_S1x4096x4x32_S4096x128 : FVec Ideal S4096x128 .f32) := by
  simp only [V, hostOps0, hostOps0_1, hostOps0_2, hostOps0_3, hostOps0_4, hostOps0_5, hostOps0_6, List.flatten_cons, List.flatten_nil, List.append_nil, List.cons_append, List.nil_append]
  after_reads_simp
  rfl

/-- A lane's place in its head. -/
def lanes : IVec S128 32 :=
  let d : IVec S_ 32 := select (cmpi .eq (constantI S_ 32 64#32) (constantI S_ 32 0#32)) (constantI S_ 32 1#32) (constantI S_ 32 64#32)
  let q : IVec S128 32 := Host.remsi (iotaInDim S128 32 0) (broadcastInDim S128 ![] bcast_S_S128 d)
  select (andi (cmpi .ne (cmpi .slt q (broadcastInDim S128 ![] bcast_S_S128 (constantI S_ 32 0#32)))
      (broadcastInDim S128 ![] bcast_S_S128 (cmpi .slt d (constantI S_ 32 0#32))))
      (cmpi .ne q (broadcastInDim S128 ![] bcast_S_S128 (constantI S_ 32 0#32))))
    (addi q (broadcastInDim S128 ![] bcast_S_S128 d)) q

/-- The sign each lane's mate takes. -/
def signs : FVec Ideal S128 .f32 :=
  select (cmpi .slt lanes (broadcastInDim S128 ![] bcast_S_S128 (constantI S_ 32 32#32)))
    (broadcastInDim S128 ![] bcast_S_S128 (constant (F := Ideal) S_ .f32 0xBF800000#32)) (broadcastInDim S128 ![] bcast_S_S128 (constant (F := Ideal) S_ .f32 0x3F800000#32))

theorem v35_eq (c : Dev nD) : V m c main_v35 = (mulf (shapeCast S4096x128 (broadcastInDim S1x4096x4x32 ![0, 1, 2, 3] bcast_S1x4096x1x32_S1x4096x4x32_0_1_2_3 (shapeCast S1x4096x1x32 (Host.sin angles) shapeCasts_S4096x32_S1x4096x1x32 : FVec Ideal S1x4096x1x32 .f32)) shapeCasts_S1x4096x4x32_S4096x128 : FVec Ideal S4096x128 .f32) (broadcastInDim S4096x128 ![0, 1] bcast_S1x128_S4096x128_0_1 (broadcastInDim S1x128 ![1] bcast_S128_S1x128_1 signs)) : FVec Ideal S4096x128 .f32) := by
  simp only [V, hostOps0, hostOps0_1, hostOps0_2, hostOps0_3, hostOps0_4, hostOps0_5, hostOps0_6, List.flatten_cons, List.flatten_nil, List.append_nil, List.cons_append, List.nil_append]
  after_reads_simp
  rfl

end Cert.KernelIdeal.Hand
-- ==== Proof.HostAt.lean ====
/-
  The arrays the call takes, at an index.
-/
module

public import proofs.«01_k».proof.Proof.Host
public import proofs.«01_k».proof.Proof.Run
public import proofs.«01_k».proof.Proof.Blocks
public import Idealize.ShloMosaic.Lib.StableHlo.RunRead
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Cert.Spec

variable (m : (ℓ : Loc nD τ sig) → Buf (Elt Ideal) ℓ)

/-! The arguments, at their types. -/

abbrev a0 (c : Dev nD) : FVec Ideal S4x4096x1024 .f32 := m ((c : Thread nD τ).loc main_arg0)
abbrev a1 (c : Dev nD) : FVec Ideal S1x1024 .f32 := m ((c : Thread nD τ).loc main_arg1)
abbrev a2 (c : Dev nD) : FVec Ideal S1x1024x2816 .f32 := m ((c : Thread nD τ).loc main_arg2)
abbrev a3 (c : Dev nD) : FVec Ideal S1x1024x2816 .f32 := m ((c : Thread nD τ).loc main_arg3)
abbrev a4 (c : Dev nD) : FVec Ideal S1x2816x1024 .f32 := m ((c : Thread nD τ).loc main_arg4)
abbrev a5 (c : Dev nD) : FVec Ideal S1x1024 .f32 := m ((c : Thread nD τ).loc main_arg5)
abbrev a6 (c : Dev nD) : FVec Ideal S1x1024x3088 .f32 := m ((c : Thread nD τ).loc main_arg6)
abbrev a7 (c : Dev nD) : FVec Ideal S1x16x256 .f32 := m ((c : Thread nD τ).loc main_arg7)
abbrev a8 (c : Dev nD) : FVec Ideal S1x256 .f32 := m ((c : Thread nD τ).loc main_arg8)
abbrev a9 (c : Dev nD) : FVec Ideal S1x1024x1024 .f32 := m ((c : Thread nD τ).loc main_arg9)
abbrev a10 (c : Dev nD) : FVec Ideal S1x1024x2816 .f32 := m ((c : Thread nD τ).loc main_arg10)
abbrev a11 (c : Dev nD) : FVec Ideal S1x1024x2816 .f32 := m ((c : Thread nD τ).loc main_arg11)
abbrev a12 (c : Dev nD) : FVec Ideal S1x2816x1024 .f32 := m ((c : Thread nD τ).loc main_arg12)

theorem rows_at (X : FVec Ideal S4x4096x1024 .f32) (n : Fin 16384) (k : Fin 1024) :
    (shapeCast S16384x1024 X shapeCasts_S4x4096x1024_S16384x1024) (ix2 n k) = X (ix3 ⟨n.val / 4096, by omega⟩ ⟨n.val % 4096, by omega⟩ k) := by
  pointwise []

theorem v36_at (c : Dev nD) (n : Fin 16384) (k : Fin 1024) :
    V m c main_v36 (ix2 n k) = a0 m c (ix3 ⟨n.val / 4096, by omega⟩ ⟨n.val % 4096, by omega⟩ k) :=
  (congrFun (v36_eq m c) _).trans (rows_at _ _ _)

theorem cast_at_1024_1024 (X : FVec Ideal S1x1024x1024 .f32) (k : Fin 1024) (j : Fin 1024) :
    (shapeCast S1024x1024 X shapeCasts_S1x1024x1024_S1024x1024) (ix2 k j) = X (ix3 0 k j) := by
  pointwise []

theorem cast_at_1024_2816 (X : FVec Ideal S1x1024x2816 .f32) (k : Fin 1024) (j : Fin 2816) :
    (shapeCast S1024x2816 X shapeCasts_S1x1024x2816_S1024x2816) (ix2 k j) = X (ix3 0 k j) := by
  pointwise []

theorem cast_at_2816_1024 (X : FVec Ideal S1x2816x1024 .f32) (k : Fin 2816) (j : Fin 1024) :
    (shapeCast S2816x1024 X shapeCasts_S1x2816x1024_S2816x1024) (ix2 k j) = X (ix3 0 k j) := by
  pointwise []

theorem v37_at (c : Dev nD) (k : Fin 1024) (j : Fin 1024) : V m c main_v37 (ix2 k j) = a9 m c (ix3 0 k j) :=
  (congrFun (v37_eq m c) _).trans (cast_at_1024_1024 _ _ _)

theorem v38_at (c : Dev nD) (k : Fin 1024) (j : Fin 2816) : V m c main_v38 (ix2 k j) = a10 m c (ix3 0 k j) :=
  (congrFun (v38_eq m c) _).trans (cast_at_1024_2816 _ _ _)

theorem v39_at (c : Dev nD) (k : Fin 1024) (j : Fin 2816) : V m c main_v39 (ix2 k j) = a11 m c (ix3 0 k j) :=
  (congrFun (v39_eq m c) _).trans (cast_at_1024_2816 _ _ _)

theorem v40_at (c : Dev nD) (k : Fin 2816) (j : Fin 1024) : V m c main_v40 (ix2 k j) = a12 m c (ix3 0 k j) :=
  (congrFun (v40_eq m c) _).trans (cast_at_2816_1024 _ _ _)

theorem v41_at (c : Dev nD) (k : Fin 1024) (j : Fin 2816) : V m c main_v41 (ix2 k j) = a2 m c (ix3 0 k j) :=
  (congrFun (v41_eq m c) _).trans (cast_at_1024_2816 _ _ _)

theorem v42_at (c : Dev nD) (k : Fin 1024) (j : Fin 2816) : V m c main_v42 (ix2 k j) = a3 m c (ix3 0 k j) :=
  (congrFun (v42_eq m c) _).trans (cast_at_1024_2816 _ _ _)

theorem v43_at (c : Dev nD) (k : Fin 2816) (j : Fin 1024) : V m c main_v43 (ix2 k j) = a4 m c (ix3 0 k j) :=
  (congrFun (v43_eq m c) _).trans (cast_at_2816_1024 _ _ _)

theorem flip_at (X : FVec Ideal S1x1024x3088 .f32) (j : Fin 3088) (k : Fin 1024) :
    (shapeCast S3088x1024 (transpose S1x3088x1024 [0, 2, 1] X transposes_S1x1024x3088_S1x3088x1024_0_2_1 : FVec Ideal S1x3088x1024 .f32) shapeCasts_S1x3088x1024_S3088x1024) (ix2 j k)
      = X (ix3 0 k j) := by
  pointwise []

theorem v1_at (c : Dev nD) (j : Fin 3088) (k : Fin 1024) : V m c main_v1 (ix2 j k) = a6 m c (ix3 0 k j) :=
  (congrFun (v1_eq m c) _).trans (flip_at _ _ _)

theorem toReal_at (n : ℕ) (h : n < 4096) : FloatOps.sitofp (F := Ideal) FTy.f32 (BitVec.ofNat 32 n) = (((n : ℕ) : ℝ) : EReal) := by
  show (((BitVec.ofNat 32 n).toInt : ℝ) : EReal) = _
  have e : (BitVec.ofNat 32 n).toNat = n := by
    rw [BitVec.toNat_ofNat]
    exact Nat.mod_eq_of_lt (by omega)
  rw [BitVec.toInt_eq_toNat_of_lt (by omega), e]
  norm_cast

theorem padded_at (X : FVec Ideal S1x16x256 .f32) (i : Fin 128) (l : Fin 256) :
    (truncf .bf16 (pad S128x256 ![0, 0] ![112, 0] ![0, 0] (shapeCast S16x256 X shapeCasts_S1x16x256_S16x256 : FVec Ideal S16x256 .f32) (sitofp .f32 (constantI S_ 32 0#32) : FVec Ideal S_ .f32) pads_S16x256_S128x256_01120_000 h_S_ : FVec Ideal S128x256 .f32) bitsLt_bf16_f32 : FVec Ideal S128x256 .bf16) (ix2 i l)
      = if h : i.val < 16 then X (ix3 0 ⟨i.val, h⟩ l) else 0 := by
  pointwise []
  split
  · rfl
  · exact (toReal_at 0 (by omega)).trans (by simp)

theorem v4_at (c : Dev nD) (i : Fin 128) (l : Fin 256) :
    V m c main_v4 (ix2 i l) = (if h : i.val < 16 then a7 m c (ix3 0 ⟨i.val, h⟩ l) else 0 : EReal) :=
  (congrFun (v4_eq m c) _).trans (padded_at _ _ _)

theorem angles_at (t : Fin 4096) (a : Fin 32) : angles (ix2 t a) = angle t a := by
  unfold angle
  rw [← toReal_at _ t.isLt, ← toReal_at a.val (by omega)]
  pointwise [angles]

theorem v27_at (c : Dev nD) (t : Fin 4096) (l : Fin 128) :
    V m c main_v27 (ix2 t l) = Ideal.cos (angle t ⟨l.val % 32, by omega⟩) := by
  rw [v27_eq, ← angles_at]
  pointwise []

theorem lanes_at (l : Fin 128) : (cmpi .slt lanes (broadcastInDim S128 ![] bcast_S_S128 (constantI S_ 32 32#32))) (ix1 l) = if l.val % 64 < 32 then 1#1 else 0#1 := by
  revert l
  decide +kernel

theorem ofBits_neg_one : Ideal.ofBits FTy.f32 3212836864#32 = -1 := by
  simp [Ideal.ofBits, Ideal.ieee, -EReal.coe_mul]
  norm_num

theorem signs_at (l : Fin 128) : signs (ix1 l) = if l.val % 64 < 32 then -1 else 1 := by
  have h := lanes_at l
  unfold signs
  generalize cmpi .slt lanes _ = M at h ⊢
  pointwise []
  rw [h]
  split
  · exact ofBits_neg_one
  · rfl

theorem v35_at (c : Dev nD) (t : Fin 4096) (l : Fin 128) :
    V m c main_v35 (ix2 t l) = Ideal.sin (angle t ⟨l.val % 32, by omega⟩) * (if l.val % 64 < 32 then -1 else 1) := by
  rw [v35_eq, ← angles_at, ← signs_at]
  pointwise []

theorem head_emb {N N' C : ℕ} (h : N' ≤ N) (k : Fin N') (j : Fin C) : (headRect (C := C) (N := N) h).emb (ix2 k j) = ix2 ⟨k.val, by omega⟩ j := by
  refine funext (Fin.forall_fin_two.mpr ⟨Fin.ext ?_, Fin.ext ?_⟩)
  · show 0 + 1 * k.val = k.val
    omega
  · show 0 + 1 * j.val = j.val
    omega

theorem wGate_at (c : Dev nD) (k : Fin 1024) (j : Fin 2816) : wGate m c (ix2 k j) = a2 m c (ix3 0 k j) := by
  refine Eq.trans ?_ (v41_at m c k j)
  exact congrArg (V m c main_v41) (head_emb (N := 1024) (N' := 1024) (by decide) k j)

theorem wUp_at (c : Dev nD) (k : Fin 1024) (j : Fin 2816) : wUp m c (ix2 k j) = a3 m c (ix3 0 k j) := by
  refine Eq.trans ?_ (v42_at m c k j)
  exact congrArg (V m c main_v42) (head_emb (N := 1024) (N' := 1024) (by decide) k j)

theorem wDown_at (c : Dev nD) (j : Fin 2816) (k : Fin 1024) : wDown m c (ix2 j k) = a4 m c (ix3 0 j k) := by
  refine Eq.trans ?_ (v43_at m c j k)
  exact congrArg (V m c main_v43) (head_emb (N := 2816) (N' := 2816) (by decide) j k)

theorem wIn_at (c : Dev nD) (j : Fin 3072) (k : Fin 1024) : wIn m c (ix2 j k) = a6 m c (ix3 0 k ⟨j.val, by omega⟩) := by
  refine Eq.trans ?_ (v1_at m c ⟨j.val, by omega⟩ k)
  exact congrArg (V m c main_v1) (head_emb (N := 3088) (N' := 3072) (by decide) j k)

theorem wLow_at (c : Dev nD) (i : Fin 128) (k : Fin 1024) :
    wLow m c (ix2 i k) = (if h : i.val < 16 then a6 m c (ix3 0 k ⟨3072 + i.val, by omega⟩) else 0 : EReal) := by
  by_cases h : i.val < 16
  · rw [dif_pos h]
    refine Eq.trans ?_ (v1_at m c ⟨3072 + i.val, by omega⟩ k)
    refine (dif_pos h).trans ?_
    refine congrArg (V m c main_v1) ?_
    refine funext (Fin.forall_fin_two.mpr ⟨Fin.ext ?_, Fin.ext ?_⟩)
    · show 3072 + 1 * i.val = 3072 + i.val
      omega
    · show 0 + 1 * k.val = k.val
      omega
  · rw [dif_neg h]
    refine (dif_neg h).trans ?_
    show Ideal.ofBits .bf16 0x0000#16 = 0
    simp [Ideal.ofBits, Ideal.ieee]

end Cert.KernelIdeal.Hand
-- ==== Proof.Blocks2.lean ====
/-
  What a point leaves in the projection's, the decays' and the weights' blocks, at an index, over the extended reals.
-/
module

public import proofs.«01_k».proof.Proof.Blocks

@[expose] public section

set_option maxRecDepth 16384

noncomputable section

namespace Cert.KernelIdeal.Hand

open Cert.KernelIdeal Cert.KernelIdeal.Gen
open Idealize.ShloMosaic Cert.Spec

/-- The normed rows of a half of a point, as a vector. -/
abbrev hLo (x1 : Vec Ideal S512x1024 .f32) (a : Vec Ideal S512x2816 .bf16) (wd : Vec Ideal S2816x1024 .bf16) (g : Vec Ideal S1x1024 .f32) : FVec Ideal S256x1024 .bf16 :=
  k0_pay48 (k0_pay8 (View.ld x1 (Rect.unit (s := S512x1024) ![0, 0] S256x1024.size inb_S512x1024_S256x1024_0_0)))
    (View.ld a (Rect.unit (s := S512x2816) ![0, 0] S256x2816.size inb_S512x2816_S256x2816_0_0))
    (View.ld wd (Rect.unit (s := S2816x1024) ![0, 0] S2816x1024.size inb_S2816x1024_S2816x1024_0_0))
    (View.ld g (Rect.unit (s := S1x1024) ![0, 0] S1x1024.size inb_S1x1024_S1x1024_0_0))
abbrev hHi (x1 : Vec Ideal S512x1024 .f32) (a : Vec Ideal S512x2816 .bf16) (wd : Vec Ideal S2816x1024 .bf16) (g : Vec Ideal S1x1024 .f32) : FVec Ideal S256x1024 .bf16 :=
  k0_pay48 (k0_pay8 (View.ld x1 (Rect.unit (s := S512x1024) ![256, 0] S256x1024.size inb_S512x1024_S256x1024_256_0)))
    (View.ld a (Rect.unit (s := S512x2816) ![256, 0] S256x2816.size inb_S512x2816_S256x2816_256_0))
    (View.ld wd (Rect.unit (s := S2816x1024) ![0, 0] S2816x1024.size inb_S2816x1024_S2816x1024_0_0))
    (View.ld g (Rect.unit (s := S1x1024) ![0, 0] S1x1024.size inb_S1x1024_S1x1024_0_0))
/-- A half of a point's rows of a table. -/
abbrev cLo (x : Vec Ideal S512x128 .f32) : FVec Ideal S256x128 .f32 :=
  k0_pay52 (View.ld x (Rect.unit (s := S512x128) ![0, 0] S256x128.size inb_S512x128_S256x128_0_0))
abbrev cHi (x : Vec Ideal S512x128 .f32) : FVec Ideal S256x128 .f32 :=
  k0_pay52 (View.ld x (Rect.unit (s := S512x128) ![256, 0] S256x128.size inb_S512x128_S256x128_256_0))

theorem cLo_at (x : Vec Ideal S512x128 .f32) (p : Fin 256) (r : Fin 512) (hr : r.val = 0 + p.val) (l : Fin 128) : cLo x (ix2 p l) = x (ix2 r l) :=
  (pay52_at _ _ _).trans (ld2 _ _ _ _ _ _ _ hr (Nat.zero_add _).symm)
theorem cHi_at (x : Vec Ideal S512x128 .f32) (p : Fin 256) (r : Fin 512) (hr : r.val = 256 + p.val) (l : Fin 128) : cHi x (ix2 p l) = x (ix2 r l) :=
  (pay52_at _ _ _).trans (ld2 _ _ _ _ _ _ _ hr (Nat.zero_add _).symm)

/-- The input projection's columns of a point. -/
theorem canonP (x1 : Vec Ideal S512x1024 .f32) (x2 x3 : Vec Ideal S512x128 .f32) (x8 : Vec Ideal S1x1024 .f32) (a : Vec Ideal S512x2816 .bf16)
    (wd : Vec Ideal S2816x1024 .bf16) (X : Vec Ideal S3072x1024 .bf16) (r : Fin 512) (c : Fin 3072) :
    View.canon (outP x1 x2 x3 x8 a wd X) (ix2 r c)
      = kmixed (fun c => ∑ k, hrow x1 a wd x8 r k * X (ix2 c k)) (fun l => x2 (ix2 r l)) (fun l => x3 (ix2 r l)) c := by
  have hc := cover17 x1 x2 x3 x8 a wd X (ix2 r c)
  unfold outP at hc ⊢
  dsimp only at hc ⊢
  canon_tiles x h using hc
  · obtain ⟨p, q, rfl⟩ : ∃ (p : Fin 256) (q : Fin 512), x = ix2 p q := ⟨x 0, x 1, eq_ix2 x⟩
    have hr : r.val = 256 + p.val := by simpa using h0
    refine Eq.trans (b := k0_pay87 (k0_pay85 (hHi x1 a wd x8) (View.ld X (Rect.unit (s := S3072x1024) ![1792, 0] S1280x1024.size inb_S3072x1024_S1280x1024_1792_0))) (ix2 p q)) rfl ?_
    refine part87 (X := X) (fun k => hrow_at x1 a wd x8 256 _ _ _ _ p r hr k) (fun l c k e => ld2 X _ _ _ _ _ _ e (Nat.zero_add _).symm) q ?_
    simpa using h1
  · obtain ⟨p, q, rfl⟩ : ∃ (p : Fin 256) (q : Fin 768), x = ix2 p q := ⟨x 0, x 1, eq_ix2 x⟩
    have hr : r.val = 256 + p.val := by simpa using h0
    refine Eq.trans (b := k0_pay86 (hHi x1 a wd x8) (View.ld X (Rect.unit (s := S3072x1024) ![1792, 0] S1280x1024.size inb_S3072x1024_S1280x1024_1792_0)) (ix2 p q)) rfl ?_
    refine part86 (X := X) (fun k => hrow_at x1 a wd x8 256 _ _ _ _ p r hr k) (fun l c k e => ld2 X _ _ _ _ _ _ e (Nat.zero_add _).symm) q ?_
    simpa using h1
  · obtain ⟨p, q, rfl⟩ : ∃ (p : Fin 256) (q : Fin 256), x = ix2 p q := ⟨x 0, x 1, eq_ix2 x⟩
    have hr : r.val = 256 + p.val := by simpa using h0
    refine Eq.trans (b := k0_pay84 (hHi x1 a wd x8) (View.ld X (Rect.unit (s := S3072x1024) ![1536, 0] S256x1024.size inb_S3072x1024_S256x1024_1536_0)) (ix2 p q)) rfl ?_
    refine part84 (X := X) (fun k => hrow_at x1 a wd x8 256 _ _ _ _ p r hr k) (fun l c k e => ld2 X _ _ _ _ _ _ e (Nat.zero_add _).symm) q ?_ rfl
    simpa using h1
  · obtain ⟨p, q, rfl⟩ : ∃ (p : Fin 256) (q : Fin 512), x = ix2 p q := ⟨x 0, x 1, eq_ix2 x⟩
    have hr : r.val = 256 + p.val := by simpa using h0
    refine Eq.trans (b := k0_pay83 (hHi x1 a wd x8) (View.ld X (Rect.unit (s := S3072x1024) ![512, 0] S1024x1024.size inb_S3072x1024_S1024x1024_512_0)) (ix2 p q)) rfl ?_
    refine part83 (X := X) (fun k => hrow_at x1 a wd x8 256 _ _ _ _ p r hr k) (fun l c k e => ld2 X _ _ _ _ _ _ e (Nat.zero_add _).symm) q ?_
    simpa using h1
  · obtain ⟨p, q, rfl⟩ : ∃ (p : Fin 256) (q : Fin 512), x = ix2 p q := ⟨x 0, x 1, eq_ix2 x⟩
    have hr : r.val = 256 + p.val := by simpa using h0
    refine Eq.trans (b := k0_pay82 (hHi x1 a wd x8) (View.ld X (Rect.unit (s := S3072x1024) ![512, 0] S1024x1024.size inb_S3072x1024_S1024x1024_512_0)) (ix2 p q)) rfl ?_
    refine part82 (X := X) (fun k => hrow_at x1 a wd x8 256 _ _ _ _ p r hr k) (fun l c k e => ld2 X _ _ _ _ _ _ e (Nat.zero_add _).symm) q ?_
    simpa using h1
  · obtain ⟨p, q, rfl⟩ : ∃ (p : Fin 256) (q : Fin 128), x = ix2 p q := ⟨x 0, x 1, eq_ix2 x⟩
    have hr : r.val = 256 + p.val := by simpa using h0
    refine Eq.trans (b := k0_pay80 (cHi x2) (cHi x3) (k0_pay56 k0_pay54 k0_pay55) (k0_pay79 (hHi x1 a wd x8) (View.ld X (Rect.unit (s := S3072x1024) ![256, 0] S256x1024.size inb_S3072x1024_S256x1024_256_0))) (ix2 p q)) rfl ?_
    refine part80 (X := X) (fun k => hrow_at x1 a wd x8 256 _ _ _ _ p r hr k) (fun l => cHi_at x2 p r hr l) (fun l => cHi_at x3 p r hr l) (fun l c k e => ld2 X _ _ _ _ _ _ e (Nat.zero_add _).symm) q ?_ rfl
    simpa using h1
  · obtain ⟨p, q, rfl⟩ : ∃ (p : Fin 256) (q : Fin 128), x = ix2 p q := ⟨x 0, x 1, eq_ix2 x⟩
    have hr : r.val = 256 + p.val := by simpa using h0
    refine Eq.trans (b := k0_pay78 (hHi x1 a wd x8) (cHi x2) (cHi x3) (k0_pay56 k0_pay54 k0_pay55) (View.ld X (Rect.unit (s := S3072x1024) ![256, 0] S256x1024.size inb_S3072x1024_S256x1024_256_0)) (ix2 p q)) rfl ?_
    refine part78 (X := X) (fun k => hrow_at x1 a wd x8 256 _ _ _ _ p r hr k) (fun l => cHi_at x2 p r hr l) (fun l => cHi_at x3 p r hr l) (fun l c k e => ld2 X _ _ _ _ _ _ e (Nat.zero_add _).symm) q ?_ rfl
    simpa using h1
  · obtain ⟨p, q, rfl⟩ : ∃ (p : Fin 256) (q : Fin 128), x = ix2 p q := ⟨x 0, x 1, eq_ix2 x⟩
    have hr : r.val = 256 + p.val := by simpa using h0
    refine Eq.trans (b := k0_pay76 (hHi x1 a wd x8) (cHi x2) (cHi x3) (k0_pay56 k0_pay54 k0_pay55) (View.ld X (Rect.unit (s := S3072x1024) ![0, 0] S256x1024.size inb_S3072x1024_S256x1024_0_0)) (ix2 p q)) rfl ?_
    refine part76 (X := X) (fun k => hrow_at x1 a wd x8 256 _ _ _ _ p r hr k) (fun l => cHi_at x2 p r hr l) (fun l => cHi_at x3 p r hr l) (fun l c k e => ld2 X _ _ _ _ _ _ e (Nat.zero_add _).symm) q ?_ rfl
    simpa using h1
  · obtain ⟨p, q, rfl⟩ : ∃ (p : Fin 256) (q : Fin 128), x = ix2 p q := ⟨x 0, x 1, eq_ix2 x⟩
    have hr : r.val = 256 + p.val := by simpa using h0
    refine Eq.trans (b := k0_pay75 (hHi x1 a wd x8) (cHi x2) (cHi x3) (k0_pay56 k0_pay54 k0_pay55) (View.ld X (Rect.unit (s := S3072x1024) ![0, 0] S256x1024.size inb_S3072x1024_S256x1024_0_0)) (ix2 p q)) rfl ?_
    refine part75 (X := X) (fun k => hrow_at x1 a wd x8 256 _ _ _ _ p r hr k) (fun l => cHi_at x2 p r hr l) (fun l => cHi_at x3 p r hr l) (fun l c k e => ld2 X _ _ _ _ _ _ e (Nat.zero_add _).symm) q ?_ rfl
    simpa using h1
  · obtain ⟨p, q, rfl⟩ : ∃ (p : Fin 256) (q : Fin 512), x = ix2 p q := ⟨x 0, x 1, eq_ix2 x⟩
    have hr : r.val = 0 + p.val := by simpa using h0
    refine Eq.trans (b := k0_pay87 (k0_pay85 (hLo x1 a wd x8) (View.ld X (Rect.unit (s := S3072x1024) ![1792, 0] S1280x1024.size inb_S3072x1024_S1280x1024_1792_0))) (ix2 p q)) rfl ?_
    refine part87 (X := X) (fun k => hrow_at x1 a wd x8 0 _ _ _ _ p r hr k) (fun l c k e => ld2 X _ _ _ _ _ _ e (Nat.zero_add _).symm) q ?_
    simpa using h1
  · obtain ⟨p, q, rfl⟩ : ∃ (p : Fin 256) (q : Fin 768), x = ix2 p q := ⟨x 0, x 1, eq_ix2 x⟩
    have hr : r.val = 0 + p.val := by simpa using h0
    refine Eq.trans (b := k0_pay86 (hLo x1 a wd x8) (View.ld X (Rect.unit (s := S3072x1024) ![1792, 0] S1280x1024.size inb_S3072x1024_S1280x1024_1792_0)) (ix2 p q)) rfl ?_
    refine part86 (X := X) (fun k => hrow_at x1 a wd x8 0 _ _ _ _ p r hr k) (fun l c k e => ld2 X _ _ _ _ _ _ e (Nat.zero_add _).symm) q ?_
    simpa using h1
  · obtain ⟨p, q, rfl⟩ : ∃ (p : Fin 256) (q : Fin 256), x = ix2 p q := ⟨x 0, x 1, eq_ix2 x⟩
    have hr : r.val = 0 + p.val := by simpa using h0
    refine Eq.trans (b := k0_pay84 (hLo x1 a wd x8) (View.ld X (Rect.unit (s := S3072x1024) ![1536, 0] S256x1024.size inb_S3072x1024_S256x1024_1536_0)) (ix2 p q)) rfl ?_
    refine part84 (X := X) (fun k => hrow_at x1 a wd x8 0 _ _ _ _ p r hr k) (fun l c k e => ld2 X _ _ _ _ _ _ e (Nat.zero_add _).symm) q ?_ rfl
    simpa using h1
  · obtain ⟨p, q, rfl⟩ : ∃ (p : Fin 256) (q : Fin 512), x = ix2 p q := ⟨x 0, x 1, eq_ix2 x⟩
    have hr : r.val = 0 + p.val := by simpa using h0
    refine Eq.trans (b := k0_pay83 (hLo x1 a wd x8) (View.ld X (Rect.unit (s := S3072x1024) ![512, 0] S1024x1024.size inb_S3072x1024_S1024x1024_512_0)) (ix2 p q)) rfl ?_
    refine part83 (X := X) (fun k => hrow_at x1 a wd x8 0 _ _ _ _ p r hr k) (fun l c k e => ld2 X _ _ _ _ _ _ e (Nat.zero_add _).symm) q ?_
    simpa using h1
  · obtain ⟨p, q, rfl⟩ : ∃ (p : Fin 256) (q : Fin 512), x = ix2 p q := ⟨x 0, x 1, eq_ix2 x⟩
    have hr : r.val = 0 + p.val := by simpa using h0
    refine Eq.trans (b := k0_pay82 (hLo x1 a wd x8) (View.ld X (Rect.unit (s := S3072x1024) ![512, 0] S1024x1024.size inb_S3072x1024_S1024x1024_512_0)) (ix2 p q)) rfl ?_
    refine part82 (X := X) (fun k => hrow_at x1 a wd x8 0 _ _ _ _ p r hr k) (fun l c k e => ld2 X _ _ _ _ _ _ e (Nat.zero_add _).symm) q ?_
    simpa using h1
  · obtain ⟨p, q, rfl⟩ : ∃ (p : Fin 256) (q : Fin 128), x = ix2 p q := ⟨x 0, x 1, eq_ix2 x⟩
    have hr : r.val = 0 + p.val := by simpa using h0
    refine Eq.trans (b := k0_pay80 (cLo x2) (cLo x3) (k0_pay56 k0_pay54 k0_pay55) (k0_pay79 (hLo x1 a wd x8) (View.ld X (Rect.unit (s := S3072x1024) ![256, 0] S256x1024.size inb_S3072x1024_S256x1024_256_0))) (ix2 p q)) rfl ?_
    refine part80 (X := X) (fun k => hrow_at x1 a wd x8 0 _ _ _ _ p r hr k) (fun l => cLo_at x2 p r hr l) (fun l => cLo_at x3 p r hr l) (fun l c k e => ld2 X _ _ _ _ _ _ e (Nat.zero_add _).symm) q ?_ rfl
    simpa using h1
  · obtain ⟨p, q, rfl⟩ : ∃ (p : Fin 256) (q : Fin 128), x = ix2 p q := ⟨x 0, x 1, eq_ix2 x⟩
    have hr : r.val = 0 + p.val := by simpa using h0
    refine Eq.trans (b := k0_pay78 (hLo x1 a wd x8) (cLo x2) (cLo x3) (k0_pay56 k0_pay54 k0_pay55) (View.ld X (Rect.unit (s := S3072x1024) ![256, 0] S256x1024.size inb_S3072x1024_S256x1024_256_0)) (ix2 p q)) rfl ?_
    refine part78 (X := X) (fun k => hrow_at x1 a wd x8 0 _ _ _ _ p r hr k) (fun l => cLo_at x2 p r hr l) (fun l => cLo_at x3 p r hr l) (fun l c k e => ld2 X _ _ _ _ _ _ e (Nat.zero_add _).symm) q ?_ rfl
    simpa using h1
  · obtain ⟨p, q, rfl⟩ : ∃ (p : Fin 256) (q : Fin 128), x = ix2 p q := ⟨x 0, x 1, eq_ix2 x⟩
    have hr : r.val = 0 + p.val := by simpa using h0
    refine Eq.trans (b := k0_pay76 (hLo x1 a wd x8) (cLo x2) (cLo x3) (k0_pay56 k0_pay54 k0_pay55) (View.ld X (Rect.unit (s := S3072x1024) ![0, 0] S256x1024.size inb_S3072x1024_S256x1024_0_0)) (ix2 p q)) rfl ?_
    refine part76 (X := X) (fun k => hrow_at x1 a wd x8 0 _ _ _ _ p r hr k) (fun l => cLo_at x2 p r hr l) (fun l => cLo_at x3 p r hr l) (fun l c k e => ld2 X _ _ _ _ _ _ e (Nat.zero_add _).symm) q ?_ rfl
    simpa using h1
  · obtain ⟨p, q, rfl⟩ : ∃ (p : Fin 256) (q : Fin 128), x = ix2 p q := ⟨x 0, x 1, eq_ix2 x⟩
    have hr : r.val = 0 + p.val := by simpa using h0
    refine Eq.trans (b := k0_pay75 (hLo x1 a wd x8) (cLo x2) (cLo x3) (k0_pay56 k0_pay54 k0_pay55) (View.ld X (Rect.unit (s := S3072x1024) ![0, 0] S256x1024.size inb_S3072x1024_S256x1024_0_0)) (ix2 p q)) rfl ?_
    refine part75 (X := X) (fun k => hrow_at x1 a wd x8 0 _ _ _ _ p r hr k) (fun l => cLo_at x2 p r hr l) (fun l => cLo_at x3 p r hr l) (fun l c k e => ld2 X _ _ _ _ _ _ e (Nat.zero_add _).symm) q ?_ rfl
    simpa using h1

/-- The decays' logarithms of a point. -/
theorem canonL (x1 : Vec Ideal S512x1024 .f32) (x8 : Vec Ideal S1x1024 .f32) (x10 : Vec Ideal S128x256 .bf16) (x11 : Vec Ideal S1x256 .f32)
    (a : Vec Ideal S512x2816 .bf16) (wd : Vec Ideal S2816x1024 .bf16) (X : Vec Ideal S128x1024 .bf16) (r : Fin 512) (l : Fin 256) :
    View.canon (outL x1 x8 x10 x11 a wd X) (ix2 r l)
      = decay ((∑ i : Fin 128, (∑ k, hrow x1 a wd x8 r k * X (ix2 i k)) * x10 (ix2 i l)) + x11 (ix2 0 l)) := by
  have hc := cover18 x1 x8 x10 x11 a wd X (ix2 r l)
  unfold outL at hc ⊢
  dsimp only at hc ⊢
  canon_tiles x h using hc
  · obtain ⟨p, q, rfl⟩ : ∃ (p q : Fin 256), x = ix2 p q := ⟨x 0, x 1, eq_ix2 x⟩
    have hr : r.val = 256 + p.val := by simpa using h0
    obtain rfl : l = q := Fin.ext (by simpa using h1)
    refine Eq.trans (b := k0_pay1 (k0_pay89 (hHi x1 a wd x8) (View.ld X (Rect.unit (s := S128x1024) ![0, 0] S128x1024.size inb_S128x1024_S128x1024_0_0))
      (View.ld x10 (Rect.unit (s := S128x256) ![0, 0] S128x256.size inb_S128x256_S128x256_0_0)))
      (View.ld x11 (Rect.unit (s := S1x256) ![0, 0] S1x256.size inb_S1x256_S1x256_0_0)) (ix2 p l)) rfl ?_
    rw [pay1_at, pay89_at]
    refine congrArg decay (congrArg₂ (· + ·) (Finset.sum_congr rfl fun i _ => congrArg₂ (· * ·)
      (dot_congr (fun k => hrow_at x1 a wd x8 256 _ _ _ _ p r hr k) (fun k => ld2 X _ _ _ _ _ _ (Nat.zero_add _).symm (Nat.zero_add _).symm))
      (ld2 x10 _ _ _ _ _ _ (Nat.zero_add _).symm (Nat.zero_add _).symm)) (ld2 x11 _ _ _ _ _ _ (Nat.zero_add _).symm (Nat.zero_add _).symm))
  · obtain ⟨p, q, rfl⟩ : ∃ (p q : Fin 256), x = ix2 p q := ⟨x 0, x 1, eq_ix2 x⟩
    have hr : r.val = 0 + p.val := by simpa using h0
    obtain rfl : l = q := Fin.ext (by simpa using h1)
    refine Eq.trans (b := k0_pay1 (k0_pay89 (hLo x1 a wd x8) (View.ld X (Rect.unit (s := S128x1024) ![0, 0] S128x1024.size inb_S128x1024_S128x1024_0_0))
      (View.ld x10 (Rect.unit (s := S128x256) ![0, 0] S128x256.size inb_S128x256_S128x256_0_0)))
      (View.ld x11 (Rect.unit (s := S1x256) ![0, 0] S1x256.size inb_S1x256_S1x256_0_0)) (ix2 p l)) rfl ?_
    rw [pay1_at, pay89_at]
    refine congrArg decay (congrArg₂ (· + ·) (Finset.sum_congr rfl fun i _ => congrArg₂ (· * ·)
      (dot_congr (fun k => hrow_at x1 a wd x8 0 _ _ _ _ p r hr k) (fun k => ld2 X _ _ _ _ _ _ (Nat.zero_add _).symm (Nat.zero_add _).symm))
      (ld2 x10 _ _ _ _ _ _ (Nat.zero_add _).symm (Nat.zero_add _).symm)) (ld2 x11 _ _ _ _ _ _ (Nat.zero_add _).symm (Nat.zero_add _).symm))

theorem pay43_at (x : Vec Ideal S32x1024 .f32) (r : Fin 32) (k : Fin 1024) : k0_pay43 x (ix2 r k) = x (ix2 r k) := by
  pointwise [k0_pay43]

/-- A slab of the output weight. -/
theorem canonO (x0 : Vec Ideal S32x1024 .f32) (r : Fin 32) (k : Fin 1024) : View.canon (outO x0) (ix2 r k) = x0 (ix2 r k) := by
  have hc := cover19 x0 (ix2 r k)
  unfold outO at hc ⊢
  dsimp only at hc ⊢
  canon_tiles x h using hc
  obtain ⟨p, q, rfl⟩ : ∃ (p : Fin 32) (q : Fin 1024), x = ix2 p q := ⟨x 0, x 1, eq_ix2 x⟩
  refine (pay43_at _ _ _).trans (ld2 x0 _ _ _ _ _ _ ?_ ?_)
  · simpa using h0
  · simpa using h1

theorem pay44_at (x : Vec Ideal S32x2816 .f32) (r : Fin 32) (k : Fin 2816) : k0_pay44 x (ix2 r k) = x (ix2 r k) := by
  pointwise [k0_pay44]

/-- A slab of the second layer's gate weight. -/
theorem canonG (x0 : Vec Ideal S32x2816 .f32) (r : Fin 32) (k : Fin 2816) : View.canon (outG x0) (ix2 r k) = x0 (ix2 r k) := by
  have hc := cover20 x0 (ix2 r k)
  unfold outG at hc ⊢
  dsimp only at hc ⊢
  canon_tiles x h using hc
  obtain ⟨p, q, rfl⟩ : ∃ (p : Fin 32) (q : Fin 2816), x = ix2 p q := ⟨x 0, x 1, eq_ix2 x⟩
  refine (pay44_at _ _ _).trans (ld2 x0 _ _ _ _ _ _ ?_ ?_)
  · simpa using h0
  · simpa using h1

theorem pay45_at (x : Vec Ideal S32x2816 .f32) (r : Fin 32) (k : Fin 2816) : k0_pay45 x (ix2 r k) = x (ix2 r k) := by
  pointwise [k0_pay45]

/-- A slab of the second layer's up weight. -/
theorem canonU (x0 : Vec Ideal S32x2816 .f32) (r : Fin 32) (k : Fin 2816) : View.canon (outU x0) (ix2 r k) = x0 (ix2 r k) := by
  have hc := cover21 x0 (ix2 r k)
  unfold outU at hc ⊢
  dsimp only at hc ⊢
  canon_tiles x h using hc
  obtain ⟨p, q, rfl⟩ : ∃ (p : Fin 32) (q : Fin 2816), x = ix2 p q := ⟨x 0, x 1, eq_ix2 x⟩
  refine (pay45_at _ _ _).trans (ld2 x0 _ _ _ _ _ _ ?_ ?_)
  · simpa using h0
  · simpa using h1

theorem pay46_at (x : Vec Ideal S176x1024 .f32) (r : Fin 176) (k : Fin 1024) : k0_pay46 x (ix2 r k) = x (ix2 r k) := by
  pointwise [k0_pay46]

/-- A slab of the second layer's down weight. -/
theorem canonD (x0 : Vec Ideal S176x1024 .f32) (r : Fin 176) (k : Fin 1024) : View.canon (outD x0) (ix2 r k) = x0 (ix2 r k) := by
  have hc := cover22 x0 (ix2 r k)
  unfold outD at hc ⊢
  dsimp only at hc ⊢
  canon_tiles x h using hc
  obtain ⟨p, q, rfl⟩ : ∃ (p : Fin 176) (q : Fin 1024), x = ix2 p q := ⟨x 0, x 1, eq_ix2 x⟩
  refine (pay46_at _ _ _).trans (ld2 x0 _ _ _ _ _ _ ?_ ?_)
  · simpa using h0
  · simpa using h1

end Cert.KernelIdeal.Hand
-- ==== Proof.Layer.lean ====
/-
  The call's results as functions of its arguments: the rows after the first feed-forward layer, the projection's columns
  and the decays' logarithms.
-/
module

public import proofs.«01_k».proof.Proof.Spec
public import Idealize.ShloMosaic.Lib.Pointwise

@[expose] public section

noncomputable section

namespace Cert.Spec

open Idealize.ShloMosaic

abbrev Arr2 (a b : ℕ) : Type := (⟨2, ![a, b]⟩ : Shape).Idx → EReal
abbrev Arr3 (a b c : ℕ) : Type := (⟨3, ![a, b, c]⟩ : Shape).Idx → EReal

section

variable (s : EReal → EReal) (X0 : Arr3 4 4096 1024) (X1 : Arr2 1 1024) (X2 X3 : Arr3 1 1024 2816) (X4 : Arr3 1 2816 1024) (X5 : Arr2 1 1024)
  (X6 : Arr3 1 1024 3088) (X7 : Arr3 1 16 256) (X8 : Arr2 1 256)

/-- A row of the input: the batches' positions one after another. -/
def xrow (n : Fin 16384) (k : Fin 1024) : EReal := X0 (ix3 ⟨n.val / 4096, by omega⟩ ⟨n.val % 4096, by omega⟩ k)

/-- A row after the layer. -/
def rowX (n : Fin 16384) : Fin 1024 → EReal :=
  ffn s (xrow X0 n) (fun k => X1 (ix2 0 k)) (fun k j => X2 (ix3 0 k j)) (fun k j => X3 (ix3 0 k j)) (fun j k => X4 (ix3 0 j k))

/-- The row normed for the mixer. -/
def rowH (n : Fin 16384) : Fin 1024 → EReal := rms (rowX s X0 X1 X2 X3 X4 n) (fun k => X5 (ix2 0 k))

/-- The row projected. -/
def rowP (n : Fin 16384) : Fin 3088 → EReal := proj (rowH s X0 X1 X2 X3 X4 X5 n) (fun k c => X6 (ix3 0 k c))

/-- The row's columns for the mixer. -/
def rowM (n : Fin 16384) (c : Fin 3072) : EReal :=
  mixed s (rowP s X0 X1 X2 X3 X4 X5 X6 n) (fun a => Ideal.cos (angle ⟨n.val % 4096, by omega⟩ a)) (fun a => Ideal.sin (angle ⟨n.val % 4096, by omega⟩ a)) c

/-- The row's decay logits. -/
def rowL (n : Fin 16384) (l : Fin 256) : EReal :=
  logit (rowP s X0 X1 X2 X3 X4 X5 X6 n) (fun k l => X7 (ix3 0 k l)) (fun l => X8 (ix2 0 l)) l

end

end Cert.Spec
-- ==== Proof.Arrays.lean ====
/-
  The blocks the body reads at a point, at an index, and the arrays the call leaves.
-/
module

public import proofs.«01_k».proof.Proof.HostAt
public import proofs.«01_k».proof.Proof.Blocks2
public import proofs.«01_k».proof.Proof.Layer

@[expose] public section

set_option maxRecDepth 16384

noncomputable section

namespace Cert.KernelIdeal.Hand

open Cert.KernelIdeal Cert.KernelIdeal.Gen
open Idealize.ShloMosaic Idealize.ShloMosaic.TcCoe Cert.Spec
open Idealize.ShloMosaic.Pipeline (Dat Cfg Window)

variable (m : (ℓ : Loc nD τ sig) → Buf (Elt Ideal) ℓ)

theorem i0 : ∀ t : Fin cfg0.N, win0_0.index t = ![t.val, 0] := (by decide +kernel : ∀ t : Fin grid0.N, _)
theorem i1 : ∀ t : Fin cfg0.N, win0_1.index t = ![t.val % 8, 0] := (by decide +kernel : ∀ t : Fin grid0.N, _)
theorem i2 : ∀ t : Fin cfg0.N, win0_2.index t = ![t.val % 8, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0, 0] := (by decide +kernel : ∀ t : Fin grid0.N, _)
theorem i6 : ∀ t : Fin cfg0.N, win0_6.index t = ![0, 0] := (by decide +kernel : ∀ t : Fin grid0.N, _)
theorem i7 : ∀ t : Fin cfg0.N, win0_7.index t = ![t.val, 0] := (by decide +kernel : ∀ t : Fin grid0.N, _)
theorem i8 : ∀ t : Fin cfg0.N, win0_8.index t = ![t.val, 0] := (by decide +kernel : ∀ t : Fin grid0.N, _)
theorem i9 : ∀ t : Fin cfg0.N, win0_9.index t = ![t.val, 0] := (by decide +kernel : ∀ t : Fin grid0.N, _)
theorem i10 : ∀ t : Fin cfg0.N, win0_10.index t = ![t.val / 2, 0] := (by decide +kernel : ∀ t : Fin grid0.N, _)
theorem i11 : ∀ t : Fin cfg0.N, win0_11.index t = ![t.val, 0] := (by decide +kernel : ∀ t : Fin grid0.N, _)
theorem i12 : ∀ t : Fin cfg0.N, win0_12.index t = ![t.val, 0] := (by decide +kernel : ∀ t : Fin grid0.N, _)
theorem i13 : ∀ t : Fin cfg0.N, win0_13.index t = ![t.val, 0] := (by decide +kernel : ∀ t : Fin grid0.N, _)
theorem i14 : ∀ t : Fin cfg0.N, win0_14.index t = ![t.val, 0] := (by decide +kernel : ∀ t : Fin grid0.N, _)
theorem i15 : ∀ t : Fin cfg0.N, win0_15.index t = ![t.val, 0] := (by decide +kernel : ∀ t : Fin grid0.N, _)
theorem i16 : ∀ t : Fin cfg0.N, win0_16.index t = ![t.val, 0] := (by decide +kernel : ∀ t : Fin grid0.N, _)
theorem i17 : ∀ t : Fin cfg0.N, win0_17.index t = ![t.val / 2, 0] := (by decide +kernel : ∀ t : Fin grid0.N, _)

/-- The grid has thirty-two points. -/
theorem lt_N (t : Fin cfg0.N) : t.val < 32 := t.isLt

theorem blk_0 (c : Dev nD) (t : Fin cfg0.N) (r : Fin 512) (k : Fin 1024) (n : Fin 16384) (hn : n.val = 512 * t.val + r.val) :
    iblk m c 0 t (ix2 r k) = xrow (a0 m c) n k := by
  unfold xrow
  rw [← v36_at]
  blk_simp [iblk]
  refine congrArg (V m c main_v36) ?_
  blk_ext [i0]

theorem blk_1 (c : Dev nD) (t : Fin cfg0.N) (r : Fin 512) (l : Fin 128) (n : Fin 16384) (hn : n.val = 512 * t.val + r.val) :
    iblk m c 1 t (ix2 r l) = Ideal.cos (angle ⟨n.val % 4096, by omega⟩ ⟨l.val % 32, by omega⟩) := by
  rw [← v27_at]
  blk_simp [iblk]
  refine congrArg (V m c main_v27) ?_
  blk_ext [i1]

theorem blk_2 (c : Dev nD) (t : Fin cfg0.N) (r : Fin 512) (l : Fin 128) (n : Fin 16384) (hn : n.val = 512 * t.val + r.val) :
    iblk m c 2 t (ix2 r l) = Ideal.sin (angle ⟨n.val % 4096, by omega⟩ ⟨l.val % 32, by omega⟩) * (if l.val % 64 < 32 then -1 else 1) := by
  rw [← v35_at]
  blk_simp [iblk]
  refine congrArg (V m c main_v35) ?_
  blk_ext [i2]

theorem blk_3 (c : Dev nD) (t : Fin cfg0.N) (k : Fin 1024) : iblk m c 3 t (ix2 0 k) = a1 m c (ix2 0 k) := by
  refine Eq.trans ?_ (congrFun (V_main_arg1 m c) (ix2 0 k))
  blk_simp [iblk]
  refine congrArg (V m c main_arg1) ?_
  blk_ext [i3]

theorem blk_4 (c : Dev nD) (t : Fin cfg0.N) (k : Fin 1024) : iblk m c 4 t (ix2 0 k) = a5 m c (ix2 0 k) := by
  refine Eq.trans ?_ (congrFun (V_main_arg5 m c) (ix2 0 k))
  blk_simp [iblk]
  refine congrArg (V m c main_arg5) ?_
  blk_ext [i4]

theorem blk_6 (c : Dev nD) (t : Fin cfg0.N) (k : Fin 256) : iblk m c 6 t (ix2 0 k) = a8 m c (ix2 0 k) := by
  refine Eq.trans ?_ (congrFun (V_main_arg8 m c) (ix2 0 k))
  blk_simp [iblk]
  refine congrArg (V m c main_arg8) ?_
  blk_ext [i6]

theorem blk_5 (c : Dev nD) (t : Fin cfg0.N) (i : Fin 128) (l : Fin 256) :
    iblk m c 5 t (ix2 i l) = (if h : i.val < 16 then a7 m c (ix3 0 ⟨i.val, h⟩ l) else 0 : EReal) := by
  rw [← v4_at]
  blk_simp [iblk]
  refine congrArg (V m c main_v4) ?_
  blk_ext [i5]

theorem blk_7 (c : Dev nD) (t : Fin cfg0.N) (r : Fin 32) (k : Fin 1024) (n : Fin 1024) (hn : n.val = 32 * t.val + r.val) :
    iblk m c 7 t (ix2 r k) = a9 m c (ix3 0 n k) := by
  rw [← v37_at]
  blk_simp [iblk]
  refine congrArg (V m c main_v37) ?_
  blk_ext [i7]

theorem blk_8 (c : Dev nD) (t : Fin cfg0.N) (r : Fin 32) (k : Fin 2816) (n : Fin 1024) (hn : n.val = 32 * t.val + r.val) :
    iblk m c 8 t (ix2 r k) = a10 m c (ix3 0 n k) := by
  rw [← v38_at]
  blk_simp [iblk]
  refine congrArg (V m c main_v38) ?_
  blk_ext [i8]

theorem blk_9 (c : Dev nD) (t : Fin cfg0.N) (r : Fin 32) (k : Fin 2816) (n : Fin 1024) (hn : n.val = 32 * t.val + r.val) :
    iblk m c 9 t (ix2 r k) = a11 m c (ix3 0 n k) := by
  rw [← v39_at]
  blk_simp [iblk]
  refine congrArg (V m c main_v39) ?_
  blk_ext [i9]

theorem blk_10 (c : Dev nD) (t : Fin cfg0.N) (r : Fin 176) (k : Fin 1024) (n : Fin 2816) (hn : n.val = 176 * (t.val / 2) + r.val) :
    iblk m c 10 t (ix2 r k) = a12 m c (ix3 0 n k) := by
  rw [← v40_at]
  blk_simp [iblk]
  refine congrArg (V m c main_v40) ?_
  blk_ext [i10]

theorem actAt_at (c : Dev nD) (t : Fin cfg0.N) (r : Fin 512) (j : Fin 2816) (n : Fin 16384) (hn : n.val = 512 * t.val + r.val) :
    actAt m c t (ix2 r j) = act siluT (rms (xrow (a0 m c) n) (fun k => a1 m c (ix2 0 k))) (fun k => a2 m c (ix3 0 k j)) (fun k => a3 m c (ix3 0 k j)) := by
  refine (canonA _ _ _ _ r j).trans (act_congr (fun k => rms_congr (fun k => ?_) (fun k => ?_) k) (fun k => ?_) (fun k => ?_))
  · exact blk_0 m c t r k n hn
  · exact blk_3 m c t k
  · exact wGate_at m c k j
  · exact wUp_at m c k j

theorem res_at (c : Dev nD) (t : Fin cfg0.N) (r : Fin 512) (n : Fin 16384) (hn : n.val = 512 * t.val + r.val) (k : Fin 1024) :
    res (fun k => iblk m c 0 t (ix2 r k)) (fun k => actAt m c t (ix2 r k)) (fun j k => wDown m c (ix2 j k)) k = rowX siluT (a0 m c) (a1 m c) (a2 m c) (a3 m c) (a4 m c) n k := by
  unfold rowX ffn
  refine res_congr (fun k => ?_) (fun j => ?_) (fun j k => ?_) k
  · exact blk_0 m c t r k n hn
  · exact actAt_at m c t r j n hn
  · exact wDown_at m c j k

theorem xAt_at (c : Dev nD) (t : Fin cfg0.N) (r : Fin 512) (k : Fin 1024) (n : Fin 16384) (hn : n.val = 512 * t.val + r.val) :
    xAt m c t (ix2 r k) = rowX siluT (a0 m c) (a1 m c) (a2 m c) (a3 m c) (a4 m c) n k :=
  (canonX _ _ _ r k).trans (res_at m c t r n hn k)

theorem hrow_eq (c : Dev nD) (t : Fin cfg0.N) (r : Fin 512) (n : Fin 16384) (hn : n.val = 512 * t.val + r.val) (k : Fin 1024) :
    hrow (iblk m c 0 t) (actAt m c t) (wDown m c) (iblk m c 4 t) r k = rowH siluT (a0 m c) (a1 m c) (a2 m c) (a3 m c) (a4 m c) (a5 m c) n k := by
  unfold hrow rowH
  refine rms_congr (fun k => ?_) (fun k => ?_) k
  · exact res_at m c t r n hn k
  · exact blk_4 m c t k

/-- The body's columns are the mixer's. -/
theorem kmixed_eq (P : Fin 3072 → EReal) (p : Fin 3088 → EReal) (hp : ∀ c : Fin 3072, P c = p ⟨c.val, by omega⟩) (C S : Fin 128 → EReal) (cos sin : Fin 32 → EReal)
    (hC : ∀ l : Fin 128, C l = cos ⟨l.val % 32, by omega⟩) (hS : ∀ l : Fin 128, S l = sin ⟨l.val % 32, by omega⟩ * (if l.val % 64 < 32 then -1 else 1)) (c : Fin 3072) :
    kmixed P C S c = mixed siluT p cos sin c := by
  unfold kmixed mixed
  by_cases h : c.val < 512
  · rw [dif_pos h, dif_pos h]
    dsimp only
    have e : turn (fun l => P ⟨128 * (c.val / 128) + l.val, by omega⟩) C S ⟨c.val % 128, by omega⟩
        = if h' : c.val % 64 < 32 then
            p ⟨c.val, by omega⟩ * cos ⟨c.val % 32, by omega⟩ - p ⟨c.val + 32, by omega⟩ * sin ⟨c.val % 32, by omega⟩
          else p ⟨c.val - 32, by omega⟩ * sin ⟨c.val % 32, by omega⟩ + p ⟨c.val, by omega⟩ * cos ⟨c.val % 32, by omega⟩ := by
      unfold turn mate
      have e3 : (⟨c.val % 128 % 32, by omega⟩ : Fin 32) = ⟨c.val % 32, by omega⟩ := Fin.ext (by dsimp only; omega)
      have e4 : (⟨128 * (c.val / 128) + c.val % 128, by omega⟩ : Fin 3088) = ⟨c.val, by omega⟩ := Fin.ext (by dsimp only; omega)
      by_cases h' : c.val % 64 < 32
      · have h2 : c.val % 128 % 64 < 32 := by omega
        have e5 : (⟨128 * (c.val / 128) + (c.val % 128 + 128 - 96) % 128, by omega⟩ : Fin 3088) = ⟨c.val + 32, by omega⟩ := Fin.ext (by dsimp only; omega)
        rw [dif_pos h', hC, hS]
        dsimp only
        rw [if_pos h2, if_pos h2, hp, hp]
        dsimp only
        rw [e3, e4, e5, mul_neg_one, mul_neg, sub_eq_add_neg]
      · have h2 : ¬ c.val % 128 % 64 < 32 := by omega
        have e5 : (⟨128 * (c.val / 128) + (c.val % 128 + 128 - 32) % 128, by omega⟩ : Fin 3088) = ⟨c.val - 32, by omega⟩ := Fin.ext (by dsimp only; omega)
        rw [dif_neg h', hC, hS]
        dsimp only
        rw [if_neg h2, if_neg h2, hp, hp]
        dsimp only
        rw [e3, e4, e5, mul_one, add_comm]
    rw [e]
  · rw [dif_neg h, dif_neg h]
    simp only [hp]

theorem pAt_at (c : Dev nD) (t : Fin cfg0.N) (r : Fin 512) (j : Fin 3072) (n : Fin 16384) (hn : n.val = 512 * t.val + r.val) :
    pAt m c t (ix2 r j) = rowM siluT (a0 m c) (a1 m c) (a2 m c) (a3 m c) (a4 m c) (a5 m c) (a6 m c) n j := by
  refine (canonP _ _ _ _ _ _ _ r j).trans (kmixed_eq _ _ (fun j => ?_) _ _ _ _ (fun l => ?_) (fun l => ?_) j)
  · exact dot_congr (fun k => hrow_eq m c t r n hn k) (fun k => wIn_at m c j k)
  · exact blk_1 m c t r l n hn
  · exact blk_2 m c t r l n hn

/-- A sum whose later terms are zero. -/
theorem sum_head (f : Fin 128 → EReal) (h0 : ∀ i : Fin 128, 16 ≤ i.val → f i = 0) : ∑ i, f i = ∑ i : Fin 16, f ⟨i.val, by omega⟩ := by
  refine (Fin.sum_univ_add (a := 16) (b := 112) f).trans ?_
  refine Eq.trans (congrArg₂ (· + ·) rfl (Finset.sum_eq_zero fun i _ => h0 _ ?_)) (add_zero _)
  show 16 ≤ 16 + i.val
  omega

theorem lAt_at (c : Dev nD) (t : Fin cfg0.N) (r : Fin 512) (l : Fin 256) (n : Fin 16384) (hn : n.val = 512 * t.val + r.val) :
    lAt m c t (ix2 r l) = decay (rowL siluT (a0 m c) (a1 m c) (a2 m c) (a3 m c) (a4 m c) (a5 m c) (a6 m c) (a7 m c) (a8 m c) n l) := by
  refine (canonL _ _ _ _ _ _ _ r l).trans (congrArg decay (congrArg₂ (· + ·) ?_ (blk_6 m c t l)))
  refine (sum_head _ fun i hi => ?_).trans (Finset.sum_congr rfl fun i _ => congrArg₂ (· * ·) ?_ ?_)
  · have e : iblk m c 5 t (ix2 i l) = (0 : EReal) := (blk_5 m c t i l).trans (dif_neg (by omega))
    exact (congrArg _ e).trans (mul_zero _)
  · exact dot_congr (fun k => hrow_eq m c t r n hn k) (fun k => (wLow_at m c ⟨i.val, by omega⟩ k).trans (dif_pos i.isLt))
  · exact (blk_5 m c t ⟨i.val, by omega⟩ l).trans (dif_pos i.isLt)

theorem final_x (c : Dev nD) : (dats m 0 c).arrAt 11 cfg0.N = (fun i => rowX siluT (a0 m c) (a1 m c) (a2 m c) (a3 m c) (a4 m c) (i 0) (i 1) : FVec Ideal S16384x1024 .f32) := by
  refine (dats m 0 c).arrAt_eq_of_covers 11 _ (by decide +kernel) fun t hf y => ?_
  blk_simp
  rw [after_11]
  have ht := lt_N t
  obtain ⟨r, k, rfl⟩ : ∃ (r : Fin 512) (k : Fin 1024), y = ix2 r k := ⟨y 0, y 1, eq_ix2 y⟩
  have e : (win0_11.blk t).view.emb (ix2 r k) = (ix2 (⟨512 * t.val + r.val, by omega⟩ : Fin 16384) k) := by
    blk_ext [i11]
  rw [e]
  exact xAt_at m c t r k _ rfl

theorem final_p (c : Dev nD) : (dats m 0 c).arrAt 12 cfg0.N = (fun i => rowM siluT (a0 m c) (a1 m c) (a2 m c) (a3 m c) (a4 m c) (a5 m c) (a6 m c) (i 0) (i 1) : FVec Ideal S16384x3072 .bf16) := by
  refine (dats m 0 c).arrAt_eq_of_covers 12 _ (by decide +kernel) fun t hf y => ?_
  blk_simp
  rw [after_12]
  have ht := lt_N t
  obtain ⟨r, k, rfl⟩ : ∃ (r : Fin 512) (k : Fin 3072), y = ix2 r k := ⟨y 0, y 1, eq_ix2 y⟩
  have e : (win0_12.blk t).view.emb (ix2 r k) = (ix2 (⟨512 * t.val + r.val, by omega⟩ : Fin 16384) k) := by
    blk_ext [i12]
  rw [e]
  exact pAt_at m c t r k _ rfl

theorem final_l (c : Dev nD) : (dats m 0 c).arrAt 13 cfg0.N = (fun i => decay (rowL siluT (a0 m c) (a1 m c) (a2 m c) (a3 m c) (a4 m c) (a5 m c) (a6 m c) (a7 m c) (a8 m c) (i 0) (i 1)) : FVec Ideal S16384x256 .f32) := by
  refine (dats m 0 c).arrAt_eq_of_covers 13 _ (by decide +kernel) fun t hf y => ?_
  blk_simp
  rw [after_13]
  have ht := lt_N t
  obtain ⟨r, k, rfl⟩ : ∃ (r : Fin 512) (k : Fin 256), y = ix2 r k := ⟨y 0, y 1, eq_ix2 y⟩
  have e : (win0_13.blk t).view.emb (ix2 r k) = (ix2 (⟨512 * t.val + r.val, by omega⟩ : Fin 16384) k) := by
    blk_ext [i13]
  rw [e]
  exact lAt_at m c t r k _ rfl

theorem final_o (c : Dev nD) : (dats m 0 c).arrAt 14 cfg0.N = (fun i => a9 m c (ix3 0 (i 0) (i 1)) : FVec Ideal S1024x1024 .bf16) := by
  refine (dats m 0 c).arrAt_eq_of_covers 14 _ (by decide +kernel) fun t hf y => ?_
  blk_simp
  rw [after_14]
  have ht := lt_N t
  obtain ⟨r, k, rfl⟩ : ∃ (r : Fin 32) (k : Fin 1024), y = ix2 r k := ⟨y 0, y 1, eq_ix2 y⟩
  have e : (win0_14.blk t).view.emb (ix2 r k) = (ix2 (⟨32 * t.val + r.val, by omega⟩ : Fin 1024) k) := by
    blk_ext [i14]
  rw [e]
  exact (canonO _ r k).trans (blk_7 m c t r k _ rfl)

theorem final_g (c : Dev nD) : (dats m 0 c).arrAt 15 cfg0.N = (fun i => a10 m c (ix3 0 (i 0) (i 1)) : FVec Ideal S1024x2816 .bf16) := by
  refine (dats m 0 c).arrAt_eq_of_covers 15 _ (by decide +kernel) fun t hf y => ?_
  blk_simp
  rw [after_15]
  have ht := lt_N t
  obtain ⟨r, k, rfl⟩ : ∃ (r : Fin 32) (k : Fin 2816), y = ix2 r k := ⟨y 0, y 1, eq_ix2 y⟩
  have e : (win0_15.blk t).view.emb (ix2 r k) = (ix2 (⟨32 * t.val + r.val, by omega⟩ : Fin 1024) k) := by
    blk_ext [i15]
  rw [e]
  exact (canonG _ r k).trans (blk_8 m c t r k _ rfl)

theorem final_u (c : Dev nD) : (dats m 0 c).arrAt 16 cfg0.N = (fun i => a11 m c (ix3 0 (i 0) (i 1)) : FVec Ideal S1024x2816 .bf16) := by
  refine (dats m 0 c).arrAt_eq_of_covers 16 _ (by decide +kernel) fun t hf y => ?_
  blk_simp
  rw [after_16]
  have ht := lt_N t
  obtain ⟨r, k, rfl⟩ : ∃ (r : Fin 32) (k : Fin 2816), y = ix2 r k := ⟨y 0, y 1, eq_ix2 y⟩
  have e : (win0_16.blk t).view.emb (ix2 r k) = (ix2 (⟨32 * t.val + r.val, by omega⟩ : Fin 1024) k) := by
    blk_ext [i16]
  rw [e]
  exact (canonU _ r k).trans (blk_9 m c t r k _ rfl)

theorem final_d (c : Dev nD) : (dats m 0 c).arrAt 17 cfg0.N = (fun i => a12 m c (ix3 0 (i 0) (i 1)) : FVec Ideal S2816x1024 .bf16) := by
  refine (dats m 0 c).arrAt_eq_of_covers 17 _ (by decide +kernel) fun t hf y => ?_
  blk_simp
  rw [after_17]
  have ht := lt_N t
  obtain ⟨r, k, rfl⟩ : ∃ (r : Fin 176) (k : Fin 1024), y = ix2 r k := ⟨y 0, y 1, eq_ix2 y⟩
  have e : (win0_17.blk t).view.emb (ix2 r k) = (ix2 (⟨176 * (t.val / 2) + r.val, by omega⟩ : Fin 2816) k) := by
    blk_ext [i17]
  rw [e]
  exact (canonD _ r k).trans (blk_10 m c t r k _ rfl)

end Cert.KernelIdeal.Hand
-- ==== Proof.Finite.lean ====
/-
  Where the two spellings of a row's functions agree: on rows of real numbers.
-/
module

public import proofs.«01_k».proof.Proof.Spec
public import Idealize.ShloMosaic.Lib.IdealHost
public import Mathlib.Analysis.SpecialFunctions.Trigonometric.DerivHyp

@[expose] public section

noncomputable section

namespace Cert.Spec

open Idealize.ShloMosaic

/-- A real number among the extended ones. -/
def IsReal (x : EReal) : Prop := ∃ r : ℝ, x = (r : EReal)

theorem isReal_coe (r : ℝ) : IsReal (r : EReal) := ⟨r, rfl⟩
theorem IsReal.add {x y : EReal} : IsReal x → IsReal y → IsReal (x + y) := by
  rintro ⟨a, rfl⟩ ⟨b, rfl⟩; exact ⟨a + b, (EReal.coe_add a b).symm⟩
theorem IsReal.mul {x y : EReal} : IsReal x → IsReal y → IsReal (x * y) := by
  rintro ⟨a, rfl⟩ ⟨b, rfl⟩; exact ⟨a * b, (EReal.coe_mul a b).symm⟩
theorem isReal_zero : IsReal 0 := ⟨0, rfl⟩
theorem isReal_sum {ι : Type} (s : Finset ι) (f : ι → EReal) (h : ∀ i, IsReal (f i)) : IsReal (∑ i ∈ s, f i) := by
  classical
  induction s using Finset.induction_on with
  | empty => rw [Finset.sum_empty]; exact isReal_zero
  | insert a s ha ih => rw [Finset.sum_insert ha]; exact (h a).add ih
theorem isReal_dot {n : ℕ} (f g : Fin n → EReal) (hf : ∀ i, IsReal (f i)) (hg : ∀ i, IsReal (g i)) :
    IsReal (∑ i, f i * g i) := isReal_sum _ _ fun i => (hf i).mul (hg i)

theorem half_eq : half = ((1 / 2 : ℝ) : EReal) := by
  unfold half; simp [Ideal.ofBits, Ideal.ieee, -EReal.coe_mul]; norm_num
theorem c1024_eq : Ideal.ofBits .f32 0x44800000#32 = ((1024 : ℝ) : EReal) := by
  simp [Ideal.ofBits, Ideal.ieee, -EReal.coe_mul]; norm_num
theorem c16_eq : Ideal.ofBits .f32 0x41800000#32 = ((16 : ℝ) : EReal) := by
  simp [Ideal.ofBits, Ideal.ieee, -EReal.coe_mul]; norm_num
theorem c16th_eq : Ideal.ofBits .f32 0x3D800000#32 = ((1 / 16 : ℝ) : EReal) := by
  simp [Ideal.ofBits, Ideal.ieee, -EReal.coe_mul]; norm_num
theorem eps_pos : ∃ e : ℝ, 0 < e ∧ Ideal.ofBits .f32 0x358637BD#32 = (e : EReal) := by
  refine ⟨(8796093 : ℝ) * 2 ^ (-43 : ℤ), mul_pos (by norm_num) (zpow_pos (by norm_num) _), ?_⟩
  simp [Ideal.ofBits, Ideal.ieee, -EReal.coe_mul]

/-- A sum of squares of reals is a real that is not negative. -/
theorem sumsq {n : ℕ} (x : Fin n → EReal) (hx : ∀ i, IsReal (x i)) :
    ∃ r : ℝ, 0 ≤ r ∧ ∑ j, x j * x j = (r : EReal) := by
  choose f hf using hx
  have key : ∀ s : Finset (Fin n), ∃ r : ℝ, 0 ≤ r ∧ ∑ j ∈ s, x j * x j = (r : EReal) := by
    intro s
    classical
    induction s using Finset.induction_on with
    | empty => exact ⟨0, le_refl _, by rw [Finset.sum_empty]; rfl⟩
    | insert a s ha ih =>
      obtain ⟨r, hr, e⟩ := ih
      refine ⟨f a * f a + r, add_nonneg (mul_self_nonneg _) hr, ?_⟩
      rw [Finset.sum_insert ha, e, hf a, EReal.coe_add, EReal.coe_mul]
  exact key _

theorem isReal_rms (x g : Fin 1024 → EReal) (hx : ∀ i, IsReal (x i)) (hg : ∀ i, IsReal (g i)) (k : Fin 1024) :
    IsReal (rms x g k) := by
  unfold rms
  refine ((hx k).mul ?_).mul (hg k)
  obtain ⟨r, hr, e⟩ := sumsq x hx
  obtain ⟨ε, he, e'⟩ := eps_pos
  rw [e, e', c1024_eq, Ideal.div_coe (by norm_num), ← EReal.coe_mul, ← EReal.coe_add, Ideal.rsqrt_coe]
  have hp : 0 < r * (1 / 1024) + ε := by positivity
  rw [if_neg (not_lt.mpr hp.le), if_neg hp.ne']
  exact isReal_coe _

/-- On a real number the two gates agree. -/
theorem silu_eq (z : EReal) (hz : IsReal z) : siluT z = siluE z := by
  obtain ⟨r, rfl⟩ := hz
  unfold siluT siluE
  have hpos : (1 + Real.exp (-r)) ≠ 0 := by positivity
  rw [half_eq, ← EReal.coe_mul, Ideal.tanh_coe, ← EReal.coe_mul, ← EReal.coe_add, ← EReal.coe_neg, Ideal.exp_coe,
    ← EReal.coe_one, ← EReal.coe_add, Ideal.div_coe hpos, ← EReal.coe_mul, ← EReal.coe_mul]
  congr 1
  have e1 : Real.exp (-r) = Real.exp (-(1 / 2 * r)) * Real.exp (-(1 / 2 * r)) := by
    rw [← Real.exp_add]; congr 1; ring
  have e2 : Real.exp (1 / 2 * r) * Real.exp (-(1 / 2 * r)) = 1 := by
    rw [← Real.exp_add]; simp
  have hq := Real.exp_pos (-(1 / 2 * r))
  have hp := Real.exp_pos (1 / 2 * r)
  rw [Real.tanh_eq_sinh_div_cosh, Real.sinh_eq, Real.cosh_eq]
  rw [e1] at hpos ⊢
  set p := Real.exp (1 / 2 * r)
  set q := Real.exp (-(1 / 2 * r))
  have hs : p + q ≠ 0 := by positivity
  have hd : 1 + q * q = q * (p + q) := by rw [mul_add, mul_comm q p, e2]
  rw [hd]
  have hq0 := hq.ne'
  have : (1 / 2 * r * ((p - q) / 2 / ((p + q) / 2)) + 1 / 2 * r) = r * p / (p + q) := by field_simp; ring
  rw [this]
  field_simp
  rw [mul_comm, ← mul_assoc]; linear_combination (r * 1) * e2

theorem isReal_silu (z : EReal) (hz : IsReal z) : IsReal (siluE z) := by
  obtain ⟨r, rfl⟩ := hz
  unfold siluE
  have hpos : (1 + Real.exp (-r)) ≠ 0 := by positivity
  rw [← EReal.coe_neg, Ideal.exp_coe, ← EReal.coe_one, ← EReal.coe_add, Ideal.div_coe hpos, ← EReal.coe_mul, ← EReal.coe_mul]
  exact isReal_coe _

/-- On real rows and weights the layer is the same by either gate. -/
theorem ffn_eq (x g : Fin 1024 → EReal) (wg wu : Fin 1024 → Fin 2816 → EReal) (wd : Fin 2816 → Fin 1024 → EReal)
    (hx : ∀ i, IsReal (x i)) (hg : ∀ i, IsReal (g i)) (hwg : ∀ i j, IsReal (wg i j)) :
    ffn siluT x g wg wu wd = ffn siluE x g wg wu wd := by
  unfold ffn
  congr 1
  funext j
  unfold act
  rw [silu_eq]
  exact isReal_dot _ _ (isReal_rms x g hx hg) (fun i => hwg i j)

theorem isReal_ffn (x g : Fin 1024 → EReal) (wg wu : Fin 1024 → Fin 2816 → EReal) (wd : Fin 2816 → Fin 1024 → EReal)
    (hx : ∀ i, IsReal (x i)) (hg : ∀ i, IsReal (g i)) (hwg : ∀ i j, IsReal (wg i j)) (hwu : ∀ i j, IsReal (wu i j))
    (hwd : ∀ i j, IsReal (wd i j)) (n : Fin 1024) : IsReal (ffn siluE x g wg wu wd n) := by
  unfold ffn res act
  refine (hx n).add (IsReal.mul (half_eq ▸ isReal_coe _) (isReal_dot _ _ (fun j => IsReal.mul (isReal_silu _ ?_) ?_) (fun j => hwd j n)))
  · exact isReal_dot _ _ (isReal_rms x g hx hg) (fun i => hwg i j)
  · exact isReal_dot _ _ (isReal_rms x g hx hg) (fun i => hwu i j)

theorem mixed_eq (p : Fin 3088 → EReal) (cos sin : Fin 32 → EReal) (hp : ∀ c, IsReal (p c)) (c : Fin 3072) :
    mixed siluT p cos sin c = mixed siluE p cos sin c := by
  unfold mixed
  simp only [silu_eq _ (hp _)]

theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min
theorem log_one : Ideal.log 1 = 0 := by
  rw [← EReal.coe_one, Ideal.log_coe]; simp

/-- The decay's two spellings agree everywhere. -/
theorem decay_eq (z : EReal) : decay z = decayE z := by
  unfold decay decayE
  rw [c16_eq, c16th_eq, Ideal.div_coe (by norm_num)]
  congr 1
  induction z using EReal.rec with
  | bot => simp [Ideal.log1p, log_one]
  | top => simp [Ideal.log1p, log_one]
  | coe r =>
    have h1 : ∀ a : ℝ, ∃ b : ℝ, Ideal.log (1 + Ideal.exp (a : EReal)) = (b : EReal) := by
      intro a
      have : 0 < 1 + Real.exp a := by positivity
      refine ⟨Real.log (1 + Real.exp a), ?_⟩
      rw [Ideal.exp_coe, ← EReal.coe_one, ← EReal.coe_add, Ideal.log_coe]
      simp [this.not_ge, this.ne', this.not_gt]
    have e : (0 : EReal) - max (r : EReal) (-(r : EReal)) = ((-(max r (-r)) : ℝ) : EReal) := by
      rw [← EReal.coe_neg, ← coe_max, zero_sub, EReal.coe_neg]
    have e' : -(max (-(r : EReal)) (- -(r : EReal))) = ((-(max r (-r)) : ℝ) : EReal) := by
      rw [neg_neg, max_comm, ← EReal.coe_neg, ← coe_max, EReal.coe_neg]
    obtain ⟨b, hb⟩ := h1 (-(max r (-r)))
    rw [Ideal.log1p, e, e', hb, ← EReal.coe_zero, ← EReal.coe_neg, ← coe_max, ← coe_min, ← EReal.coe_add,
      ← EReal.coe_neg, ← EReal.coe_sub]
    congr 1
    have : max (-r) 0 = -(min r 0) := by rw [← max_neg_neg]; simp
    rw [this]; ring

end Cert.Spec
-- ==== Proof.Agree.lean ====
/-
  The results of the call, and that the two spellings of the gate give the same ones where the arrays hold reals.
-/
module

public import proofs.«01_k».proof.Proof.Layer
public import proofs.«01_k».proof.Proof.Finite

@[expose] public section

noncomputable section

namespace Cert.Spec

open Idealize.ShloMosaic

/-- Every entry is a real. -/
def AllReal {S : Shape} (X : S.Idx → EReal) : Prop := ∀ i, IsReal (X i)

section

variable (X0 : Arr3 4 4096 1024) (X1 : Arr2 1 1024) (X2 X3 : Arr3 1 1024 2816) (X4 : Arr3 1 2816 1024) (X5 : Arr2 1 1024)
  (X6 : Arr3 1 1024 3088) (X7 : Arr3 1 16 256) (X8 : Arr2 1 256)

/-- The rows after the first feed-forward layer. -/
def outX : Arr2 16384 1024 := fun i => rowX siluE X0 X1 X2 X3 X4 (i 0) (i 1)

/-- The mixer's columns. -/
def outM : Arr2 16384 3072 := fun i => rowM siluE X0 X1 X2 X3 X4 X5 X6 (i 0) (i 1)

/-- The decays' logarithms. -/
def outL : Arr2 16384 256 := fun i => decayE (rowL siluE X0 X1 X2 X3 X4 X5 X6 X7 X8 (i 0) (i 1))

/-- A weight's matrix. -/
def outW {a b : ℕ} (X : Arr3 1 a b) : Arr2 a b := fun i => X (ix3 0 (i 0) (i 1))

variable {X0 X1 X2 X3 X4 X5 X6 X7 X8}

theorem rowX_eq (h0 : AllReal X0) (h1 : AllReal X1) (h2 : AllReal X2) (n : Fin 16384) :
    rowX siluT X0 X1 X2 X3 X4 n = rowX siluE X0 X1 X2 X3 X4 n :=
  ffn_eq _ _ _ _ _ (fun _ => h0 _) (fun _ => h1 _) (fun _ _ => h2 _)

theorem rowP_eq (h0 : AllReal X0) (h1 : AllReal X1) (h2 : AllReal X2) (n : Fin 16384) :
    rowP siluT X0 X1 X2 X3 X4 X5 X6 n = rowP siluE X0 X1 X2 X3 X4 X5 X6 n := by
  unfold rowP rowH
  rw [rowX_eq h0 h1 h2]

theorem isReal_rowP (h0 : AllReal X0) (h1 : AllReal X1) (h2 : AllReal X2) (h3 : AllReal X3) (h4 : AllReal X4) (h5 : AllReal X5)
    (h6 : AllReal X6) (n : Fin 16384) (c : Fin 3088) : IsReal (rowP siluE X0 X1 X2 X3 X4 X5 X6 n c) :=
  isReal_dot _ _ (fun k => isReal_rms _ _ (isReal_ffn _ _ _ _ _ (fun _ => h0 _) (fun _ => h1 _) (fun _ _ => h2 _) (fun _ _ => h3 _) (fun _ _ => h4 _)) (fun _ => h5 _) k)
    (fun _ => h6 _)

theorem rowM_eq (h0 : AllReal X0) (h1 : AllReal X1) (h2 : AllReal X2) (h3 : AllReal X3) (h4 : AllReal X4) (h5 : AllReal X5)
    (h6 : AllReal X6) (n : Fin 16384) (c : Fin 3072) :
    rowM siluT X0 X1 X2 X3 X4 X5 X6 n c = rowM siluE X0 X1 X2 X3 X4 X5 X6 n c := by
  unfold rowM
  rw [rowP_eq h0 h1 h2]
  exact mixed_eq _ _ _ (isReal_rowP h0 h1 h2 h3 h4 h5 h6 n) c

theorem rowL_eq (h0 : AllReal X0) (h1 : AllReal X1) (h2 : AllReal X2) (n : Fin 16384) (l : Fin 256) :
    rowL siluT X0 X1 X2 X3 X4 X5 X6 X7 X8 n l = rowL siluE X0 X1 X2 X3 X4 X5 X6 X7 X8 n l := by
  unfold rowL
  rw [rowP_eq h0 h1 h2]

theorem outX_eq (h0 : AllReal X0) (h1 : AllReal X1) (h2 : AllReal X2) :
    (fun i => rowX siluT X0 X1 X2 X3 X4 (i 0) (i 1) : Arr2 16384 1024) = outX X0 X1 X2 X3 X4 :=
  funext fun i => congrFun (rowX_eq h0 h1 h2 (i 0)) (i 1)

theorem outM_eq (h0 : AllReal X0) (h1 : AllReal X1) (h2 : AllReal X2) (h3 : AllReal X3) (h4 : AllReal X4) (h5 : AllReal X5)
    (h6 : AllReal X6) : (fun i => rowM siluT X0 X1 X2 X3 X4 X5 X6 (i 0) (i 1) : Arr2 16384 3072) = outM X0 X1 X2 X3 X4 X5 X6 :=
  funext fun i => rowM_eq h0 h1 h2 h3 h4 h5 h6 (i 0) (i 1)

theorem outL_eq (h0 : AllReal X0) (h1 : AllReal X1) (h2 : AllReal X2) :
    (fun i => decay (rowL siluT X0 X1 X2 X3 X4 X5 X6 X7 X8 (i 0) (i 1)) : Arr2 16384 256) = outL X0 X1 X2 X3 X4 X5 X6 X7 X8 :=
  funext fun i => (decay_eq _).trans (congrArg decayE (rowL_eq h0 h1 h2 (i 0) (i 1)))

end

section

variable {X0 Y0 : Arr3 4 4096 1024} {X1 Y1 : Arr2 1 1024} {X2 Y2 X3 Y3 : Arr3 1 1024 2816} {X4 Y4 : Arr3 1 2816 1024} {X5 Y5 : Arr2 1 1024}
  {X6 Y6 : Arr3 1 1024 3088} {X7 Y7 : Arr3 1 16 256} {X8 Y8 : Arr2 1 256}

theorem outX_congr (e0 : X0 = Y0) (e1 : X1 = Y1) (e2 : X2 = Y2) (e3 : X3 = Y3) (e4 : X4 = Y4) :
    outX X0 X1 X2 X3 X4 = outX Y0 Y1 Y2 Y3 Y4 := by rw [e0, e1, e2, e3, e4]
theorem outM_congr (e0 : X0 = Y0) (e1 : X1 = Y1) (e2 : X2 = Y2) (e3 : X3 = Y3) (e4 : X4 = Y4) (e5 : X5 = Y5) (e6 : X6 = Y6) :
    outM X0 X1 X2 X3 X4 X5 X6 = outM Y0 Y1 Y2 Y3 Y4 Y5 Y6 := by rw [e0, e1, e2, e3, e4, e5, e6]
theorem outL_congr (e0 : X0 = Y0) (e1 : X1 = Y1) (e2 : X2 = Y2) (e3 : X3 = Y3) (e4 : X4 = Y4) (e5 : X5 = Y5) (e6 : X6 = Y6)
    (e7 : X7 = Y7) (e8 : X8 = Y8) : outL X0 X1 X2 X3 X4 X5 X6 X7 X8 = outL Y0 Y1 Y2 Y3 Y4 Y5 Y6 Y7 Y8 := by
  rw [e0, e1, e2, e3, e4, e5, e6, e7, e8]
theorem outW_congr {a b : ℕ} {X Y : Arr3 1 a b} (e : X = Y) : outW X = outW Y := by rw [e]

end

end Cert.Spec

end
-- ==== Proof.KerRun.lean ====
/-
  The kernel's run, its results named.
-/
module

public import proofs.«01_k».proof.Proof.Arrays
public import proofs.«01_k».proof.Proof.Run
public import proofs.«01_k».proof.Proof.Agree

@[expose] public section

noncomputable section

namespace Cert.KernelIdeal.Hand

open Cert.KernelIdeal Cert.KernelIdeal.Gen
open Idealize.ShloMosaic Idealize.ShloMosaic.TcCoe Cert.Spec
open Idealize.ShloMosaic.Pipeline (Dat Cfg Window)
open Idealize.SL.Sem

variable (m : (ℓ : Loc nD τ sig) → Buf (Elt Ideal) ℓ) (ρ : Dev nD → PrngReg)

set_option maxHeartbeats 4000000 in
/-- The run, where the seven arrays that the rows come from hold reals. -/
theorem run_values (hm : ∀ c : Dev nD, AllReal (a0 m c) ∧ AllReal (a1 m c) ∧ AllReal (a2 m c) ∧ AllReal (a3 m c) ∧ AllReal (a4 m c) ∧ AllReal (a5 m c) ∧ AllReal (a6 m c)) :
    θ_run defs (onTc (τ := τ) (main (F := Ideal))) ⟨m, fun _ => 0, ρ⟩ (fun r => ∀ c : Dev nD,
      r.2.mem ((c.tc : Thread nD τ).loc main_v44_0) = Cert.Spec.outX (a0 m c) (a1 m c) (a2 m c) (a3 m c) (a4 m c)
      ∧ r.2.mem ((c.tc : Thread nD τ).loc main_v44_1) = Cert.Spec.outM (a0 m c) (a1 m c) (a2 m c) (a3 m c) (a4 m c) (a5 m c) (a6 m c)
      ∧ r.2.mem ((c.tc : Thread nD τ).loc main_v44_2) = Cert.Spec.outL (a0 m c) (a1 m c) (a2 m c) (a3 m c) (a4 m c) (a5 m c) (a6 m c) (a7 m c) (a8 m c)
      ∧ r.2.mem ((c.tc : Thread nD τ).loc main_v44_3) = Cert.Spec.outW (a9 m c)
      ∧ r.2.mem ((c.tc : Thread nD τ).loc main_v44_4) = Cert.Spec.outW (a10 m c)
      ∧ r.2.mem ((c.tc : Thread nD τ).loc main_v44_5) = Cert.Spec.outW (a11 m c)
      ∧ r.2.mem ((c.tc : Thread nD τ).loc main_v44_6) = Cert.Spec.outW (a12 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => by
    obtain ⟨r0, r1, r2, r3, r4, r5, r6⟩ := hm c
    exact ⟨((h.1 c).1 11).trans ((final_x m c).trans (outX_eq r0 r1 r2)),
      ((h.1 c).1 12).trans ((final_p m c).trans (outM_eq r0 r1 r2 r3 r4 r5 r6)),
      ((h.1 c).1 13).trans ((final_l m c).trans (outL_eq r0 r1 r2)),
      ((h.1 c).1 14).trans (final_o m c),
      ((h.1 c).1 15).trans (final_g m c),
      ((h.1 c).1 16).trans (final_u m c),
      ((h.1 c).1 17).trans (final_d m c),
      ((h.1 c).2 main_arg0 (Pipeline.mem_restRefs_of main_arg0 (by decide) (by decide))).trans (V_main_arg0 m c),
      ((h.1 c).1 3).trans (((dats m 0 c).arrAt_in 3 rfl _).trans ((A_eq m c 3).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).1 4).trans (((dats m 0 c).arrAt_in 4 rfl _).trans ((A_eq m c 4).trans (V_main_arg5 m c))),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).1 6).trans (((dats m 0 c).arrAt_in 6 rfl _).trans ((A_eq m c 6).trans (V_main_arg8 m c))),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c)⟩) (run_main (F := Ideal) m ρ)

end Cert.KernelIdeal.Hand

end
-- ==== Proof.RefValue.lean ====
/-
  The reference's results at an index, over the extended reals.
-/
module

public import proofs.«01_k».proof.Proof.Gen.ReferenceIdeal.Read
public import proofs.«01_k».proof.Proof.Layer
public import Idealize.ShloMosaic.Lib.Pointwise

@[expose] public section

set_option maxRecDepth 16384

noncomputable section

namespace Cert.ReferenceIdeal.Hand

open Cert.ReferenceIdeal Cert.ReferenceIdeal.Read
open Idealize.ShloMosaic Idealize.ShloMosaic.TcCoe Cert.Spec

variable (x0 : FVec Ideal S4x4096x1024 .f32) (x1 : FVec Ideal S1x1024 .f32) (x2 x3 : FVec Ideal S1x1024x2816 .f32) (x4 : FVec Ideal S1x2816x1024 .f32)
  (x5 : FVec Ideal S1x1024 .f32) (x6 : FVec Ideal S1x1024x3088 .f32) (x7 : FVec Ideal S1x16x256 .f32) (x8 : FVec Ideal S1x256 .f32)

theorem norm_at (b : Fin 4) (t : Fin 4096) (k : Fin 1024) :
    val_main_v13 (F := Ideal) x0 x1 (ix3 b t k) = rms (fun k => x0 (ix3 b t k)) (fun k => x1 (ix2 0 k)) k := by
  unfold rms
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem act_at (b : Fin 4) (t : Fin 4096) (j : Fin 2816) :
    val_main_v20 (F := Ideal) x0 x1 x2 x3 (ix3 b t j)
      = act siluE (rms (fun k => x0 (ix3 b t k)) (fun k => x1 (ix2 0 k))) (fun k => x2 (ix3 0 k j)) (fun k => x3 (ix3 0 k j)) := by
  rw [← funext (norm_at x0 x1 b t)]
  unfold act siluE
  simp only [val_main_v20, val_main_v19, val_main_v18, val_main_v17, val_main_call0_v5, val_main_call0_v4, val_main_call0_v3, val_main_call0_v2, val_main_call0_v1, val_main_call0_v0, val_main_call0_cst, val_main_call0_cst_0]
  generalize val_main_v13 (F := Ideal) x0 x1 = y
  pointwise [val_main_v14, val_main_v15]

theorem res_at (b : Fin 4) (t : Fin 4096) (n : Fin 1024) :
    val_main_v24 (F := Ideal) x0 x1 x2 x3 x4 (ix3 b t n)
      = ffn siluE (fun k => x0 (ix3 b t k)) (fun k => x1 (ix2 0 k)) (fun k j => x2 (ix3 0 k j)) (fun k j => x3 (ix3 0 k j)) (fun j k => x4 (ix3 0 j k)) n := by
  unfold ffn
  rw [← funext (act_at x0 x1 x2 x3 b t)]
  unfold res
  simp only [val_main_v24, val_main_v23, val_main_v22, val_main_v21, val_main_cst_2]
  generalize val_main_v20 (F := Ideal) x0 x1 x2 x3 = y
  pointwise [val_main_v16]

theorem proj_at (b : Fin 4) (t : Fin 4096) (c : Fin 3088) :
    val_main_v41 (F := Ideal) x0 x1 x2 x3 x4 x5 x6 (ix3 b t c)
      = proj (rms (ffn siluE (fun k => x0 (ix3 b t k)) (fun k => x1 (ix2 0 k)) (fun k j => x2 (ix3 0 k j)) (fun k j => x3 (ix3 0 k j)) (fun j k => x4 (ix3 0 j k))) (fun k => x5 (ix2 0 k)))
        (fun k c => x6 (ix3 0 k c)) c := by
  rw [← funext (res_at x0 x1 x2 x3 x4 b t), ← funext (norm_at (val_main_v24 (F := Ideal) x0 x1 x2 x3 x4) x5 b t)]
  unfold proj
  rw [show val_main_v13 (F := Ideal) (val_main_v24 (F := Ideal) x0 x1 x2 x3 x4) x5 = val_main_v38 (F := Ideal) x0 x1 x2 x3 x4 x5 from rfl]
  simp only [val_main_v41]
  generalize val_main_v38 (F := Ideal) x0 x1 x2 x3 x4 x5 = y
  pointwise [val_main_v40]

theorem logit_at (b : Fin 4) (t : Fin 4096) (l : Fin 256) :
    val_main_v128 (F := Ideal) x0 x1 x2 x3 x4 x5 x6 x7 x8 (ix3 b t l)
      = logit (fun c => val_main_v41 (F := Ideal) x0 x1 x2 x3 x4 x5 x6 (ix3 b t c)) (fun k l => x7 (ix3 0 k l)) (fun l => x8 (ix2 0 l)) l := by
  unfold logit
  simp only [val_main_v128, val_main_v124, val_main_v50]
  generalize val_main_v41 (F := Ideal) x0 x1 x2 x3 x4 x5 x6 = y
  pointwise [val_main_v123, val_main_v127, val_main_v126, val_main_v125]

theorem decay_at (b : Fin 4) (t : Fin 4096) (l : Fin 256) :
    val_main_v131 (F := Ideal) x0 x1 x2 x3 x4 x5 x6 x7 x8 (ix3 b t l)
      = decayE (val_main_v128 (F := Ideal) x0 x1 x2 x3 x4 x5 x6 x7 x8 (ix3 b t l)) := by
  unfold decayE
  simp only [val_main_v131, val_main_v130, val_main_v129, val_main_call1_v1, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_call0_cst, val_main_call1_v0, val_main_cst_14]
  generalize val_main_v128 (F := Ideal) x0 x1 x2 x3 x4 x5 x6 x7 x8 = y
  pointwise []
  rw [if_neg (fun h => h rfl)]
  rfl

theorem toReal_at (n : ℕ) (h : n < 4096) : FloatOps.sitofp (F := Ideal) FTy.f32 (BitVec.ofNat 32 n) = (((n : ℕ) : ℝ) : EReal) := by
  show (((BitVec.ofNat 32 n).toInt : ℝ) : EReal) = _
  have e : (BitVec.ofNat 32 n).toNat = n := by
    rw [BitVec.toNat_ofNat]
    exact Nat.mod_eq_of_lt (by omega)
  rw [BitVec.toInt_eq_toNat_of_lt (by omega), e]
  norm_cast

theorem angle_at (t : Fin 4096) (a : Fin 32) : val_main_v65 (F := Ideal) (ix2 t a) = angle t a := by
  unfold angle
  rw [← toReal_at _ t.isLt, ← toReal_at a.val (by omega)]
  pointwise [val_main_v65, val_main_v64, val_main_v63, val_main_v62, val_main_v61, val_main_v60, val_main_v59, val_main_v58, val_main_v57, val_main_v56, val_main_v55, val_main_v54, val_main_v53, val_main_v39, val_main_cst_6, val_main_cst_7, val_main_cst_8]

theorem rq_at (b : Fin 4) (t : Fin 4096) (c : Fin 256) :
    val_main_v133 (F := Ideal) x0 x1 x2 x3 x4 x5 x6 (ix3 b t c)
      = (if h : c.val % 64 < 32 then
          val_main_v41 (F := Ideal) x0 x1 x2 x3 x4 x5 x6 (ix3 b t ⟨c.val, by omega⟩) * Ideal.cos (val_main_v65 (F := Ideal) (ix2 t ⟨c.val % 32, by omega⟩))
            - val_main_v41 (F := Ideal) x0 x1 x2 x3 x4 x5 x6 (ix3 b t ⟨c.val + 32, by omega⟩) * Ideal.sin (val_main_v65 (F := Ideal) (ix2 t ⟨c.val % 32, by omega⟩))
        else val_main_v41 (F := Ideal) x0 x1 x2 x3 x4 x5 x6 (ix3 b t ⟨c.val - 32, by omega⟩) * Ideal.sin (val_main_v65 (F := Ideal) (ix2 t ⟨c.val % 32, by omega⟩))
          + val_main_v41 (F := Ideal) x0 x1 x2 x3 x4 x5 x6 (ix3 b t ⟨c.val, by omega⟩) * Ideal.cos (val_main_v65 (F := Ideal) (ix2 t ⟨c.val % 32, by omega⟩))) := by
  simp only [val_main_v133, val_main_v132, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v52, val_main_v51, val_main_v42]
  generalize val_main_v41 (F := Ideal) x0 x1 x2 x3 x4 x5 x6 = y
  generalize val_main_v65 (F := Ideal) = a
  pointwise []
  by_cases h : c.val % 64 < 32
  · simp only [dif_pos h]
    refine congrArg₂ (· - ·) (congrArg₂ (· * ·) (congrArg (fun i => y (ix3 b t i)) (Fin.ext ?_)) (congrArg (fun i => Ideal.cos (a (ix2 t i))) (Fin.ext ?_))) (congrArg₂ (· * ·) (congrArg (fun i => y (ix3 b t i)) (Fin.ext ?_)) (congrArg (fun i => Ideal.sin (a (ix2 t i))) (Fin.ext ?_)))
    all_goals (dsimp only <;> omega)
  · simp only [dif_neg h]
    refine congrArg₂ (· + ·) (congrArg₂ (· * ·) (congrArg (fun i => y (ix3 b t i)) (Fin.ext ?_)) (congrArg (fun i => Ideal.sin (a (ix2 t i))) (Fin.ext ?_))) (congrArg₂ (· * ·) (congrArg (fun i => y (ix3 b t i)) (Fin.ext ?_)) (congrArg (fun i => Ideal.cos (a (ix2 t i))) (Fin.ext ?_)))
    all_goals (dsimp only <;> omega)

theorem angle_k : val_main_v99 (F := Ideal) = val_main_v65 (F := Ideal) := rfl

theorem rk_at (b : Fin 4) (t : Fin 4096) (c : Fin 256) :
    val_main_v135 (F := Ideal) x0 x1 x2 x3 x4 x5 x6 (ix3 b t c)
      = (if h : c.val % 64 < 32 then
          val_main_v41 (F := Ideal) x0 x1 x2 x3 x4 x5 x6 (ix3 b t ⟨256 + c.val, by omega⟩) * Ideal.cos (val_main_v65 (F := Ideal) (ix2 t ⟨c.val % 32, by omega⟩))
            - val_main_v41 (F := Ideal) x0 x1 x2 x3 x4 x5 x6 (ix3 b t ⟨256 + c.val + 32, by omega⟩) * Ideal.sin (val_main_v65 (F := Ideal) (ix2 t ⟨c.val % 32, by omega⟩))
        else val_main_v41 (F := Ideal) x0 x1 x2 x3 x4 x5 x6 (ix3 b t ⟨256 + c.val - 32, by omega⟩) * Ideal.sin (val_main_v65 (F := Ideal) (ix2 t ⟨c.val % 32, by omega⟩))
          + val_main_v41 (F := Ideal) x0 x1 x2 x3 x4 x5 x6 (ix3 b t ⟨256 + c.val, by omega⟩) * Ideal.cos (val_main_v65 (F := Ideal) (ix2 t ⟨c.val % 32, by omega⟩))) * eighth := by
  simp only [val_main_v135, val_main_v134, val_main_v120, val_main_v119, val_main_cst_12, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v86, val_main_v85, val_main_v43, angle_k]
  generalize val_main_v41 (F := Ideal) x0 x1 x2 x3 x4 x5 x6 = y
  generalize val_main_v65 (F := Ideal) = a
  pointwise []
  by_cases h : c.val % 64 < 32
  · simp only [dif_pos h]
    refine congrArg (· * eighth) ?_
    refine congrArg₂ (· - ·) (congrArg₂ (· * ·) (congrArg (fun i => y (ix3 b t i)) (Fin.ext ?_)) (congrArg (fun i => Ideal.cos (a (ix2 t i))) (Fin.ext ?_))) (congrArg₂ (· * ·) (congrArg (fun i => y (ix3 b t i)) (Fin.ext ?_)) (congrArg (fun i => Ideal.sin (a (ix2 t i))) (Fin.ext ?_)))
    all_goals (dsimp only <;> omega)
  · simp only [dif_neg h]
    refine congrArg (· * eighth) ?_
    refine congrArg₂ (· + ·) (congrArg₂ (· * ·) (congrArg (fun i => y (ix3 b t i)) (Fin.ext ?_)) (congrArg (fun i => Ideal.sin (a (ix2 t i))) (Fin.ext ?_))) (congrArg₂ (· * ·) (congrArg (fun i => y (ix3 b t i)) (Fin.ext ?_)) (congrArg (fun i => Ideal.cos (a (ix2 t i))) (Fin.ext ?_)))
    all_goals (dsimp only <;> omega)

theorem rv_at (b : Fin 4) (t : Fin 4096) (c : Fin 512) :
    val_main_v44 (F := Ideal) x0 x1 x2 x3 x4 x5 x6 (ix3 b t c) = val_main_v41 (F := Ideal) x0 x1 x2 x3 x4 x5 x6 (ix3 b t ⟨512 + c.val, by omega⟩) := by
  simp only [val_main_v44]
  generalize val_main_v41 (F := Ideal) x0 x1 x2 x3 x4 x5 x6 = y
  pointwise []

theorem rg_at (b : Fin 4) (t : Fin 4096) (c : Fin 512) :
    val_main_v136 (F := Ideal) x0 x1 x2 x3 x4 x5 x6 (ix3 b t c) = siluE (val_main_v41 (F := Ideal) x0 x1 x2 x3 x4 x5 x6 (ix3 b t ⟨1024 + c.val, by omega⟩)) := by
  unfold siluE
  simp only [val_main_v136, val_main_call2_v5, val_main_call2_v4, val_main_call2_v3, val_main_call2_v2, val_main_call2_v1, val_main_call2_v0, val_main_call2_cst, val_main_call2_cst_0, val_main_v45]
  generalize val_main_v41 (F := Ideal) x0 x1 x2 x3 x4 x5 x6 = y
  pointwise []

theorem gq_at (b : Fin 4) (t : Fin 4096) (c : Fin 256) :
    val_main_v122 (F := Ideal) x0 x1 x2 x3 x4 x5 x6 (ix3 b t c) = val_main_v41 (F := Ideal) x0 x1 x2 x3 x4 x5 x6 (ix3 b t ⟨1536 + c.val, by omega⟩) * eighth := by
  simp only [val_main_v122, val_main_v121, val_main_cst_13, val_main_v46]
  generalize val_main_v41 (F := Ideal) x0 x1 x2 x3 x4 x5 x6 = y
  pointwise []

theorem gk_at (b : Fin 4) (t : Fin 4096) (c : Fin 256) :
    val_main_v47 (F := Ideal) x0 x1 x2 x3 x4 x5 x6 (ix3 b t c) = val_main_v41 (F := Ideal) x0 x1 x2 x3 x4 x5 x6 (ix3 b t ⟨1792 + c.val, by omega⟩) := by
  simp only [val_main_v47]
  generalize val_main_v41 (F := Ideal) x0 x1 x2 x3 x4 x5 x6 = y
  pointwise []

theorem gv_at (b : Fin 4) (t : Fin 4096) (c : Fin 512) :
    val_main_v48 (F := Ideal) x0 x1 x2 x3 x4 x5 x6 (ix3 b t c) = val_main_v41 (F := Ideal) x0 x1 x2 x3 x4 x5 x6 (ix3 b t ⟨2048 + c.val, by omega⟩) := by
  simp only [val_main_v48]
  generalize val_main_v41 (F := Ideal) x0 x1 x2 x3 x4 x5 x6 = y
  pointwise []

theorem gg_at (b : Fin 4) (t : Fin 4096) (c : Fin 512) :
    val_main_v137 (F := Ideal) x0 x1 x2 x3 x4 x5 x6 (ix3 b t c) = siluE (val_main_v41 (F := Ideal) x0 x1 x2 x3 x4 x5 x6 (ix3 b t ⟨2560 + c.val, by omega⟩)) := by
  unfold siluE
  simp only [val_main_v137, val_main_call3_v5, val_main_call3_v4, val_main_call3_v3, val_main_call3_v2, val_main_call3_v1, val_main_call3_v0, val_main_call3_cst, val_main_call3_cst_0, val_main_v49]
  generalize val_main_v41 (F := Ideal) x0 x1 x2 x3 x4 x5 x6 = y
  pointwise []

theorem mixed_at (b : Fin 4) (t : Fin 4096) (c : Fin 3072) :
    val_main_v138 (F := Ideal) x0 x1 x2 x3 x4 x5 x6 (ix3 b t c)
      = mixed siluE (fun c => val_main_v41 (F := Ideal) x0 x1 x2 x3 x4 x5 x6 (ix3 b t c)) (fun a => Ideal.cos (angle t a)) (fun a => Ideal.sin (angle t a)) c := by
  have hq := rq_at x0 x1 x2 x3 x4 x5 x6 b t
  have hk := rk_at x0 x1 x2 x3 x4 x5 x6 b t
  have hv := rv_at x0 x1 x2 x3 x4 x5 x6 b t
  have hg := rg_at x0 x1 x2 x3 x4 x5 x6 b t
  have hq' := gq_at x0 x1 x2 x3 x4 x5 x6 b t
  have hk' := gk_at x0 x1 x2 x3 x4 x5 x6 b t
  have hv' := gv_at x0 x1 x2 x3 x4 x5 x6 b t
  have hg' := gg_at x0 x1 x2 x3 x4 x5 x6 b t
  simp only [angle_at] at hq hk
  simp only [val_main_v138]
  generalize val_main_v133 (F := Ideal) x0 x1 x2 x3 x4 x5 x6 = y0 at *
  generalize val_main_v135 (F := Ideal) x0 x1 x2 x3 x4 x5 x6 = y1 at *
  generalize val_main_v44 (F := Ideal) x0 x1 x2 x3 x4 x5 x6 = y2 at *
  generalize val_main_v136 (F := Ideal) x0 x1 x2 x3 x4 x5 x6 = y3 at *
  generalize val_main_v122 (F := Ideal) x0 x1 x2 x3 x4 x5 x6 = y4 at *
  generalize val_main_v47 (F := Ideal) x0 x1 x2 x3 x4 x5 x6 = y5 at *
  generalize val_main_v48 (F := Ideal) x0 x1 x2 x3 x4 x5 x6 = y6 at *
  generalize val_main_v137 (F := Ideal) x0 x1 x2 x3 x4 x5 x6 = y7 at *
  generalize val_main_v41 (F := Ideal) x0 x1 x2 x3 x4 x5 x6 = y at *
  pointwise []
  have hc := c.isLt
  unfold mixed
  by_cases h0 : c.val < 256
  · rw [dif_pos h0, dif_pos (by omega)]
    dsimp only
    rw [if_pos h0, hq]
  rw [dif_neg h0]
  by_cases h1 : c.val < 512
  · rw [dif_pos (by omega), dif_pos h1]
    dsimp only
    rw [if_neg h0, hk]
    dsimp only
    have e1 : 256 + (c.val - 256) = c.val := by omega
    have e2 : (c.val - 256) % 64 = c.val % 64 := by omega
    have e3 : (c.val - 256) % 32 = c.val % 32 := by omega
    simp only [e1, e2, e3]
  rw [dif_neg (by omega), dif_neg h1]
  by_cases h2 : c.val < 1024
  · rw [dif_pos (by omega), if_pos h2, hv]
    refine congrArg (fun i => y (ix3 b t i)) (Fin.ext ?_)
    dsimp only; omega
  rw [dif_neg (by omega), if_neg h2]
  by_cases h3 : c.val < 1536
  · rw [dif_pos (by omega), if_pos h3, hg]
    refine congrArg (fun i => siluE (y (ix3 b t i))) (Fin.ext ?_)
    dsimp only; omega
  rw [dif_neg (by omega), if_neg h3]
  by_cases h4 : c.val < 1792
  · rw [dif_pos (by omega), if_pos h4, hq']
    refine congrArg (fun i => y (ix3 b t i) * eighth) (Fin.ext ?_)
    dsimp only; omega
  rw [dif_neg (by omega), if_neg h4]
  by_cases h5 : c.val < 2560
  · rw [if_pos h5]
    by_cases h6 : c.val < 2048
    · rw [dif_pos (by omega), hk']
      refine congrArg (fun i => y (ix3 b t i)) (Fin.ext ?_)
      dsimp only; omega
    · rw [dif_neg (by omega), dif_pos (by omega), hv']
      refine congrArg (fun i => y (ix3 b t i)) (Fin.ext ?_)
      dsimp only; omega
  · rw [dif_neg (by omega), dif_neg (by omega), if_neg h5, hg']
    refine congrArg (fun i => siluE (y (ix3 b t i))) (Fin.ext ?_)
    dsimp only; omega

/-- The first result. -/
theorem out_x (n : Fin 16384) (k : Fin 1024) : val_main_v139 (F := Ideal) x0 x1 x2 x3 x4 (ix2 n k) = rowX siluE x0 x1 x2 x3 x4 n k := by
  refine Eq.trans ?_ (res_at x0 x1 x2 x3 x4 ⟨n.val / 4096, by omega⟩ ⟨n.val % 4096, by omega⟩ k)
  simp only [val_main_v139]
  generalize val_main_v24 (F := Ideal) x0 x1 x2 x3 x4 = y
  pointwise []

theorem rowP_at (n : Fin 16384) (c : Fin 3088) :
    val_main_v41 (F := Ideal) x0 x1 x2 x3 x4 x5 x6 (ix3 ⟨n.val / 4096, by omega⟩ ⟨n.val % 4096, by omega⟩ c) = rowP siluE x0 x1 x2 x3 x4 x5 x6 n c :=
  proj_at x0 x1 x2 x3 x4 x5 x6 _ _ c

/-- The second result. -/
theorem out_p (n : Fin 16384) (c : Fin 3072) : val_main_v141 (F := Ideal) x0 x1 x2 x3 x4 x5 x6 (ix2 n c) = rowM siluE x0 x1 x2 x3 x4 x5 x6 n c := by
  unfold rowM
  rw [← funext (rowP_at x0 x1 x2 x3 x4 x5 x6 n), ← mixed_at]
  simp only [val_main_v141, val_main_v140]
  generalize val_main_v138 (F := Ideal) x0 x1 x2 x3 x4 x5 x6 = y
  pointwise []

/-- The third result. -/
theorem out_l (n : Fin 16384) (l : Fin 256) : val_main_v142 (F := Ideal) x0 x1 x2 x3 x4 x5 x6 x7 x8 (ix2 n l) = decayE (rowL siluE x0 x1 x2 x3 x4 x5 x6 x7 x8 n l) := by
  unfold rowL
  rw [← funext (rowP_at x0 x1 x2 x3 x4 x5 x6 n), ← logit_at, ← decay_at]
  simp only [val_main_v142]
  generalize val_main_v131 (F := Ideal) x0 x1 x2 x3 x4 x5 x6 x7 x8 = y
  pointwise []

theorem out_144 (x : FVec Ideal S1x1024x1024 .f32) (k : Fin 1024) (j : Fin 1024) : val_main_v144 (F := Ideal) x (ix2 k j) = x (ix3 0 k j) := by
  pointwise [val_main_v144, val_main_v143]

theorem out_146 (x : FVec Ideal S1x1024x2816 .f32) (k : Fin 1024) (j : Fin 2816) : val_main_v146 (F := Ideal) x (ix2 k j) = x (ix3 0 k j) := by
  pointwise [val_main_v146, val_main_v145]

theorem out_148 (x : FVec Ideal S1x1024x2816 .f32) (k : Fin 1024) (j : Fin 2816) : val_main_v148 (F := Ideal) x (ix2 k j) = x (ix3 0 k j) := by
  pointwise [val_main_v148, val_main_v147]

theorem out_150 (x : FVec Ideal S1x2816x1024 .f32) (k : Fin 2816) (j : Fin 1024) : val_main_v150 (F := Ideal) x (ix2 k j) = x (ix3 0 k j) := by
  pointwise [val_main_v150, val_main_v149]

end Cert.ReferenceIdeal.Hand
-- ==== Proof.RefRun.lean ====
/-
  The reference's run, its results named.
-/
module

public import proofs.«01_k».proof.Proof.Gen.ReferenceIdeal.Run
public import proofs.«01_k».proof.Proof.Gen.ReferenceIdeal.Read
public import proofs.«01_k».proof.Proof.RefValue
public import proofs.«01_k».proof.Proof.Agree
public import Idealize.ShloMosaic.Lib.Quiescent

@[expose] public section

noncomputable section

namespace Cert.ReferenceIdeal.Hand

open Idealize.ShloMosaic Idealize.ShloMosaic.TcCoe Idealize.ShloMosaic.StableHlo Idealize.SL.Sem Cert.ReferenceIdeal Cert.ReferenceIdeal.Gen Cert.ReferenceIdeal.Value Cert.ReferenceIdeal.Read Cert.Spec

section

variable (x0 : FVec Ideal S4x4096x1024 .f32) (x1 : FVec Ideal S1x1024 .f32) (x2 x3 : FVec Ideal S1x1024x2816 .f32) (x4 : FVec Ideal S1x2816x1024 .f32)
  (x5 : FVec Ideal S1x1024 .f32) (x6 : FVec Ideal S1x1024x3088 .f32) (x7 : FVec Ideal S1x16x256 .f32) (x8 : FVec Ideal S1x256 .f32)

theorem ref_x : val_main_v139 (F := Ideal) x0 x1 x2 x3 x4 = outX x0 x1 x2 x3 x4 := funext fun i => by
  obtain ⟨n, k, rfl⟩ : ∃ (n : Fin 16384) (k : Fin 1024), i = ix2 n k := ⟨i 0, i 1, eq_ix2 i⟩
  exact out_x x0 x1 x2 x3 x4 n k
theorem ref_m : val_main_v141 (F := Ideal) x0 x1 x2 x3 x4 x5 x6 = outM x0 x1 x2 x3 x4 x5 x6 := funext fun i => by
  obtain ⟨n, k, rfl⟩ : ∃ (n : Fin 16384) (k : Fin 3072), i = ix2 n k := ⟨i 0, i 1, eq_ix2 i⟩
  exact out_p x0 x1 x2 x3 x4 x5 x6 n k
theorem ref_l : val_main_v142 (F := Ideal) x0 x1 x2 x3 x4 x5 x6 x7 x8 = outL x0 x1 x2 x3 x4 x5 x6 x7 x8 := funext fun i => by
  obtain ⟨n, k, rfl⟩ : ∃ (n : Fin 16384) (k : Fin 256), i = ix2 n k := ⟨i 0, i 1, eq_ix2 i⟩
  exact out_l x0 x1 x2 x3 x4 x5 x6 x7 x8 n k
theorem ref_o (x : FVec Ideal S1x1024x1024 .f32) : val_main_v144 (F := Ideal) x = outW x := funext fun i => by
  obtain ⟨n, k, rfl⟩ : ∃ (n : Fin 1024) (k : Fin 1024), i = ix2 n k := ⟨i 0, i 1, eq_ix2 i⟩
  exact out_144 x n k
theorem ref_g (x : FVec Ideal S1x1024x2816 .f32) : val_main_v146 (F := Ideal) x = outW x := funext fun i => by
  obtain ⟨n, k, rfl⟩ : ∃ (n : Fin 1024) (k : Fin 2816), i = ix2 n k := ⟨i 0, i 1, eq_ix2 i⟩
  exact out_146 x n k
theorem ref_u (x : FVec Ideal S1x1024x2816 .f32) : val_main_v148 (F := Ideal) x = outW x := funext fun i => by
  obtain ⟨n, k, rfl⟩ : ∃ (n : Fin 1024) (k : Fin 2816), i = ix2 n k := ⟨i 0, i 1, eq_ix2 i⟩
  exact out_148 x n k
theorem ref_d (x : FVec Ideal S1x2816x1024 .f32) : val_main_v150 (F := Ideal) x = outW x := funext fun i => by
  obtain ⟨n, k, rfl⟩ : ∃ (n : Fin 2816) (k : Fin 1024), i = ix2 n k := ⟨i 0, i 1, eq_ix2 i⟩
  exact out_150 x n k

end

variable (m : (ℓ : Loc nD τ sig) → Buf (Elt Ideal) ℓ) (ρ : Dev nD → PrngReg)

abbrev b0 (c : Dev nD) : FVec Ideal S4x4096x1024 .f32 := m ((c.tc : Thread nD τ).loc main_arg0)
abbrev b1 (c : Dev nD) : FVec Ideal S1x1024 .f32 := m ((c.tc : Thread nD τ).loc main_arg1)
abbrev b2 (c : Dev nD) : FVec Ideal S1x1024x2816 .f32 := m ((c.tc : Thread nD τ).loc main_arg2)
abbrev b3 (c : Dev nD) : FVec Ideal S1x1024x2816 .f32 := m ((c.tc : Thread nD τ).loc main_arg3)
abbrev b4 (c : Dev nD) : FVec Ideal S1x2816x1024 .f32 := m ((c.tc : Thread nD τ).loc main_arg4)
abbrev b5 (c : Dev nD) : FVec Ideal S1x1024 .f32 := m ((c.tc : Thread nD τ).loc main_arg5)
abbrev b6 (c : Dev nD) : FVec Ideal S1x1024x3088 .f32 := m ((c.tc : Thread nD τ).loc main_arg6)
abbrev b7 (c : Dev nD) : FVec Ideal S1x16x256 .f32 := m ((c.tc : Thread nD τ).loc main_arg7)
abbrev b8 (c : Dev nD) : FVec Ideal S1x256 .f32 := m ((c.tc : Thread nD τ).loc main_arg8)
abbrev b9 (c : Dev nD) : FVec Ideal S1x1024x1024 .f32 := m ((c.tc : Thread nD τ).loc main_arg9)
abbrev b10 (c : Dev nD) : FVec Ideal S1x1024x2816 .f32 := m ((c.tc : Thread nD τ).loc main_arg10)
abbrev b11 (c : Dev nD) : FVec Ideal S1x1024x2816 .f32 := m ((c.tc : Thread nD τ).loc main_arg11)
abbrev b12 (c : Dev nD) : FVec Ideal S1x2816x1024 .f32 := m ((c.tc : Thread nD τ).loc main_arg12)

theorem run_values : θ_run defs (onTc (τ := τ) (main (F := Ideal))) ⟨m, fun _ => 0, ρ⟩ (fun r => (∀ c : Dev nD,
      r.2.mem ((c.tc : Thread nD τ).loc main_v139) = outX (b0 m c) (b1 m c) (b2 m c) (b3 m c) (b4 m c)
      ∧ r.2.mem ((c.tc : Thread nD τ).loc main_v141) = outM (b0 m c) (b1 m c) (b2 m c) (b3 m c) (b4 m c) (b5 m c) (b6 m c)
      ∧ r.2.mem ((c.tc : Thread nD τ).loc main_v142) = outL (b0 m c) (b1 m c) (b2 m c) (b3 m c) (b4 m c) (b5 m c) (b6 m c) (b7 m c) (b8 m c)
      ∧ r.2.mem ((c.tc : Thread nD τ).loc main_v144) = outW (b9 m c)
      ∧ r.2.mem ((c.tc : Thread nD τ).loc main_v146) = outW (b10 m c)
      ∧ r.2.mem ((c.tc : Thread nD τ).loc main_v148) = outW (b11 m c)
      ∧ r.2.mem ((c.tc : Thread nD τ).loc main_v150) = outW (b12 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => by
    obtain ⟨h0, h1, h2, h3, h4, h5, h6, h7⟩ := h c
    exact ⟨h0.trans ((val_main_v139_eq (launchContents m c)).trans (ref_x _ _ _ _ _)),
      h1.trans ((val_main_v141_eq (launchContents m c)).trans (ref_m _ _ _ _ _ _ _)),
      h2.trans ((val_main_v142_eq (launchContents m c)).trans (ref_l _ _ _ _ _ _ _ _ _)),
      h3.trans ((val_main_v144_eq (launchContents m c)).trans (ref_o _)),
      h4.trans ((val_main_v146_eq (launchContents m c)).trans (ref_g _)),
      h5.trans ((val_main_v148_eq (launchContents m c)).trans (ref_u _)),
      h6.trans ((val_main_v150_eq (launchContents m c)).trans (ref_d _)), h7⟩,
    sem_eq_zero_of_no_sems (by decide) _⟩) (Cert.ReferenceIdeal.Value.run (F := Ideal) m ρ)

end Cert.ReferenceIdeal.Hand

end
-- ==== Proof.PreFinite.lean ====
/-
  The precondition read: where it holds, the seven arrays it speaks of hold reals.
-/
module

public import proofs.«01_k».proof.Pre_finite
public import proofs.«01_k».proof.Proof.Agree
public import Idealize.ShloMosaic.Lib.ReduceAll
public import Idealize.ShloMosaic.PureOps.Ideal

@[expose] public section

noncomputable section

namespace Cert.Pre_finite.Hand

open Idealize.ShloMosaic Cert.Spec Cert.Pre_finite

theorem facts : Facts where
  bcast_S_S4x4096x1024 := by decide
  reducesTo_S4x4096x1024_S_d0_1_2 := by decide
  h_S_ := by decide
  bcast_S_S1x1024 := by decide
  reducesTo_S1x1024_S_d0_1 := by decide
  bcast_S_S1x1024x2816 := by decide
  reducesTo_S1x1024x2816_S_d0_1_2 := by decide
  bcast_S_S1x2816x1024 := by decide
  reducesTo_S1x2816x1024_S_d0_1_2 := by decide
  bcast_S_S1x1024x3088 := by decide
  reducesTo_S1x1024x3088_S_d0_1_2 := by decide

instance : Subsingleton S_.Idx := ⟨fun _ _ => funext fun a => a.elim0⟩

theorem inf_eq : Ideal.ofBits .f32 0x7F800000#32 = ⊤ := by
  simp [Ideal.ofBits, Ideal.ieee]

theorem real_of_lt (x : EReal) (h : BitVec.ofBool (decide (max x (-x) < (⊤ : EReal))) = 1#1) : IsReal x := by
  have h' : max x (-x) < ⊤ := by
    by_contra hn
    rw [decide_eq_false hn] at h
    exact absurd h (by decide)
  induction x using EReal.rec with
  | bot => simp at h'
  | top => simp at h'
  | coe r => exact ⟨r, rfl⟩

theorem allReal_of {S : Shape} {axes : List (Fin S.rank)} (x : FVec Ideal S .f32) (b : S_.BroadcastsInDim S (![] : Fin 0 → Fin S.rank))
    (hr : S.ReducesTo axes S_) (hu : 0 < S_.numel) (j : S_.Idx)
    (h : Host.reduce IntOp.andi (cmpf .olt (Host.absf x) (broadcastInDim S ![] b (constant (F := Ideal) S_ .f32 0x7F800000#32))) (constantI S_ 1 1#1) hr hu j = 1#1) :
    AllReal x := by
  intro i
  have e := Host.reduce_andi_all _ _ hr hu j h i
  refine real_of_lt (x i) ?_
  rw [← inf_eq]
  exact e

theorem split {a b : IVec S_ 1} {j : S_.Idx} (h : andi a b j = 1#1) : a j = 1#1 ∧ b j = 1#1 := by
  have key : ∀ u v : BitVec 1, IntOp.andi u v = 1#1 → u = 1#1 ∧ v = 1#1 := by decide
  exact key _ _ h

theorem allReal (x0 : FVec Ideal S4x4096x1024 .f32) (x1 : FVec Ideal S1x1024 .f32) (x2 x3 : FVec Ideal S1x1024x2816 .f32)
    (x4 : FVec Ideal S1x2816x1024 .f32) (x5 : FVec Ideal S1x1024 .f32) (x6 : FVec Ideal S1x1024x3088 .f32) (x7 : FVec Ideal S1x16x256 .f32)
    (x8 : FVec Ideal S1x256 .f32) (x9 : FVec Ideal S1x1024x1024 .f32) (x10 x11 : FVec Ideal S1x1024x2816 .f32) (x12 : FVec Ideal S1x2816x1024 .f32)
    (h : @fn facts Ideal _ x0 x1 x2 x3 x4 x5 x6 x7 x8 x9 x10 x11 x12 = fun _ => 1#1) :
    AllReal x0 ∧ AllReal x1 ∧ AllReal x2 ∧ AllReal x3 ∧ AllReal x4 ∧ AllReal x5 ∧ AllReal x6 := by
  have j : S_.Idx := fun a => a.elim0
  have h := congrFun h j
  unfold fn fn_part1 at h
  dsimp only at h
  obtain ⟨h, h6⟩ := split h
  obtain ⟨h, h5⟩ := split h
  obtain ⟨h, h4⟩ := split h
  obtain ⟨h, h3⟩ := split h
  obtain ⟨h, h2⟩ := split h
  obtain ⟨h0, h1⟩ := split h
  exact ⟨allReal_of _ _ _ _ _ h0, allReal_of _ _ _ _ _ h1, allReal_of _ _ _ _ _ h2, allReal_of _ _ _ _ _ h3, allReal_of _ _ _ _ _ h4, allReal_of _ _ _ _ _ h5, allReal_of _ _ _ _ _ h6⟩

end Cert.Pre_finite.Hand

end
-- ==== Proof.lean ====
/-
  The proof of the certificate of the call that runs the first feed-forward layer and the mixer's input projection.

    quiescent_Kernel, quiescent_KernelIdeal — every weakly fair execution of @main terminates, nothing faults, the
      arguments end as they were and every semaphore counter ends at zero. One run, `Cert.KernelIdeal.Hand.run_main`
      (Proof/Run.lean), stated over any float instance, serves both programs: they are the same text.
    quiescent_ReferenceIdeal — the same of the reference, which has no call.
    preserves_Kernel_KernelIdeal — no operation was rewritten.
    algebraic_KernelIdeal_ReferenceIdeal_pre_finite — the seven results of the call are the reference's, over the
      extended reals, where x and the weights the rows come from hold reals.

  The run.
  Proof/Ring.lean and Proof/Bring.lean: the ring of slots a weight comes through, one trip and the whole loop.
  Proof/Load.lean and Proof/Weights.lean: the four weights' loops and the last block's copy.
  Proof/Rest.lean and Proof/Step.lean: the body past them, and its results as functions of the blocks read.
  Proof/Body.lean and Proof/Run.lean: the body at a point, and the run; Proof/Setup.lean: the launch around it.

  The values.
  Proof/Spec.lean and Proof/Layer.lean: the mathematics, of one row and of the call's arguments.
  Proof/Finite.lean and Proof/Agree.lean: the gate's two spellings agree at the reals; the decay's agree everywhere.
  Proof/Pay.lean, Proof/Blocks.lean, Proof/Blocks2.lean: the body's results at an index.
  Proof/Host.lean and Proof/HostAt.lean: the arrays the host hands the call, at an index.
  Proof/Arrays.lean and Proof/KerRun.lean: the arrays the call leaves, and the run that leaves them.
  Proof/RefValue.lean and Proof/RefRun.lean: the same of the reference.
  Proof/PreFinite.lean: the precondition read.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.FrameKernel
public import proofs.«01_k».proof.Proof.KerRun
public import proofs.«01_k».proof.Proof.RefRun
public import proofs.«01_k».proof.Proof.PreFinite
public import Idealize.ShloMosaic.Adequacy
public import Idealize.ShloMosaic.Init

@[expose] public section

noncomputable section

namespace Cert.Proof

open Idealize.ShloMosaic Idealize.SL.Sem Cert.KernelIdeal Cert.KernelIdeal.Hand

/-- The idealized program's frame. -/
theorem frame_ideal : Cert.quiescent_KernelIdeal := fun m ρ _ =>
  frame_of m ρ (dats m) (A_eq m) (run_main (F := Ideal) m ρ)

theorem frame_ideal_finite : Cert.quiescent_KernelIdeal_pre_finite (hPre_finite := Cert.Pre_finite.Hand.facts) := fun m ρ _ =>
  frame_ideal m ρ trivial

/-- The reference's frame. -/
theorem frame_reference : Cert.quiescent_ReferenceIdeal := fun m ρ _ =>
  (θ_run Cert.ReferenceIdeal.defs _ _).mono (fun _ h => ⟨fun c => (h.1 c).2.2.2.2.2.2.2, h.2⟩)
    (Cert.ReferenceIdeal.Hand.run_values m ρ)

theorem frame_reference_finite : Cert.quiescent_ReferenceIdeal_pre_finite (hPre_finite := Cert.Pre_finite.Hand.facts) := fun m ρ _ =>
  frame_reference m ρ trivial

/-- The seven results are the reference's. -/
theorem values : Cert.algebraic_KernelIdeal_ReferenceIdeal_pre_finite (hPre_finite := Cert.Pre_finite.Hand.facts) := fun m ρ m' ρ' hpre hargs =>
  ⟨fun c => Cert.Spec.outX (a0 m c) (a1 m c) (a2 m c) (a3 m c) (a4 m c), fun c => Cert.Spec.outM (a0 m c) (a1 m c) (a2 m c) (a3 m c) (a4 m c) (a5 m c) (a6 m c), fun c => Cert.Spec.outL (a0 m c) (a1 m c) (a2 m c) (a3 m c) (a4 m c) (a5 m c) (a6 m c) (a7 m c) (a8 m c), fun c => Cert.Spec.outW (a9 m c), fun c => Cert.Spec.outW (a10 m c), fun c => Cert.Spec.outW (a11 m c), fun c => Cert.Spec.outW (a12 m c),
    Cert.KernelIdeal.Hand.run_values m ρ fun c => Cert.Pre_finite.Hand.allReal _ _ _ _ _ _ _ _ _ _ _ _ _ (hpre c),
    (θ_run Cert.ReferenceIdeal.defs _ _).mono (fun r h c => by
      obtain ⟨e0, e1, e2, e3, e4, e5, e6, e7, e8, e9, e10, e11, e12⟩ := hargs c
      obtain ⟨h0, h1, h2, h3, h4, h5, h6, h7⟩ := h.1 c
      exact ⟨h0.trans (Cert.Spec.outX_congr e0 e1 e2 e3 e4),
        h1.trans (Cert.Spec.outM_congr e0 e1 e2 e3 e4 e5 e6),
        h2.trans (Cert.Spec.outL_congr e0 e1 e2 e3 e4 e5 e6 e7 e8),
        h3.trans (Cert.Spec.outW_congr e9), h4.trans (Cert.Spec.outW_congr e10), h5.trans (Cert.Spec.outW_congr e11),
        h6.trans (Cert.Spec.outW_congr e12), h7⟩) (Cert.ReferenceIdeal.Hand.run_values m' ρ')⟩

theorem claim : Cert.Claim :=
  ⟨Cert.Kernel.Gen.facts, Cert.KernelIdeal.Gen.facts, Cert.ReferenceIdeal.Gen.facts, Cert.Pre_finite.Hand.facts,
    frame_kernel, frame_ideal, frame_ideal_finite, frame_reference, frame_reference_finite, trivial, values⟩

end Cert.Proof

end
